-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_dest_in_bounds : Cert.Pre_dest_in_bounds.Facts] (m : (ℓ : Loc Cert.Kernel5.nD Cert.Kernel5.τ Cert.Kernel5.sig) → Buf (Elt Bits) ℓ) : Prop :=
  ∀ c : Dev Cert.Kernel5.nD,
    (Cert.Pre_dest_in_bounds.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4))) = (fun _ => 1#1)

def Pre_Kernel5Ideal [hPre_dest_in_bounds : Cert.Pre_dest_in_bounds.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_dest_in_bounds.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal [hPre_dest_in_bounds : Cert.Pre_dest_in_bounds.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_dest_in_bounds.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] [hPre_dest_in_bounds : Cert.Pre_dest_in_bounds.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] [hPre_dest_in_bounds : Cert.Pre_dest_in_bounds.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] [hPre_dest_in_bounds : Cert.Pre_dest_in_bounds.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] [hPre_dest_in_bounds : Cert.Pre_dest_in_bounds.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v28)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v28) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v38) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v37)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v37) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v44) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_dest_in_bounds : Cert.Pre_dest_in_bounds.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_dest_in_bounds := hPre_dest_in_bounds)
    ∧ quiescent_Kernel5Ideal (hKernel5Ideal := hKernel5Ideal) (hPre_dest_in_bounds := hPre_dest_in_bounds)
    ∧ quiescent_Reference5Ideal (hReference5Ideal := hReference5Ideal) (hPre_dest_in_bounds := hPre_dest_in_bounds)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_dest_in_bounds := hPre_dest_in_bounds)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_dest_in_bounds.lean ====
abbrev S16384 : Shape := ⟨1, ![16384]⟩
abbrev S17280x2048 : Shape := ⟨2, ![17280, 2048]⟩
abbrev S8192x4096 : Shape := ⟨2, ![8192, 4096]⟩
abbrev S8192x128 : Shape := ⟨2, ![8192, 128]⟩
abbrev S1x4096 : Shape := ⟨2, ![1, 4096]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : IVec S16384 32) (main_arg1 : IVec S17280x2048 32) (main_arg2 : FVec F S8192x4096 .f32) (main_arg3 : FVec F S8192x128 .f32) (main_arg4 : FVec F S1x4096 .f32) : IVec S16384 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 17280#32
  let main_v2 : IVec S16384 32 := broadcastInDim S16384 ![] bcast_S_S16384 main_c_0
  let main_v3 : IVec S16384 1 := cmpi .slt main_arg0 main_v2
  let main_v4 : IVec S16384 1 := andi main_v1 main_v3
  main_v4
-- ==== Kernel.lean ====
abbrev S8192x4096 : Shape := ⟨2, ![8192, 4096]⟩
abbrev S8192x2048 : Shape := ⟨2, ![8192, 2048]⟩
abbrev S4096x15856 : Shape := ⟨2, ![4096, 15856]⟩
abbrev S2048x4096 : Shape := ⟨2, ![2048, 4096]⟩
abbrev S15856x4096 : Shape := ⟨2, ![15856, 4096]⟩
abbrev S512x4096 : Shape := ⟨2, ![512, 4096]⟩
abbrev S512x2048 : Shape := ⟨2, ![512, 2048]⟩
abbrev S256x4096 : Shape := ⟨2, ![256, 4096]⟩
abbrev S2048x256 : Shape := ⟨2, ![2048, 256]⟩
abbrev S512x256 : Shape := ⟨2, ![512, 256]⟩

abbrev nBuf : Space → Nat
  | .hbm => 8
  | .vmem => 20
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S8192x2048, .bf16⟩
  | .hbm, ⟨3, _⟩ => ⟨S4096x15856, .f32⟩
  | .hbm, ⟨4, _⟩ => ⟨S2048x4096, .f32⟩
  | .hbm, ⟨5, _⟩ => ⟨S2048x4096, .f32⟩
  | .hbm, ⟨6, _⟩ => ⟨S15856x4096, .f32⟩
  | .hbm, ⟨7, _⟩ => ⟨S8192x4096, .bf16⟩
  | .local _ .vmem, ⟨0, _⟩ => ⟨S512x4096, .bf16⟩
  | .local _ .vmem, ⟨1, _⟩ => ⟨S512x4096, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S512x256, .bf16⟩
  | .local _ .vmem, ⟨15, _⟩ => ⟨S512x256, .bf16⟩
  | .local _ .vmem, ⟨16, _⟩ => ⟨S256x4096, .bf16⟩
  | .local _ .vmem, ⟨17, _⟩ => ⟨S256x4096, .bf16⟩
  | .local _ .vmem, ⟨18, _⟩ => ⟨S2048x256, .bf16⟩
  | .local _ .vmem, ⟨19, _⟩ => ⟨S2048x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg0 : BitVec 32 := BitVec.ofNat 32 (i 0).val
  let c256_i32 : BitVec 32 := 256#32
  let v0 : BitVec 32 := Scalar.muli arg0 c256_i32
  let c7664_i32 : BitVec 32 := 7664#32
  let v1 : BitVec 32 := Scalar.addi v0 c7664_i32
  v1
def k0_mult2 (i : grid0.Coords) : BitVec 32 :=
  let arg0 : BitVec 32 := BitVec.ofNat 32 (i 0).val
  let c256_i32 : BitVec 32 := 256#32
  let v0 : BitVec 32 := Scalar.muli arg0 c256_i32
  let c11760_i32 : BitVec 32 := 11760#32
  let v1 : BitVec 32 := Scalar.addi v0 c11760_i32
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c7664_i32 : BitVec 32 := 7664#32
  let v1 : BitVec 32 := Scalar.addi v0 c7664_i32
  let v2 : BitVec 32 := v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c11760_i32 : BitVec 32 := 11760#32
  let v1 : BitVec 32 := Scalar.addi v0 c11760_i32
  let v2 : BitVec 32 := v1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8192x4096 : Shape := ⟨2, ![8192, 4096]⟩
abbrev S8192x2048 : Shape := ⟨2, ![8192, 2048]⟩
abbrev S4096x15856 : Shape := ⟨2, ![4096, 15856]⟩
abbrev S2048x4096 : Shape := ⟨2, ![2048, 4096]⟩
abbrev S4096x8192 : Shape := ⟨2, ![4096, 8192]⟩
abbrev S8192x8192 : Shape := ⟨2, ![8192, 8192]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S8192x2048, .bf16⟩
  | .hbm, ⟨3, _⟩ => ⟨S4096x15856, .f32⟩
  | .hbm, ⟨4, _⟩ => ⟨S2048x4096, .f32⟩
  | .hbm, ⟨5, _⟩ => ⟨S2048x4096, .f32⟩
  | .hbm, ⟨6, _⟩ => ⟨S8192x4096, .f32⟩
  | .hbm, ⟨7, _⟩ => ⟨S4096x8192, .f32⟩
  | .hbm, ⟨8, _⟩ => ⟨S8192x8192, .f32⟩
  | .hbm, ⟨9, _⟩ => ⟨S8192x4096, .f32⟩
  | .hbm, ⟨10, _⟩ => ⟨S8192x4096, .f32⟩
  | .hbm, ⟨11, _⟩ => ⟨S8192x2048, .f32⟩
  | .hbm, ⟨12, _⟩ => ⟨S8192x4096, .f32⟩
  | .hbm, ⟨13, _⟩ => ⟨S8192x2048, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel2.lean ====
abbrev S8192x4096 : Shape := ⟨2, ![8192, 4096]⟩
abbrev S4x256x512 : Shape := ⟨3, ![4, 256, 512]⟩
abbrev S4096 : Shape := ⟨1, ![4096]⟩
abbrev S4096x512 : Shape := ⟨2, ![4096, 512]⟩
abbrev S512x4096 : Shape := ⟨2, ![512, 4096]⟩
abbrev S4x512x256 : Shape := ⟨3, ![4, 512, 256]⟩
abbrev S1024x512 : Shape := ⟨2, ![1024, 512]⟩
abbrev S1024x1024 : Shape := ⟨2, ![1024, 1024]⟩
abbrev S1x4096 : Shape := ⟨2, ![1, 4096]⟩
abbrev S256x4096 : Shape := ⟨2, ![256, 4096]⟩
abbrev S1x512x256 : Shape := ⟨3, ![1, 512, 256]⟩
abbrev S256x512 : Shape := ⟨2, ![256, 512]⟩
abbrev S256 : Shape := ⟨1, ![256]⟩
abbrev S256x1 : Shape := ⟨2, ![256, 1]⟩
abbrev S256x128 : Shape := ⟨2, ![256, 128]⟩
abbrev S1x128x256 : Shape := ⟨3, ![1, 128, 256]⟩
abbrev S128x256 : Shape := ⟨2, ![128, 256]⟩
abbrev S256x256 : Shape := ⟨2, ![256, 256]⟩

abbrev nBuf : Space → Nat
  | .hbm => 14
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4x256x512, .bf16⟩
  | .hbm, ⟨2, _⟩ => ⟨S4x256x512, .bf16⟩
  | .hbm, ⟨3, _⟩ => ⟨S4096, .f32⟩
  | .hbm, ⟨4, _⟩ => ⟨S4096x512, .f32⟩
  | .hbm, ⟨5, _⟩ => ⟨S512x4096, .f32⟩
  | .hbm, ⟨6, _⟩ => ⟨S4x512x256, .bf16⟩
  | .hbm, ⟨7, _⟩ => ⟨S1024x512, .bf16⟩
  | .hbm, ⟨8, _⟩ => ⟨S1024x512, .bf16⟩
  | .hbm, ⟨9, _⟩ => ⟨S1024x1024, .bf16⟩
  | .hbm, ⟨10, _⟩ => ⟨S4096x512, .bf16⟩
  | .hbm, ⟨11, _⟩ => ⟨S512x4096, .bf16⟩
  | .hbm, ⟨12, _⟩ => ⟨S1x4096, .f32⟩
  | .hbm, ⟨13, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S4096x512, .bf16⟩
  | .local _ .vmem, ⟨4, _⟩ => ⟨S1x512x256, .bf16⟩
  | .local _ .vmem, ⟨5, _⟩ => ⟨S1x512x256, .bf16⟩
  | .local _ .vmem, ⟨6, _⟩ => ⟨S256x512, .bf16⟩
  | .local _ .vmem, ⟨7, _⟩ => ⟨S256x512, .bf16⟩
  | .local _ .vmem, ⟨8, _⟩ => ⟨S512x4096, .bf16⟩
  | .local _ .vmem, ⟨9, _⟩ => ⟨S256x4096, .f32⟩
  | .local _ .vmem, ⟨10, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S8192x4096 : Shape := ⟨2, ![8192, 4096]⟩
abbrev S4x256x512 : Shape := ⟨3, ![4, 256, 512]⟩
abbrev S4096 : Shape := ⟨1, ![4096]⟩
abbrev S4096x512 : Shape := ⟨2, ![4096, 512]⟩
abbrev S512x4096 : Shape := ⟨2, ![512, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x512 : Shape := ⟨2, ![8192, 512]⟩
abbrev S4x2048x4x128 : Shape := ⟨4, ![4, 2048, 4, 128]⟩
abbrev S4x256x4x128 : Shape := ⟨4, ![4, 256, 4, 128]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4x256x512, .bf16⟩
  | .hbm, ⟨2, _⟩ => ⟨S4x256x512, .bf16⟩
  | .hbm, ⟨3, _⟩ => ⟨S4096, .f32⟩
  | .hbm, ⟨4, _⟩ => ⟨S4096x512, .f32⟩
  | .hbm, ⟨5, _⟩ => ⟨S512x4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S8192x512, .f32⟩
  | .hbm, ⟨23, _⟩ => ⟨S4x2048x4x128, .f32⟩
  | .hbm, ⟨24, _⟩ => ⟨S4x256x512, .f32⟩
  | .hbm, ⟨25, _⟩ => ⟨S4x256x4x128, .f32⟩
  | .hbm, ⟨26, _⟩ => ⟨S4x256x512, .f32⟩
  | .hbm, ⟨27, _⟩ => ⟨S4x256x4x128, .f32⟩
  | .hbm, ⟨28, _⟩ => ⟨S4x4x2048x256, .f32⟩
  | .hbm, ⟨29, _⟩ => ⟨S_, .f32⟩
  | .hbm, ⟨30, _⟩ => ⟨S4x4x2048x256, .f32⟩
  | .hbm, ⟨31, _⟩ => ⟨S4x4x2048x256, .f32⟩
  | .hbm, ⟨32, _⟩ => ⟨S_, .f32⟩
  | .hbm, ⟨33, _⟩ => ⟨S4x4x2048, .f32⟩
  | .hbm, ⟨34, _⟩ => ⟨S_, .f32⟩
  | .hbm, ⟨35, _⟩ => ⟨S4x4x2048, .f32⟩
  | .hbm, ⟨36, _⟩ => ⟨S4x4x2048, .f32⟩
  | .hbm, ⟨37, _⟩ => ⟨S4x4x2048x1, .f32⟩
  | .hbm, ⟨38, _⟩ => ⟨S4x4x2048x256, .f32⟩
  | .hbm, ⟨39, _⟩ => ⟨S4x4x2048x256, .f32⟩
  | .hbm, ⟨40, _⟩ => ⟨S4x4x2048x256, .f32⟩
  | .hbm, ⟨41, _⟩ => ⟨S_, .f32⟩
  | .hbm, ⟨42, _⟩ => ⟨S4x4x2048, .f32⟩
  | .hbm, ⟨43, _⟩ => ⟨S4x4x2048x1, .f32⟩
  | .hbm, ⟨44, _⟩ => ⟨S4x4x2048x256, .f32⟩
  | .hbm, ⟨45, _⟩ => ⟨S4x4x2048x256, .f32⟩
  | .hbm, ⟨46, _⟩ => ⟨S4x4x128x2048, .f32⟩
  | .hbm, ⟨47, _⟩ => ⟨S4x2048x4x128, .f32⟩
  | .hbm, ⟨48, _⟩ => ⟨S8192x512, .f32⟩
  | .hbm, ⟨49, _⟩ => ⟨S8192x4096, .f32⟩
  | .hbm, ⟨50, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel3.lean ====
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x4096 : Shape := ⟨2, ![8192, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S8192x4096 : Shape := ⟨2, ![8192, 4096]⟩
abbrev S4096x15856 : Shape := ⟨2, ![4096, 15856]⟩
abbrev S15856x4096 : Shape := ⟨2, ![15856, 4096]⟩
abbrev S8192x6144 : Shape := ⟨2, ![8192, 6144]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x15856, .f32⟩
  | .hbm, ⟨2, _⟩ => ⟨S15856x4096, .f32⟩
  | .hbm, ⟨3, _⟩ => ⟨S8192x6144, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x4096 : Shape := ⟨2, ![8192, 4096]⟩
abbrev S4096x15856 : Shape := ⟨2, ![4096, 15856]⟩
abbrev S4096x6144 : Shape := ⟨2, ![4096, 6144]⟩
abbrev S8192x6144 : Shape := ⟨2, ![8192, 6144]⟩
abbrev S8192x2048 : Shape := ⟨2, ![8192, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x15856, .f32⟩
  | .hbm, ⟨2, _⟩ => ⟨S8192x4096, .f32⟩
  | .hbm, ⟨3, _⟩ => ⟨S4096x6144, .f32⟩
  | .hbm, ⟨4, _⟩ => ⟨S8192x6144, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x4096, .f32⟩
  | .hbm, ⟨10, _⟩ => ⟨S8192x6144, .f32⟩
  | .hbm, ⟨11, _⟩ => ⟨S8192x6144, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S16384 : Shape := ⟨1, ![16384]⟩
abbrev S17280x2048 : Shape := ⟨2, ![17280, 2048]⟩
abbrev S8192x4096 : Shape := ⟨2, ![8192, 4096]⟩
abbrev S8192x128 : Shape := ⟨2, ![8192, 128]⟩
abbrev S1x4096 : Shape := ⟨2, ![1, 4096]⟩
abbrev S256x4096 : Shape := ⟨2, ![256, 4096]⟩
abbrev S256x128 : Shape := ⟨2, ![256, 128]⟩
abbrev S2x2x256x2048 : Shape := ⟨4, ![2, 2, 256, 2048]⟩
abbrev S2 : Shape := ⟨1, ![2]⟩
abbrev S1 : Shape := ⟨1, ![1]⟩
abbrev S_ : Shape := ⟨0, ![]⟩
abbrev S1x1x256x2048 : Shape := ⟨4, ![1, 1, 256, 2048]⟩
abbrev S256x2048 : Shape := ⟨2, ![256, 2048]⟩
abbrev S1x2048 : Shape := ⟨2, ![1, 2048]⟩
abbrev S256x1 : Shape := ⟨2, ![256, 1]⟩
abbrev S256 : Shape := ⟨1, ![256]⟩

abbrev nBuf : Space → Nat
  | .hbm => 5
  | .vmem => 8
  | .smem => 1
  | _ => 0

abbrev bufTy : (tb : Table) → Fin (tcTables nBuf tb) → BufTy
  | .hbm, ⟨0, _⟩ => ⟨S17280x2048, .i32⟩
  | .hbm, ⟨1, _⟩ => ⟨S8192x4096, .f32⟩
  | .hbm, ⟨2, _⟩ => ⟨S8192x128, .f32⟩
  | .hbm, ⟨3, _⟩ => ⟨S1x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x128, .f32⟩
  | .local _ .vmem, ⟨3, _⟩ => ⟨S256x128, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | .local _ .vmem, ⟨7, _⟩ => ⟨S2x2x256x2048, .i32⟩
  | .local _ .smem, ⟨0, _⟩ => ⟨S16384, .i32⟩
  | _, _ => ⟨S17280x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_24 : BitVec 32 := 0#32
  let c256_i32 : BitVec 32 := 256#32
  let v70 : BitVec 32 := Scalar.addi c0_i32_24 c256_i32
  let c1_i32_25 : BitVec 32 := 1#32
  ⟨c0_i32_24, v70, c1_i32_25⟩
def k0_off1 (k0_t1 : Fin k0_t1_loop.trips) : Fin 1 → Nat :=
  let c2_i32_28 : BitVec 32 := 2#32
  let c0_i32_27 : BitVec 32 := 0#32
  let c0_i32_24 : BitVec 32 := 0#32
  let c1_i32_25 : BitVec 32 := 1#32
  let arg9 : BitVec 32 := Scf.iv c0_i32_24 c1_i32_25 k0_t1
  let v71 : BitVec 32 := Scalar.addi c0_i32_27 arg9
  let v72 : BitVec 32 := Scalar.muli c2_i32_28 v71
  let c0_i32_29 : BitVec 32 := 0#32
  let v73 : BitVec 32 := Scalar.addi v72 c0_i32_29
  let v74 : Index := Scalar.indexCast v73
  ![v74.toNat]
def k0_off2 (k0_t1 : Fin k0_t1_loop.trips) : Fin 2 → Nat :=
  let c0_i32_24 : BitVec 32 := 0#32
  let c1_i32_25 : BitVec 32 := 1#32
  let arg9 : BitVec 32 := Scf.iv c0_i32_24 c1_i32_25 k0_t1
  let c0_i32_35 : BitVec 32 := 0#32
  ![arg9.toNat, 0]
def k0_off3 (v75 : BitVec 32) : Fin 2 → Nat :=
  let c0_i32_36 : BitVec 32 := 0#32
  ![v75.toNat, 0]

def k0_chk1 (i : grid0.Coords) (v75 : BitVec 32) : Prop :=
  (∀ (k0_h1 : k0_cond1 i = 1#1), ∀ a, (k0_off3 v75) a + S1x2048.size a ≤ S17280x2048.size a)
theorem k0_off3_inb : ∀ (i : grid0.Coords) (v75 : BitVec 32) (k0_hw1 : k0_chk1 i v75), ∀ (k0_h1 : k0_cond1 i = 1#1), ∀ a, (k0_off3 v75) a + S1x2048.size a ≤ S17280x2048.size a := fun i v75 k0_hw1 k0_h1 => k0_hw1 k0_h1

def k0_off4 (k0_t1 : Fin k0_t1_loop.trips) : Fin 1 → Nat :=
  let c2_i32_28 : BitVec 32 := 2#32
  let c0_i32_27 : BitVec 32 := 0#32
  let c0_i32_24 : BitVec 32 := 0#32
  let c1_i32_25 : BitVec 32 := 1#32
  let arg9 : BitVec 32 := Scf.iv c0_i32_24 c1_i32_25 k0_t1
  let v71 : BitVec 32 := Scalar.addi c0_i32_27 arg9
  let v72 : BitVec 32 := Scalar.muli c2_i32_28 v71
  let c1_i32_37 : BitVec 32 := 1#32
  let v82 : BitVec 32 := Scalar.addi v72 c1_i32_37
  let v83 : Index := Scalar.indexCast v82
  ![v83.toNat]
def k0_off5 (k0_t1 : Fin k0_t1_loop.trips) : Fin 2 → Nat :=
  let c0_i32_24 : BitVec 32 := 0#32
  let c1_i32_25 : BitVec 32 := 1#32
  let arg9 : BitVec 32 := Scf.iv c0_i32_24 c1_i32_25 k0_t1
  let c0_i32_43 : BitVec 32 := 0#32
  ![arg9.toNat, 0]
def k0_off6 (v84 : BitVec 32) : Fin 2 → Nat :=
  let c0_i32_44 : BitVec 32 := 0#32
  ![v84.toNat, 0]

def k0_chk2 (i : grid0.Coords) (v84 : BitVec 32) : Prop :=
  (∀ (k0_h1 : k0_cond1 i = 1#1), ∀ a, (k0_off6 v84) a + S1x2048.size a ≤ S17280x2048.size a)
theorem k0_off6_inb : ∀ (i : grid0.Coords) (v84 : BitVec 32) (k0_hw2 : k0_chk2 i v84), ∀ (k0_h1 : k0_cond1 i = 1#1), ∀ a, (k0_off6 v84) a + S1x2048.size a ≤ S17280x2048.size a := fun i v84 k0_hw2 k0_h1 => k0_hw2 k0_h1

def k0_cond2 (i : grid0.Coords) : BitVec 1 :=
  let arg0 : BitVec 32 := BitVec.ofNat 32 (i 0).val
  let c1_i32 : BitVec 32 := 1#32
  let v4 : BitVec 32 := Scalar.addi arg0 c1_i32
  let c32_i32 : BitVec 32 := 32#32
  let v5 : BitVec 1 := Scalar.cmpi .slt v4 c32_i32
  let v6 : BitVec 32 := Scalar.extui v5
  let c0_i32_1 : BitVec 32 := 0#32
  let v7 : BitVec 1 := Scalar.cmpi .ne v6 c0_i32_1
  v7

@[reducible] def k0_t2_loop : Scf.Loop 32 :=
  let c0_i32_26 : BitVec 32 := 0#32
  let c256_i32 : BitVec 32 := 256#32
  let v72 : BitVec 32 := Scalar.addi c0_i32_26 c256_i32
  let c1_i32_27 : BitVec 32 := 1#32
  ⟨c0_i32_26, v72, c1_i32_27⟩
def k0_off7 (i : grid0.Coords) (k0_t2 : Fin k0_t2_loop.trips) : Fin 1 → Nat :=
  let c2_i32_30 : BitVec 32 := 2#32
  let arg0 : BitVec 32 := BitVec.ofNat 32 (i 0).val
  let c1_i32_24 : BitVec 32 := 1#32
  let v70 : BitVec 32 := Scalar.addi arg0 c1_i32_24
  let c256_i32_29 : BitVec 32 := 256#32
  let v73 : BitVec 32 := Scalar.muli v70 c256_i32_29
  let c0_i32_26 : BitVec 32 := 0#32
  let c1_i32_27 : BitVec 32 := 1#32
  let arg9 : BitVec 32 := Scf.iv c0_i32_26 c1_i32_27 k0_t2
  let v74 : BitVec 32 := Scalar.addi v73 arg9
  let v75 : BitVec 32 := Scalar.muli c2_i32_30 v74
  let c0_i32_31 : BitVec 32 := 0#32
  let v76 : BitVec 32 := Scalar.addi v75 c0_i32_31
  let v77 : Index := Scalar.indexCast v76
  ![v77.toNat]
def k0_off8 (i : grid0.Coords) : Fin 1 → Nat :=
  let c1_i32_25 : BitVec 32 := 1#32
  let arg0 : BitVec 32 := BitVec.ofNat 32 (i 0).val
  let c2_i32 : BitVec 32 := 2#32
  let v0 : BitVec 32 := Scalar.remsi arg0 c2_i32
  let v71 : BitVec 32 := Scalar.subi c1_i32_25 v0
  ![v71.toNat]
def k0_off9 (i : grid0.Coords) : Fin 4 → Nat :=
  let c1_i32_25 : BitVec 32 := 1#32
  let arg0 : BitVec 32 := BitVec.ofNat 32 (i 0).val
  let c2_i32 : BitVec 32 := 2#32
  let v0 : BitVec 32 := Scalar.remsi arg0 c2_i32
  let v71 : BitVec 32 := Scalar.subi c1_i32_25 v0
  let c0_i32_32 : BitVec 32 := 0#32
  let c0_i32_33 : BitVec 32 := 0#32
  let c0_i32_34 : BitVec 32 := 0#32
  ![v71.toNat, 0, 0, 0]
def k0_off10 (k0_t2 : Fin k0_t2_loop.trips) : Fin 2 → Nat :=
  let c0_i32_26 : BitVec 32 := 0#32
  let c1_i32_27 : BitVec 32 := 1#32
  let arg9 : BitVec 32 := Scf.iv c0_i32_26 c1_i32_27 k0_t2
  let c0_i32_35 : BitVec 32 := 0#32
  ![arg9.toNat, 0]
def k0_off11 (v78 : BitVec 32) : Fin 2 → Nat :=
  let c0_i32_36 : BitVec 32 := 0#32
  ![v78.toNat, 0]

def k0_chk3 (i : grid0.Coords) (v78 : BitVec 32) : Prop :=
  (∀ (k0_h2 : k0_cond2 i = 1#1), ∀ a, (k0_off11 v78) a + S1x2048.size a ≤ S17280x2048.size a)
theorem k0_off11_inb : ∀ (i : grid0.Coords) (v78 : BitVec 32) (k0_hw3 : k0_chk3 i v78), ∀ (k0_h2 : k0_cond2 i = 1#1), ∀ a, (k0_off11 v78) a + S1x2048.size a ≤ S17280x2048.size a := fun i v78 k0_hw3 k0_h2 => k0_hw3 k0_h2

def k0_off12 (i : grid0.Coords) (k0_t2 : Fin k0_t2_loop.trips) : Fin 1 → Nat :=
  let c2_i32_30 : BitVec 32 := 2#32
  let arg0 : BitVec 32 := BitVec.ofNat 32 (i 0).val
  let c1_i32_24 : BitVec 32 := 1#32
  let v70 : BitVec 32 := Scalar.addi arg0 c1_i32_24
  let c256_i32_29 : BitVec 32 := 256#32
  let v73 : BitVec 32 := Scalar.muli v70 c256_i32_29
  let c0_i32_26 : BitVec 32 := 0#32
  let c1_i32_27 : BitVec 32 := 1#32
  let arg9 : BitVec 32 := Scf.iv c0_i32_26 c1_i32_27 k0_t2
  let v74 : BitVec 32 := Scalar.addi v73 arg9
  let v75 : BitVec 32 := Scalar.muli c2_i32_30 v74
  let c1_i32_37 : BitVec 32 := 1#32
  let v85 : BitVec 32 := Scalar.addi v75 c1_i32_37
  let v86 : Index := Scalar.indexCast v85
  ![v86.toNat]
def k0_off13 (i : grid0.Coords) : Fin 1 → Nat :=
  let c1_i32_25 : BitVec 32 := 1#32
  let arg0 : BitVec 32 := BitVec.ofNat 32 (i 0).val
  let c2_i32 : BitVec 32 := 2#32
  let v0 : BitVec 32 := Scalar.remsi arg0 c2_i32
  let v71 : BitVec 32 := Scalar.subi c1_i32_25 v0
  ![v71.toNat]
def k0_off14 (i : grid0.Coords) : Fin 4 → Nat :=
  let c1_i32_25 : BitVec 32 := 1#32
  let arg0 : BitVec 32 := BitVec.ofNat 32 (i 0).val
  let c2_i32 : BitVec 32 := 2#32
  let v0 : BitVec 32 := Scalar.remsi arg0 c2_i32
  let v71 : BitVec 32 := Scalar.subi c1_i32_25 v0
  let c1_i32_38 : BitVec 32 := 1#32
  let c0_i32_39 : BitVec 32 := 0#32
  let c0_i32_40 : BitVec 32 := 0#32
  ![v71.toNat, 1, 0, 0]
def k0_off15 (k0_t2 : Fin k0_t2_loop.trips) : Fin 2 → Nat :=
  let c0_i32_26 : BitVec 32 := 0#32
  let c1_i32_27 : BitVec 32 := 1#32
  let arg9 : BitVec 32 := Scf.iv c0_i32_26 c1_i32_27 k0_t2
  let c0_i32_41 : BitVec 32 := 0#32
  ![arg9.toNat, 0]
def k0_off16 (v87 : BitVec 32) : Fin 2 → Nat :=
  let c0_i32_42 : BitVec 32 := 0#32
  ![v87.toNat, 0]

def k0_chk4 (i : grid0.Coords) (v87 : BitVec 32) : Prop :=
  (∀ (k0_h2 : k0_cond2 i = 1#1), ∀ a, (k0_off16 v87) a + S1x2048.size a ≤ S17280x2048.size a)
theorem k0_off16_inb : ∀ (i : grid0.Coords) (v87 : BitVec 32) (k0_hw4 : k0_chk4 i v87), ∀ (k0_h2 : k0_cond2 i = 1#1), ∀ a, (k0_off16 v87) a + S1x2048.size a ≤ S17280x2048.size a := fun i v87 k0_hw4 k0_h2 => k0_hw4 k0_h2

@[reducible] def k0_t3_loop : Scf.Loop 32 :=
  let c0_i32_2 : BitVec 32 := 0#32
  let c512_i32 : BitVec 32 := 512#32
  let v8 : BitVec 32 := Scalar.addi c0_i32_2 c512_i32
  let c1_i32_3 : BitVec 32 := 1#32
  ⟨c0_i32_2, v8, c1_i32_3⟩
def k0_off17 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off18 (i : grid0.Coords) : Fin 4 → Nat :=
  let arg0 : BitVec 32 := BitVec.ofNat 32 (i 0).val
  let c2_i32 : BitVec 32 := 2#32
  let v0 : BitVec 32 := Scalar.remsi arg0 c2_i32
  let c0_i32_24 : BitVec 32 := 0#32
  let c0_i32_25 : BitVec 32 := 0#32
  let c0_i32_26 : BitVec 32 := 0#32
  ![v0.toNat, 0, 0, 0]
def k0_off19 (i : grid0.Coords) : Fin 4 → Nat :=
  let arg0 : BitVec 32 := BitVec.ofNat 32 (i 0).val
  let c2_i32 : BitVec 32 := 2#32
  let v0 : BitVec 32 := Scalar.remsi arg0 c2_i32
  let v12 : Index := Scalar.indexCast v0
  let c0_8 : Index := 0#32
  let c0_9 : Index := 0#32
  let c0_10 : Index := 0#32
  ![v12.toNat, 0, 0, 0]
def k0_off20 (i : grid0.Coords) : Fin 4 → Nat :=
  let arg0 : BitVec 32 := BitVec.ofNat 32 (i 0).val
  let c2_i32 : BitVec 32 := 2#32
  let v0 : BitVec 32 := Scalar.remsi arg0 c2_i32
  let v29 : Index := Scalar.indexCast v0
  let c1 : Index := 1#32
  let c0_11 : Index := 0#32
  let c0_12 : Index := 0#32
  ![v29.toNat, 1, 0, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16384 : Shape := ⟨1, ![16384]⟩
abbrev S17280x2048 : Shape := ⟨2, ![17280, 2048]⟩
abbrev S8192x4096 : Shape := ⟨2, ![8192, 4096]⟩
abbrev S8192x128 : Shape := ⟨2, ![8192, 128]⟩
abbrev S1x4096 : Shape := ⟨2, ![1, 4096]⟩
abbrev S_ : Shape := ⟨0, ![]⟩
abbrev S17280x4096 : Shape := ⟨2, ![17280, 4096]⟩
abbrev S16384x1 : Shape := ⟨2, ![16384, 1]⟩
abbrev S16384x4096 : Shape := ⟨2, ![16384, 4096]⟩
abbrev S8192x2x4096 : Shape := ⟨3, ![8192, 2, 4096]⟩
abbrev S8192x1x4096 : Shape := ⟨3, ![8192, 1, 4096]⟩
abbrev S8192x1 : Shape := ⟨2, ![8192, 1]⟩
abbrev S8192 : Shape := ⟨1, ![8192]⟩

abbrev nBuf : Space → Nat
  | .hbm => 51
  | .vmem => 0
  | .smem => 0
  | _ => 0

abbrev bufTy : (tb : Table) → Fin (tcTables nBuf tb) → BufTy
  | .hbm, ⟨0, _⟩ => ⟨S16384, .i32⟩
  | .hbm, ⟨1, _⟩ => ⟨S17280x2048, .i32⟩
  | .hbm, ⟨2, _⟩ => ⟨S8192x4096, .f32⟩
  | .hbm, ⟨3, _⟩ => ⟨S8192x128, .f32⟩
  | .hbm, ⟨4, _⟩ => ⟨S1x4096, .f32⟩
  | .hbm, ⟨5, _⟩ => ⟨S_, .i32⟩
  | .hbm, ⟨6, _⟩ => ⟨S17280x2048, .i32⟩
  | .hbm, ⟨7, _⟩ => ⟨S17280x2048, .i32⟩
  | .hbm, ⟨8, _⟩ => ⟨S17280x2048, .f32⟩
  | .hbm, ⟨9, _⟩ => ⟨S_, .i32⟩
  | .hbm, ⟨10, _⟩ => ⟨S17280x2048, .i32⟩
  | .hbm, ⟨11, _⟩ => ⟨S17280x2048, .i32⟩
  | .hbm, ⟨12, _⟩ => ⟨S17280x2048, .f32⟩
  | .hbm, ⟨13, _⟩ => ⟨S17280x4096, .f32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S16384x4096, .f32⟩
  | .hbm, ⟨23, _⟩ => ⟨S8192x2x4096, .f32⟩
  | .hbm, ⟨24, _⟩ => ⟨S8192x1x4096, .f32⟩
  | .hbm, ⟨25, _⟩ => ⟨S8192x4096, .f32⟩
  | .hbm, ⟨26, _⟩ => ⟨S8192x1, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x1x4096, .f32⟩
  | .hbm, ⟨31, _⟩ => ⟨S8192x4096, .f32⟩
  | .hbm, ⟨32, _⟩ => ⟨S8192x1, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x4096, .f32⟩
  | .hbm, ⟨48, _⟩ => ⟨S8192x4096, .f32⟩
  | .hbm, ⟨49, _⟩ => ⟨S8192x4096, .f32⟩
  | .hbm, ⟨50, _⟩ => ⟨S8192x4096, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel6.lean ====
abbrev S8192x4096 : Shape := ⟨2, ![8192, 4096]⟩
abbrev S4096x15856 : Shape := ⟨2, ![4096, 15856]⟩
abbrev S15856x4096 : Shape := ⟨2, ![15856, 4096]⟩
abbrev S1024x4096 : Shape := ⟨2, ![1024, 4096]⟩
abbrev S256x4096 : Shape := ⟨2, ![256, 4096]⟩
abbrev S128x4096 : Shape := ⟨2, ![128, 4096]⟩
abbrev S64x4096 : Shape := ⟨2, ![64, 4096]⟩
abbrev S_ : Shape := ⟨0, ![]⟩
abbrev S16x4096 : Shape := ⟨2, ![16, 4096]⟩
abbrev S32x4096 : Shape := ⟨2, ![32, 4096]⟩
abbrev S1792x4096 : Shape := ⟨2, ![1792, 4096]⟩
abbrev S8192x1792 : Shape := ⟨2, ![8192, 1792]⟩
abbrev S512x4096 : Shape := ⟨2, ![512, 4096]⟩
abbrev S896x4096 : Shape := ⟨2, ![896, 4096]⟩
abbrev S512x896 : Shape := ⟨2, ![512, 896]⟩

abbrev nBuf : Space → Nat
  | .hbm => 20
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x15856, .f32⟩
  | .hbm, ⟨2, _⟩ => ⟨S15856x4096, .f32⟩
  | .hbm, ⟨3, _⟩ => ⟨S1024x4096, .f32⟩
  | .hbm, ⟨4, _⟩ => ⟨S256x4096, .f32⟩
  | .hbm, ⟨5, _⟩ => ⟨S128x4096, .f32⟩
  | .hbm, ⟨6, _⟩ => ⟨S64x4096, .f32⟩
  | .hbm, ⟨7, _⟩ => ⟨S_, .i32⟩
  | .hbm, ⟨8, _⟩ => ⟨S_, .f32⟩
  | .hbm, ⟨9, _⟩ => ⟨S128x4096, .f32⟩
  | .hbm, ⟨10, _⟩ => ⟨S16x4096, .f32⟩
  | .hbm, ⟨11, _⟩ => ⟨S_, .i32⟩
  | .hbm, ⟨12, _⟩ => ⟨S_, .f32⟩
  | .hbm, ⟨13, _⟩ => ⟨S128x4096, .f32⟩
  | .hbm, ⟨14, _⟩ => ⟨S32x4096, .f32⟩
  | .hbm, ⟨15, _⟩ => ⟨S_, .i32⟩
  | .hbm, ⟨16, _⟩ => ⟨S_, .f32⟩
  | .hbm, ⟨17, _⟩ => ⟨S128x4096, .f32⟩
  | .hbm, ⟨18, _⟩ => ⟨S1792x4096, .f32⟩
  | .hbm, ⟨19, _⟩ => ⟨S8192x1792, .f32⟩
  | .local _ .vmem, ⟨0, _⟩ => ⟨S512x4096, .bf16⟩
  | .local _ .vmem, ⟨1, _⟩ => ⟨S512x4096, .bf16⟩
  | .local _ .vmem, ⟨2, _⟩ => ⟨S896x4096, .f32⟩
  | .local _ .vmem, ⟨3, _⟩ => ⟨S896x4096, .f32⟩
  | .local _ .vmem, ⟨4, _⟩ => ⟨S512x896, .f32⟩
  | .local _ .vmem, ⟨5, _⟩ => ⟨S512x896, .f32⟩
  | .local _ .vmem, ⟨6, _⟩ => ⟨S896x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_call2_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S896x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x4096 : Shape := ⟨2, ![8192, 4096]⟩
abbrev S4096x15856 : Shape := ⟨2, ![4096, 15856]⟩
abbrev S4096x1520 : Shape := ⟨2, ![4096, 1520]⟩
abbrev S8192x1520 : Shape := ⟨2, ![8192, 1520]⟩
abbrev S8192x16 : Shape := ⟨2, ![8192, 16]⟩
abbrev S8192x1024 : Shape := ⟨2, ![8192, 1024]⟩
abbrev S8192x256 : Shape := ⟨2, ![8192, 256]⟩
abbrev S8192x64 : Shape := ⟨2, ![8192, 64]⟩
abbrev S8192x128 : Shape := ⟨2, ![8192, 128]⟩
abbrev S8192x32 : Shape := ⟨2, ![8192, 32]⟩
abbrev S_ : Shape := ⟨0, ![]⟩
abbrev S8192x112 : Shape := ⟨2, ![8192, 112]⟩
abbrev S8192x96 : Shape := ⟨2, ![8192, 96]⟩
abbrev S8192x1792 : Shape := ⟨2, ![8192, 1792]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x15856, .f32⟩
  | .hbm, ⟨2, _⟩ => ⟨S8192x4096, .f32⟩
  | .hbm, ⟨3, _⟩ => ⟨S4096x1520, .f32⟩
  | .hbm, ⟨4, _⟩ => ⟨S8192x1520, .f32⟩
  | .hbm, ⟨5, _⟩ => ⟨S8192x16, .f32⟩
  | .hbm, ⟨6, _⟩ => ⟨S8192x1024, .f32⟩
  | .hbm, ⟨7, _⟩ => ⟨S8192x256, .f32⟩
  | .hbm, ⟨8, _⟩ => ⟨S8192x64, .f32⟩
  | .hbm, ⟨9, _⟩ => ⟨S8192x128, .f32⟩
  | .hbm, ⟨10, _⟩ => ⟨S8192x32, .f32⟩
  | .hbm, ⟨11, _⟩ => ⟨S_, .f32⟩
  | .hbm, ⟨12, _⟩ => ⟨S8192x64, .f32⟩
  | .hbm, ⟨13, _⟩ => ⟨S_, .f32⟩
  | .hbm, ⟨14, _⟩ => ⟨S8192x112, .f32⟩
  | .hbm, ⟨15, _⟩ => ⟨S_, .f32⟩
  | .hbm, ⟨16, _⟩ => ⟨S8192x96, .f32⟩
  | .hbm, ⟨17, _⟩ => ⟨S8192x1792, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel7.lean ====
abbrev S8192x1024 : Shape := ⟨2, ![8192, 1024]⟩
abbrev S1024x4096 : Shape := ⟨2, ![1024, 4096]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x2048x1x128 : Shape := ⟨4, ![1, 2048, 1, 128]⟩
abbrev S4x32x2048x128 : Shape := ⟨4, ![4, 32, 2048, 128]⟩
abbrev S1024x1024 : Shape := ⟨2, ![1024, 1024]⟩
abbrev S1024x128 : Shape := ⟨2, ![1024, 128]⟩
abbrev S1x8x1024x128 : Shape := ⟨4, ![1, 8, 1024, 128]⟩
abbrev S1x1x1024x128 : Shape := ⟨4, ![1, 1, 1024, 128]⟩

abbrev nBuf : Space → Nat
  | .hbm => 35
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S2048, .i32⟩
  | .hbm, ⟨17, _⟩ => ⟨S2048, .f32⟩
  | .hbm, ⟨18, _⟩ => ⟨S2048x1, .f32⟩
  | .hbm, ⟨19, _⟩ => ⟨S1x64, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S2048x64, .f32⟩
  | .hbm, ⟨24, _⟩ => ⟨S2048x64, .f32⟩
  | .hbm, ⟨25, _⟩ => ⟨S2048x128, .f32⟩
  | .hbm, ⟨26, _⟩ => ⟨S1x2048x1x128, .f32⟩
  | .hbm, ⟨27, _⟩ => ⟨S1x2048x1x128, .f32⟩
  | .hbm, ⟨28, _⟩ => ⟨S2048x128, .f32⟩
  | .hbm, ⟨29, _⟩ => ⟨S2048x64, .f32⟩
  | .hbm, ⟨30, _⟩ => ⟨S2048x128, .f32⟩
  | .hbm, ⟨31, _⟩ => ⟨S1x2048x1x128, .f32⟩
  | .hbm, ⟨32, _⟩ => ⟨S1x2048x1x128, .f32⟩
  | .hbm, ⟨33, _⟩ => ⟨S2048x128, .f32⟩
  | .hbm, ⟨34, _⟩ => ⟨S4x32x2048x128, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x8x1024x128, .bf16⟩
  | .local _ .vmem, ⟨9, _⟩ => ⟨S1x8x1024x128, .bf16⟩
  | .local _ .vmem, ⟨10, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, v26.toNat, c0_i32_10.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S8192x1024 : Shape := ⟨2, ![8192, 1024]⟩
abbrev S1024x4096 : Shape := ⟨2, ![1024, 4096]⟩
abbrev S8192x4096 : Shape := ⟨2, ![8192, 4096]⟩
abbrev S4x2048x32x128 : Shape := ⟨4, ![4, 2048, 32, 128]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S4x2048x32x64 : Shape := ⟨4, ![4, 2048, 32, 64]⟩
abbrev S4x32x2048x128 : Shape := ⟨4, ![4, 32, 2048, 128]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S8192x1024, .f32⟩
  | .hbm, ⟨3, _⟩ => ⟨S8192x4096, .f32⟩
  | .hbm, ⟨4, _⟩ => ⟨S4x2048x32x128, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S2048, .i32⟩
  | .hbm, ⟨20, _⟩ => ⟨S2048, .f32⟩
  | .hbm, ⟨21, _⟩ => ⟨S2048x1, .f32⟩
  | .hbm, ⟨22, _⟩ => ⟨S1x64, .f32⟩
  | .hbm, ⟨23, _⟩ => ⟨S2048x64, .f32⟩
  | .hbm, ⟨24, _⟩ => ⟨S2048x64, .f32⟩
  | .hbm, ⟨25, _⟩ => ⟨S2048x64, .f32⟩
  | .hbm, ⟨26, _⟩ => ⟨S2048x64, .f32⟩
  | .hbm, ⟨27, _⟩ => ⟨S1x2048x1x64, .f32⟩
  | .hbm, ⟨28, _⟩ => ⟨S2048x64, .f32⟩
  | .hbm, ⟨29, _⟩ => ⟨S1x2048x1x64, .f32⟩
  | .hbm, ⟨30, _⟩ => ⟨S4x2048x32x64, .f32⟩
  | .hbm, ⟨31, _⟩ => ⟨S4x2048x32x64, .f32⟩
  | .hbm, ⟨32, _⟩ => ⟨S4x2048x32x64, .f32⟩
  | .hbm, ⟨33, _⟩ => ⟨S4x2048x32x64, .f32⟩
  | .hbm, ⟨34, _⟩ => ⟨S4x2048x32x64, .f32⟩
  | .hbm, ⟨35, _⟩ => ⟨S4x2048x32x64, .f32⟩
  | .hbm, ⟨36, _⟩ => ⟨S4x2048x32x64, .f32⟩
  | .hbm, ⟨37, _⟩ => ⟨S4x2048x32x64, .f32⟩
  | .hbm, ⟨38, _⟩ => ⟨S4x2048x32x64, .f32⟩
  | .hbm, ⟨39, _⟩ => ⟨S4x2048x32x64, .f32⟩
  | .hbm, ⟨40, _⟩ => ⟨S4x2048x32x64, .f32⟩
  | .hbm, ⟨41, _⟩ => ⟨S4x2048x32x64, .f32⟩
  | .hbm, ⟨42, _⟩ => ⟨S4x2048x32x128, .f32⟩
  | .hbm, ⟨43, _⟩ => ⟨S4x32x2048x128, .f32⟩
  | .hbm, ⟨44, _⟩ => ⟨S4x32x2048x128, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩

abbrev nD : Nat := 1
abbrev τ : Topo := Topo.v7x

variable {F : FTy → Type} [FloatOps F]
-- ==== Kernel8.lean ====
abbrev S8192x1024 : Shape := ⟨2, ![8192, 1024]⟩
abbrev S1024x3072 : Shape := ⟨2, ![1024, 3072]⟩
abbrev S16x128x256 : Shape := ⟨3, ![16, 128, 256]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1024x16x192 : Shape := ⟨3, ![1024, 16, 192]⟩
abbrev S1024x16x128 : Shape := ⟨3, ![1024, 16, 128]⟩
abbrev S1024x2048 : Shape := ⟨2, ![1024, 2048]⟩
abbrev S1024x16x64 : Shape := ⟨3, ![1024, 16, 64]⟩
abbrev S4x16x2048x384 : Shape := ⟨4, ![4, 16, 2048, 384]⟩
abbrev S512x1024 : Shape := ⟨2, ![512, 1024]⟩
abbrev S512x128 : Shape := ⟨2, ![512, 128]⟩
abbrev S1x16x512x384 : Shape := ⟨4, ![1, 16, 512, 384]⟩
abbrev S512x2048 : Shape := ⟨2, ![512, 2048]⟩
abbrev S1x128x256 : Shape := ⟨3, ![1, 128, 256]⟩
abbrev S128x256 : Shape := ⟨2, ![128, 256]⟩
abbrev S512x256 : Shape := ⟨2, ![512, 256]⟩
abbrev S1x1x512x256 : Shape := ⟨4, ![1, 1, 512, 256]⟩
abbrev S1x1x512x128 : Shape := ⟨4, ![1, 1, 512, 128]⟩

abbrev nBuf : Space → Nat
  | .hbm => 47
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .f32⟩
  | .hbm, ⟨2, _⟩ => ⟨S16x128x256, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S2048, .i32⟩
  | .hbm, ⟨18, _⟩ => ⟨S2048, .f32⟩
  | .hbm, ⟨19, _⟩ => ⟨S2048x1, .f32⟩
  | .hbm, ⟨20, _⟩ => ⟨S1x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x64, .f32⟩
  | .hbm, ⟨27, _⟩ => ⟨S1x2048x1x64, .f32⟩
  | .hbm, ⟨28, _⟩ => ⟨S1x2048x2x64, .f32⟩
  | .hbm, ⟨29, _⟩ => ⟨S2048x128, .f32⟩
  | .hbm, ⟨30, _⟩ => ⟨S2048x32, .f32⟩
  | .hbm, ⟨31, _⟩ => ⟨S2048x64, .f32⟩
  | .hbm, ⟨32, _⟩ => ⟨S1x2048x1x64, .f32⟩
  | .hbm, ⟨33, _⟩ => ⟨S1x2048x2x64, .f32⟩
  | .hbm, ⟨34, _⟩ => ⟨S2048x128, .f32⟩
  | .hbm, ⟨35, _⟩ => ⟨S1024x16x192, .f32⟩
  | .hbm, ⟨36, _⟩ => ⟨S1024x16x128, .f32⟩
  | .hbm, ⟨37, _⟩ => ⟨S1024x2048, .f32⟩
  | .hbm, ⟨38, _⟩ => ⟨S1024x2048, .bf16⟩
  | .hbm, ⟨39, _⟩ => ⟨S1024x16x64, .f32⟩
  | .hbm, ⟨40, _⟩ => ⟨S_, .i32⟩
  | .hbm, ⟨41, _⟩ => ⟨S_, .f32⟩
  | .hbm, ⟨42, _⟩ => ⟨S1024x16x128, .f32⟩
  | .hbm, ⟨43, _⟩ => ⟨S1024x2048, .f32⟩
  | .hbm, ⟨44, _⟩ => ⟨S1024x2048, .bf16⟩
  | .hbm, ⟨45, _⟩ => ⟨S16x128x256, .bf16⟩
  | .hbm, ⟨46, _⟩ => ⟨S4x16x2048x384, .bf16⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S16x128x256, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S1x16x512x384, .bf16⟩
  | .local _ .vmem, ⟨10, _⟩ => ⟨S1x16x512x384, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c : Ref sig .tc := ⟨.hbm, 40, rfl⟩
abbrev main_call0_v0 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S8192x1024 : Shape := ⟨2, ![8192, 1024]⟩
abbrev S1024x3072 : Shape := ⟨2, ![1024, 3072]⟩
abbrev S16x128x256 : Shape := ⟨3, ![16, 128, 256]⟩
abbrev S8192x3072 : Shape := ⟨2, ![8192, 3072]⟩
abbrev S4x2048x16x192 : Shape := ⟨4, ![4, 2048, 16, 192]⟩
abbrev S4x2048x16x128 : Shape := ⟨4, ![4, 2048, 16, 128]⟩
abbrev S16x256x4x2048 : Shape := ⟨4, ![16, 256, 4, 2048]⟩
abbrev S4x2048x16x256 : Shape := ⟨4, ![4, 2048, 16, 256]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S4x2048x16x32 : Shape := ⟨4, ![4, 2048, 16, 32]⟩
abbrev S4x2048x16x320 : Shape := ⟨4, ![4, 2048, 16, 320]⟩
abbrev S4x2048x16x384 : Shape := ⟨4, ![4, 2048, 16, 384]⟩
abbrev S4x16x2048x384 : Shape := ⟨4, ![4, 16, 2048, 384]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .f32⟩
  | .hbm, ⟨2, _⟩ => ⟨S16x128x256, .f32⟩
  | .hbm, ⟨3, _⟩ => ⟨S8192x1024, .f32⟩
  | .hbm, ⟨4, _⟩ => ⟨S8192x3072, .f32⟩
  | .hbm, ⟨5, _⟩ => ⟨S4x2048x16x192, .f32⟩
  | .hbm, ⟨6, _⟩ => ⟨S4x2048x16x128, .f32⟩
  | .hbm, ⟨7, _⟩ => ⟨S16x256x4x2048, .f32⟩
  | .hbm, ⟨8, _⟩ => ⟨S4x2048x16x256, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S2048, .i32⟩
  | .hbm, ⟨24, _⟩ => ⟨S2048, .f32⟩
  | .hbm, ⟨25, _⟩ => ⟨S2048x1, .f32⟩
  | .hbm, ⟨26, _⟩ => ⟨S1x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S1x2048x1x32, .f32⟩
  | .hbm, ⟨32, _⟩ => ⟨S2048x32, .f32⟩
  | .hbm, ⟨33, _⟩ => ⟨S1x2048x1x32, .f32⟩
  | .hbm, ⟨34, _⟩ => ⟨S4x2048x16x32, .f32⟩
  | .hbm, ⟨35, _⟩ => ⟨S4x2048x16x32, .f32⟩
  | .hbm, ⟨36, _⟩ => ⟨S4x2048x16x32, .f32⟩
  | .hbm, ⟨37, _⟩ => ⟨S4x2048x16x32, .f32⟩
  | .hbm, ⟨38, _⟩ => ⟨S4x2048x16x32, .f32⟩
  | .hbm, ⟨39, _⟩ => ⟨S4x2048x16x32, .f32⟩
  | .hbm, ⟨40, _⟩ => ⟨S4x2048x16x32, .f32⟩
  | .hbm, ⟨41, _⟩ => ⟨S4x2048x16x32, .f32⟩
  | .hbm, ⟨42, _⟩ => ⟨S4x2048x16x32, .f32⟩
  | .hbm, ⟨43, _⟩ => ⟨S4x2048x16x32, .f32⟩
  | .hbm, ⟨44, _⟩ => ⟨S4x2048x16x32, .f32⟩
  | .hbm, ⟨45, _⟩ => ⟨S4x2048x16x32, .f32⟩
  | .hbm, ⟨46, _⟩ => ⟨S4x2048x16x320, .f32⟩
  | .hbm, ⟨47, _⟩ => ⟨S_, .f32⟩
  | .hbm, ⟨48, _⟩ => ⟨S4x2048x16x320, .f32⟩
  | .hbm, ⟨49, _⟩ => ⟨S4x2048x16x320, .f32⟩
  | .hbm, ⟨50, _⟩ => ⟨S_, .i32⟩
  | .hbm, ⟨51, _⟩ => ⟨S_, .f32⟩
  | .hbm, ⟨52, _⟩ => ⟨S4x2048x16x384, .f32⟩
  | .hbm, ⟨53, _⟩ => ⟨S4x16x2048x384, .f32⟩
  | .hbm, ⟨54, _⟩ => ⟨S4x16x2048x384, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_c : Ref sig .tc := ⟨.hbm, 50, rfl⟩
abbrev main_call0_v0 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== Proof.MergeRun.lean ====
/-
  The body of the gated merge, run once: what one grid point leaves in its result tile and in the four weight buffers.
-/
module

public import proofs.«01_k».proof.Proof.Gen.KernelIdeal.Frame.Runs
public import Idealize.ShloMosaic.Lib.VecWindow
public import Idealize.ShloMosaic.Lib.Claim

@[expose] public section

set_option maxRecDepth 16384

noncomputable section

namespace Cert.KernelIdeal.Merge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- A point at the start of a column sweep. -/
theorem body_first (c : Dev nD) (i : grid0.Coords) (b0 : Memref sig .tc .vmem S512x4096 .bf16) (w0 : b0.IsWhole)
    (b1 : Memref sig .tc .vmem S512x2048 .bf16) (w1 : b1.IsWhole) (b2 : Memref sig .tc .vmem S512x2048 .bf16) (w2 : b2.IsWhole)
    (b3 : Memref sig .tc .vmem S256x4096 .f32) (w3 : b3.IsWhole) (b4 : Memref sig .tc .vmem S256x4096 .f32) (w4 : b4.IsWhole)
    (b5 : Memref sig .tc .vmem S2048x256 .f32) (w5 : b5.IsWhole) (b6 : Memref sig .tc .vmem S2048x256 .f32) (w6 : b6.IsWhole)
    (b7 : Memref sig .tc .vmem S512x256 .bf16) (w7 : b7.IsWhole)
    (s0 : Memref sig .tc .vmem S256x4096 .bf16) (u0 : s0.IsWhole) (s1 : Memref sig .tc .vmem S256x4096 .bf16) (u1 : s1.IsWhole)
    (s2 : Memref sig .tc .vmem S2048x256 .bf16) (u2 : s2.IsWhole) (s3 : Memref sig .tc .vmem S2048x256 .bf16) (u3 : s3.IsWhole)
    (hc : cond0_0 i)
    (x0 : Vec F S512x4096 .bf16) (x1 : Vec F S512x2048 .bf16) (x2 : Vec F S512x2048 .bf16) (x3 : Vec F S256x4096 .f32)
    (x4 : Vec F S256x4096 .f32) (x5 : Vec F S2048x256 .f32) (x6 : Vec F S2048x256 .f32) (E : Set ℕ) (K : PUnit → sProp 𝕄) :
    iprop(owns (c : Thread nD τ) b0 fullShare x0 ∗ owns (c : Thread nD τ) b1 fullShare x1 ∗ owns (c : Thread nD τ) b2 fullShare x2
        ∗ owns (c : Thread nD τ) b3 fullShare x3 ∗ owns (c : Thread nD τ) b4 fullShare x4 ∗ owns (c : Thread nD τ) b5 fullShare x5
        ∗ owns (c : Thread nD τ) b6 fullShare x6 ∗ (∃ d, owns (c : Thread nD τ) b7 fullShare d)
        ∗ (∃ d, owns (c : Thread nD τ) s0 fullShare d) ∗ (∃ d, owns (c : Thread nD τ) s1 fullShare d)
        ∗ (∃ d, owns (c : Thread nD τ) s2 fullShare d) ∗ (∃ d, owns (c : Thread nD τ) s3 fullShare d)
        ∗ (iprop(owns (c : Thread nD τ) b0 fullShare x0 ∗ owns (c : Thread nD τ) b1 fullShare x1 ∗ owns (c : Thread nD τ) b2 fullShare x2
            ∗ owns (c : Thread nD τ) b3 fullShare x3 ∗ owns (c : Thread nD τ) b4 fullShare x4 ∗ owns (c : Thread nD τ) b5 fullShare x5
            ∗ owns (c : Thread nD τ) b6 fullShare x6
            ∗ owns (c : Thread nD τ) b7 fullShare (k0_pay5 x0 (k0_pay1 x3) (k0_pay2 x4) x1 (k0_pay3 x5) x2 (k0_pay4 x6))
            ∗ owns (c : Thread nD τ) s0 fullShare (k0_pay1 x3) ∗ owns (c : Thread nD τ) s1 fullShare (k0_pay2 x4)
            ∗ owns (c : Thread nD τ) s2 fullShare (k0_pay3 x5) ∗ owns (c : Thread nD τ) s3 fullShare (k0_pay4 x6)) -∗ K ⟨⟩))
      ⊢ wp frame (wpE (defs₀ (F := F)) Variants.none c none) E
          (cc0_gated_merge i b0 w0 b1 w1 b2 w2 b3 w3 b4 w4 b5 w5 b6 w6 b7 w7 s0 u0 s1 u1 s2 u2 s3 u3) K := by
  simp only [cc0_gated_merge_eq_skeleton]; unfold cc0_gated_merge_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%e0, %g0, -, S0⟩, ⟨%e1, %g1, -, S1⟩, ⟨%e2, %g2, -, S2⟩, ⟨%e3, %g3, -, S3⟩, Hk⟩
  obtain rfl := w0.eq_unread hf0; obtain rfl := w1.eq_unread hf1; obtain rfl := w2.eq_unread hf2; obtain rfl := w3.eq_unread hf3
  obtain rfl := w4.eq_unread hf4; obtain rfl := w5.eq_unread hf5; obtain rfl := w6.eq_unread hf6
  sl_exec (disch := first | sl_exact hc)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; unfold body_first.sl.v4 body_first.sl.v6 body_first.sl.v9 body_first.sl.v12
    unfold body_first.sl.S0_1 body_first.sl.S1_1 body_first.sl.S2_1 body_first.sl.S3_1
    rw [View.read_writes_full, View.readAt_full b0.view, View.readAt_full b1.view, View.readAt_full b2.view, View.readCov_full s0.view,
      View.readCov_full s1.view, View.readCov_full s2.view, View.readCov_full s3.view, View.readAt_full b3.view, View.readAt_full b4.view,
      View.readAt_full b5.view, View.readAt_full b6.view, hf0, hf1, hf2, hf3, hf4, hf5, hf6]
  isplitl [S0]
  · iexists _; isplitr; swap; · iexact S0
    ipureintro; unfold body_first.sl.S0_1; rw [View.read_writes_full, View.readAt_full, hf3]
  isplitl [S1]
  · iexists _; isplitr; swap; · iexact S1
    ipureintro; unfold body_first.sl.S1_1; rw [View.read_writes_full, View.readAt_full, hf4]
  isplitl [S2]
  · iexists _; isplitr; swap; · iexact S2
    ipureintro; unfold body_first.sl.S2_1; rw [View.read_writes_full, View.readAt_full, hf5]
  iexists _; isplitr; swap; · iexact S3
  ipureintro; unfold body_first.sl.S3_1; rw [View.read_writes_full, View.readAt_full, hf6]

set_option maxHeartbeats 1600000 in
/-- A point inside a column sweep: the four weight buffers are read as the point before left them. -/
theorem body_next (c : Dev nD) (i : grid0.Coords) (b0 : Memref sig .tc .vmem S512x4096 .bf16) (w0 : b0.IsWhole)
    (b1 : Memref sig .tc .vmem S512x2048 .bf16) (w1 : b1.IsWhole) (b2 : Memref sig .tc .vmem S512x2048 .bf16) (w2 : b2.IsWhole)
    (b3 : Memref sig .tc .vmem S256x4096 .f32) (w3 : b3.IsWhole) (b4 : Memref sig .tc .vmem S256x4096 .f32) (w4 : b4.IsWhole)
    (b5 : Memref sig .tc .vmem S2048x256 .f32) (w5 : b5.IsWhole) (b6 : Memref sig .tc .vmem S2048x256 .f32) (w6 : b6.IsWhole)
    (b7 : Memref sig .tc .vmem S512x256 .bf16) (w7 : b7.IsWhole)
    (s0 : Memref sig .tc .vmem S256x4096 .bf16) (u0 : s0.IsWhole) (s1 : Memref sig .tc .vmem S256x4096 .bf16) (u1 : s1.IsWhole)
    (s2 : Memref sig .tc .vmem S2048x256 .bf16) (u2 : s2.IsWhole) (s3 : Memref sig .tc .vmem S2048x256 .bf16) (u3 : s3.IsWhole)
    (hc : ¬cond0_0 i)
    (x0 : Vec F S512x4096 .bf16) (x1 : Vec F S512x2048 .bf16) (x2 : Vec F S512x2048 .bf16) (x3 : Vec F S256x4096 .f32)
    (x4 : Vec F S256x4096 .f32) (x5 : Vec F S2048x256 .f32) (x6 : Vec F S2048x256 .f32)
    (y0 : Vec F S256x4096 .bf16) (y1 : Vec F S256x4096 .bf16) (y2 : Vec F S2048x256 .bf16) (y3 : Vec F S2048x256 .bf16) (E : Set ℕ) (K : PUnit → sProp 𝕄) :
    iprop(owns (c : Thread nD τ) b0 fullShare x0 ∗ owns (c : Thread nD τ) b1 fullShare x1 ∗ owns (c : Thread nD τ) b2 fullShare x2
        ∗ owns (c : Thread nD τ) b3 fullShare x3 ∗ owns (c : Thread nD τ) b4 fullShare x4 ∗ owns (c : Thread nD τ) b5 fullShare x5
        ∗ owns (c : Thread nD τ) b6 fullShare x6 ∗ (∃ d, owns (c : Thread nD τ) b7 fullShare d)
        ∗ owns (c : Thread nD τ) s0 fullShare y0 ∗ owns (c : Thread nD τ) s1 fullShare y1
        ∗ owns (c : Thread nD τ) s2 fullShare y2 ∗ owns (c : Thread nD τ) s3 fullShare y3
        ∗ (iprop(owns (c : Thread nD τ) b0 fullShare x0 ∗ owns (c : Thread nD τ) b1 fullShare x1 ∗ owns (c : Thread nD τ) b2 fullShare x2
            ∗ owns (c : Thread nD τ) b3 fullShare x3 ∗ owns (c : Thread nD τ) b4 fullShare x4 ∗ owns (c : Thread nD τ) b5 fullShare x5
            ∗ owns (c : Thread nD τ) b6 fullShare x6
            ∗ owns (c : Thread nD τ) b7 fullShare (k0_pay5 x0 y0 y1 x1 y2 x2 y3)
            ∗ owns (c : Thread nD τ) s0 fullShare y0 ∗ owns (c : Thread nD τ) s1 fullShare y1
            ∗ owns (c : Thread nD τ) s2 fullShare y2 ∗ owns (c : Thread nD τ) s3 fullShare y3) -∗ K ⟨⟩))
      ⊢ wp frame (wpE (defs₀ (F := F)) Variants.none c none) E
          (cc0_gated_merge i b0 w0 b1 w1 b2 w2 b3 w3 b4 w4 b5 w5 b6 w6 b7 w7 s0 u0 s1 u1 s2 u2 s3 u3) K := by
  simp only [cc0_gated_merge_eq_skeleton]; unfold cc0_gated_merge_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%g0, %hg0, S0⟩, ⟨%g1, %hg1, S1⟩, ⟨%g2, %hg2, S2⟩, ⟨%g3, %hg3, S3⟩, Hk⟩
  obtain rfl := w0.eq_unread hf0; obtain rfl := w1.eq_unread hf1; obtain rfl := w2.eq_unread hf2; obtain rfl := w3.eq_unread hf3
  obtain rfl := w4.eq_unread hf4; obtain rfl := w5.eq_unread hf5; obtain rfl := w6.eq_unread hf6
  obtain rfl := u0.eq_unread hg0; obtain rfl := u1.eq_unread hg1; obtain rfl := u2.eq_unread hg2; obtain rfl := u3.eq_unread hg3
  sl_exec (disch := first | sl_exact hc)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; rw [View.read_writes_full, View.readAt_full b0.view, View.readAt_full b1.view, View.readAt_full b2.view, View.readAt_full s0.view,
      View.readAt_full s1.view, View.readAt_full s2.view, View.readAt_full s3.view, hf0, hf1, hf2, hg0, hg1, hg2, hg3]
  isplitl [S0]
  · iexists _; isplitr; swap; · iexact S0
    ipureintro; exact hg0
  isplitl [S1]
  · iexists _; isplitr; swap; · iexact S1
    ipureintro; exact hg1
  isplitl [S2]
  · iexists _; isplitr; swap; · iexact S2
    ipureintro; exact hg2
  iexists _; isplitr; swap; · iexact S3
  ipureintro; exact hg3

/-! ## The proof data -/

variable (m : (ℓ : Loc nD τ sig) → Buf (Elt F) ℓ) (ρ : Dev nD → PrngReg)

/-- The result tile of point `t`, from the seven blocks staged there. -/
def tile (c : Dev nD) (t : Fin cfg0.N) : Vec F S512x256 .bf16 :=
  k0_pay5 (iblk m c 0 t) (k0_pay1 (iblk m c 3 t)) (k0_pay2 (iblk m c 4 t)) (iblk m c 1 t) (k0_pay3 (iblk m c 5 t)) (iblk m c 2 t)
    (k0_pay4 (iblk m c 6 t))

/-- The four weight buffers hold the rounded weight blocks of point `t`. -/
def held (c : Dev nD) (t : Fin cfg0.N) : sProp 𝕄 :=
  iprop(iprop(owns (c : Thread nD τ) scM0_0 fullShare (k0_pay1 (iblk m c 3 t)) ∗ owns (c : Thread nD τ) scM0_1 fullShare (k0_pay2 (iblk m c 4 t))
      ∗ owns (c : Thread nD τ) scM0_2 fullShare (k0_pay3 (iblk m c 5 t)) ∗ owns (c : Thread nD τ) scM0_3 fullShare (k0_pay4 (iblk m c 6 t)))
    ∗ (∃ r, prngReg c r))

/-- Between points: at the start the buffers hold anything, after point `n` the weight blocks of point `n`. -/
def between (c : Dev nD) : (n : ℕ) → n ≤ cfg0.N → sProp 𝕄
  | 0, _ => Pipeline.ΦA spec0 c
  | n + 1, h => held m c ⟨n, h⟩

theorem between_pos (c : Dev nD) (n : ℕ) (h : n ≤ cfg0.N) (hz : n ≠ 0) :
    between m c n h = held m c ⟨n - 1, by omega⟩ := by
  cases n with
  | zero => exact absurd rfl hz
  | succ n => rfl

/-- Whatever the buffers hold by name, they hold something. -/
theorem held_forget (c : Dev nD) (t : Fin cfg0.N) : held m c t ⊢ Pipeline.ΦA spec0 c := by
  rw [PhiA0_eq]
  unfold held
  iintro ⟨⟨S0, S1, S2, S3⟩, Hg⟩
  isplitl [S0 S1 S2 S3]
  · isplitl [S0]; · iexists _; iexact S0
    isplitl [S1]; · iexists _; iexact S1
    isplitl [S2]; · iexists _; iexact S2
    iexists _; iexact S3
  iexact Hg

theorem between_forget (c : Dev nD) (n : ℕ) (h : n ≤ cfg0.N) : between m c n h ⊢ Pipeline.ΦA spec0 c := by
  cases n with
  | zero => exact Idealize.SL.BI.Entails.refl _
  | succ n => exact held_forget m c ⟨n, h⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => tile m c t
  Φ t := between m c t.val (Nat.le_of_lt_succ t.isLt)
  q w := Pipeline.shareOf spec0 w
  owed _ := 0

theorem dats_A (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = tile m c t := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d
theorem before_6 (c : Dev nD) (t : Fin cfg0.N) (d) : (dats m 0 c).before 6 t d = iblk m c 6 t :=
  before0_6_of m (dats m 0 c) (dats_A m c 6) (after_6 m c) t d

/-! ## A weight block not fetched anew is the block of the point before -/

/-- The point before `t`. -/
abbrev prev (t : Fin cfg0.N) : Fin cfg0.N := ⟨t.val - 1, Nat.lt_of_le_of_lt (Nat.sub_le _ _) t.isLt⟩

theorem weights_3 (c : Dev nD) (t : Fin cfg0.N) (h : ¬t.val % 16 = 0) : iblk m c 3 t = iblk m c 3 (prev t) :=
  (dats m 0 c).fetched_congr 3 (Pipeline.Window.index_eq_of_fetch win0_3 rfl t (Bool.eq_false_iff.mpr fun e => h ((fetch0_3 t).mp e))).2 rfl
    (iblk m c 3 t)
theorem weights_4 (c : Dev nD) (t : Fin cfg0.N) (h : ¬t.val % 16 = 0) : iblk m c 4 t = iblk m c 4 (prev t) :=
  (dats m 0 c).fetched_congr 4 (Pipeline.Window.index_eq_of_fetch win0_4 rfl t (Bool.eq_false_iff.mpr fun e => h ((fetch0_4 t).mp e))).2 rfl
    (iblk m c 4 t)
theorem weights_5 (c : Dev nD) (t : Fin cfg0.N) (h : ¬t.val % 16 = 0) : iblk m c 5 t = iblk m c 5 (prev t) :=
  (dats m 0 c).fetched_congr 5 (Pipeline.Window.index_eq_of_fetch win0_5 rfl t (Bool.eq_false_iff.mpr fun e => h ((fetch0_5 t).mp e))).2 rfl
    (iblk m c 5 t)
theorem weights_6 (c : Dev nD) (t : Fin cfg0.N) (h : ¬t.val % 16 = 0) : iblk m c 6 t = iblk m c 6 (prev t) :=
  (dats m 0 c).fetched_congr 6 (Pipeline.Window.index_eq_of_fetch win0_6 rfl t (Bool.eq_false_iff.mpr fun e => h ((fetch0_6 t).mp e))).2 rfl
    (iblk m c 6 t)

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6, after_7,
    show (dats m 0 c).Φ t.succ = held m c t from rfl,
    show (dats m 0 c).Φ t.castSucc = between m c t.val (Nat.le_of_lt t.isLt) from rfl]
  by_cases h0 : t.val % 16 = 0
  · refine (sep_mono_left (between_forget m c _ _)).trans ?_
    rw [PhiA0_eq]
    unfold held tile
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t) _ _ _ _ _ _ _ _ _ _ _ _ _ _ _ _ _ _ _ _ _ _ _ _ ((hcond0_0 t).mpr h0)
      (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [S0]; · iexact S0
    isplitl [S1]; · iexact S1
    isplitl [S2]; · iexact S2
    isplitl [S3]; · iexact S3
    iintro ⟨H0, H1, H2, H3, H4, H5, H6, H7, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun e => h0 (by rw [e])
    rw [between_pos m c _ _ hz, show (⟨t.val - 1, _⟩ : Fin cfg0.N) = prev t from rfl]
    unfold held tile
    rw [weights_3 m c t h0, weights_4 m c t h0, weights_5 m c t h0, weights_6 m c t h0]
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_next c (grid0.coords t) _ _ _ _ _ _ _ _ _ _ _ _ _ _ _ _ _ _ _ _ _ _ _ _ (fun h => h0 ((hcond0_0 t).mp h))
      (iblk m c 0 t) (iblk m c 1 t) (iblk m c 2 t) (iblk m c 3 (prev t)) (iblk m c 4 (prev t)) (iblk m c 5 (prev t)) (iblk m c 6 (prev t)) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [S0]; · iexact S0
    isplitl [S1]; · iexact S1
    isplitl [S2]; · iexact S2
    isplitl [S3]; · iexact S3
    iintro ⟨H0, H1, H2, H3, H4, H5, H6, H7, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_at m c t) rfl .rfl fun _ => .rfl

/-! ## The run -/

set_option backward.isDefEq.respectTransparency.types false in
theorem run_main : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := dats_A m)
    (hin := fun c => Idealize.SL.BI.Entails.refl _) (hout := fun c => between_forget m c cfg0.N (Nat.le_refl _))

/-- Every run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (dats_A m) ((θ_run defs _ _).mono (fun _ h => h.1) (run_main m ρ)))
    ((θ_run defs _ _).mono (fun _ h => h.2) (run_main m ρ))

/-- The run with the result array named. -/
theorem run : θ_run defs (onTc (τ := τ) (main (F := F))) ⟨m, fun _ => 0, ρ⟩ fun r => ∀ c : Dev nD,
      r.2.mem ((c : Thread nD τ).loc main_v1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.1.1 c).1 7, h.2.1 c⟩) (θ_run_and (run_main m ρ) (frame m ρ))

end Cert.KernelIdeal.Merge

end
-- ==== Proof.MergeValue.lean ====
/-
  What the gated merge computes over the extended reals: the array its launch leaves, entry by entry.
-/
module

public import proofs.«01_k».proof.Proof.MergeRun
public import proofs.«01_k».proof.Proof.Gen.ReferenceIdeal.Run
public import Idealize.ShloMosaic.Lib.Pointwise
public import Idealize.ShloMosaic.Lib.Pipeline.Value
public import Idealize.ShloMosaic.Lib.StableHlo.Run

@[expose] public section

set_option maxRecDepth 16384

noncomputable section

namespace Cert.KernelIdeal.Merge

open Cert.KernelIdeal Cert.KernelIdeal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-- The merged array: each entry is the sum over the two mixers of the gate (the logistic of a row of `h` against a
    gate column of `w`) times the up projection. -/
def merged (h : Vec Ideal S8192x4096 .bf16) (a b : Vec Ideal S8192x2048 .bf16) (w : Vec Ideal S4096x15856 .f32)
    (ua ub : Vec Ideal S2048x4096 .f32) : Vec Ideal S8192x4096 .bf16 := fun i =>
  (Ideal.logistic (∑ k : Fin 4096, h (ix2 (i 0) k) * w (ix2 k ⟨(i 1).val + 7664, by have := (i 1).isLt; simp at this ⊢; omega⟩))
      * (∑ k : Fin 2048, a (ix2 (i 0) k) * ua (ix2 k (i 1)))
    + Ideal.logistic (∑ k : Fin 4096, h (ix2 (i 0) k) * w (ix2 k ⟨(i 1).val + 11760, by have := (i 1).isLt; simp at this ⊢; omega⟩))
      * (∑ k : Fin 2048, b (ix2 (i 0) k) * ub (ix2 k (i 1))) : EReal)

/-- The coordinates of point `t`: it is the 16-row sweep `t / 16` of columns, at row block `t % 16`. -/
theorem at_point : ∀ t : Fin cfg0.N,
    win0_0.index t 0 = t.val % 16 ∧ win0_0.index t 1 = 0
    ∧ win0_1.index t 0 = t.val % 16 ∧ win0_1.index t 1 = 0
    ∧ win0_2.index t 0 = t.val % 16 ∧ win0_2.index t 1 = 0
    ∧ win0_3.index t 0 = t.val / 16 * 256 + 7664 ∧ win0_3.index t 1 = 0
    ∧ win0_4.index t 0 = t.val / 16 * 256 + 11760 ∧ win0_4.index t 1 = 0
    ∧ win0_5.index t 0 = 0 ∧ win0_5.index t 1 = t.val / 16
    ∧ win0_6.index t 0 = 0 ∧ win0_6.index t 1 = t.val / 16
    ∧ win0_7.index t 0 = t.val % 16 ∧ win0_7.index t 1 = t.val / 16 := by decide +kernel

/-- The launch finds the transposed weight in its fourth and fifth operands. -/
theorem weight (c : Dev nD) (y : S15856x4096.Idx) : (V m c main_v0 : Vec Ideal S15856x4096 .f32) y
    = (m ((c : Thread nD τ).loc main_arg3) : Vec Ideal S4096x15856 .f32) (ix2 (y 1) (y 0)) := by
  have e : V m c main_v0 = transpose S15856x4096 [1, 0] (m ((c : Thread nD τ).loc main_arg3)) transposes_S4096x15856_S15856x4096_1_0 := by
    unfold V
    after_results
  rw [e]
  idx_vars y
  pointwise

/-! ## The blocks a point reads, as parts of the arguments -/

/-- A row of the 512-row block of argument 0. -/
theorem read_0 (c : Dev nD) (t : Fin cfg0.N) (r : Fin 512) (k : Fin 4096) :
    (iblk m c 0 t : Vec Ideal S512x4096 .bf16) (ix2 r k)
      = (m ((c : Thread nD τ).loc main_arg0) : Vec Ideal S8192x4096 .bf16) (ix2 ⟨t.val % 16 * 512 + r.val, by omega⟩ k) := by
  show V m c main_arg0 (((cfg0.win 0).blk t).view.emb (ix2 r k)) = _
  rw [V_main_arg0]
  congr 1
  funext a; apply Fin.ext
  obtain ⟨h0, h1, -⟩ := at_point t
  match a with
  | 0 => show win0_0.index t 0 * 512 + 1 * r.val = _; rw [h0]; simp
  | 1 => show win0_0.index t 1 * 4096 + 1 * k.val = _; rw [h1]; simp

/-- A row of the 512-row block of argument 1. -/
theorem read_1 (c : Dev nD) (t : Fin cfg0.N) (r : Fin 512) (k : Fin 2048) :
    (iblk m c 1 t : Vec Ideal S512x2048 .bf16) (ix2 r k)
      = (m ((c : Thread nD τ).loc main_arg1) : Vec Ideal S8192x2048 .bf16) (ix2 ⟨t.val % 16 * 512 + r.val, by omega⟩ k) := by
  show V m c main_arg1 (((cfg0.win 1).blk t).view.emb (ix2 r k)) = _
  rw [V_main_arg1]
  congr 1
  funext a; apply Fin.ext
  obtain ⟨-, -, h0, h1, -⟩ := at_point t
  match a with
  | 0 => show win0_1.index t 0 * 512 + 1 * r.val = _; rw [h0]; simp
  | 1 => show win0_1.index t 1 * 2048 + 1 * k.val = _; rw [h1]; simp

/-- A row of the 512-row block of argument 2. -/
theorem read_2 (c : Dev nD) (t : Fin cfg0.N) (r : Fin 512) (k : Fin 2048) :
    (iblk m c 2 t : Vec Ideal S512x2048 .bf16) (ix2 r k)
      = (m ((c : Thread nD τ).loc main_arg2) : Vec Ideal S8192x2048 .bf16) (ix2 ⟨t.val % 16 * 512 + r.val, by omega⟩ k) := by
  show V m c main_arg2 (((cfg0.win 2).blk t).view.emb (ix2 r k)) = _
  rw [V_main_arg2]
  congr 1
  funext a; apply Fin.ext
  obtain ⟨-, -, -, -, h0, h1, -⟩ := at_point t
  match a with
  | 0 => show win0_2.index t 0 * 512 + 1 * r.val = _; rw [h0]; simp
  | 1 => show win0_2.index t 1 * 2048 + 1 * k.val = _; rw [h1]; simp

/-- The gate columns from column 7664 of the weight, met transposed. -/
theorem read_3 (c : Dev nD) (t : Fin cfg0.N) (r : Fin 256) (k : Fin 4096) :
    (iblk m c 3 t : Vec Ideal S256x4096 .f32) (ix2 r k)
      = (m ((c : Thread nD τ).loc main_arg3) : Vec Ideal S4096x15856 .f32) (ix2 k ⟨t.val / 16 * 256 + 7664 + r.val, by have : t.val < 256 := t.isLt; omega⟩) := by
  show V m c main_v0 (((cfg0.win 3).blk t).view.emb (ix2 r k)) = _
  rw [weight]
  congr 1
  funext a; apply Fin.ext
  obtain ⟨-, -, -, -, -, -, h0, h1, -⟩ := at_point t
  match a with
  | 0 => show win0_3.index t 1 + 1 * k.val = _; rw [h1]; simp
  | 1 => show win0_3.index t 0 + 1 * r.val = _; rw [h0]; simp

/-- The gate columns from column 11760 of the weight, met transposed. -/
theorem read_4 (c : Dev nD) (t : Fin cfg0.N) (r : Fin 256) (k : Fin 4096) :
    (iblk m c 4 t : Vec Ideal S256x4096 .f32) (ix2 r k)
      = (m ((c : Thread nD τ).loc main_arg3) : Vec Ideal S4096x15856 .f32) (ix2 k ⟨t.val / 16 * 256 + 11760 + r.val, by have : t.val < 256 := t.isLt; omega⟩) := by
  show V m c main_v0 (((cfg0.win 4).blk t).view.emb (ix2 r k)) = _
  rw [weight]
  congr 1
  funext a; apply Fin.ext
  obtain ⟨-, -, -, -, -, -, -, -, h0, h1, -⟩ := at_point t
  match a with
  | 0 => show win0_4.index t 1 + 1 * k.val = _; rw [h1]; simp
  | 1 => show win0_4.index t 0 + 1 * r.val = _; rw [h0]; simp

/-- A column of the 256-column block of argument 4. -/
theorem read_5 (c : Dev nD) (t : Fin cfg0.N) (r : Fin 2048) (k : Fin 256) :
    (iblk m c 5 t : Vec Ideal S2048x256 .f32) (ix2 r k)
      = (m ((c : Thread nD τ).loc main_arg4) : Vec Ideal S2048x4096 .f32) (ix2 r ⟨t.val / 16 * 256 + k.val, by have : t.val < 256 := t.isLt; omega⟩) := by
  show V m c main_arg4 (((cfg0.win 5).blk t).view.emb (ix2 r k)) = _
  rw [V_main_arg4]
  congr 1
  funext a; apply Fin.ext
  obtain ⟨-, -, -, -, -, -, -, -, -, -, h0, h1, -⟩ := at_point t
  match a with
  | 0 => show win0_5.index t 0 * 2048 + 1 * r.val = _; rw [h0]; simp
  | 1 => show win0_5.index t 1 * 256 + 1 * k.val = _; rw [h1]; simp

/-- A column of the 256-column block of argument 5. -/
theorem read_6 (c : Dev nD) (t : Fin cfg0.N) (r : Fin 2048) (k : Fin 256) :
    (iblk m c 6 t : Vec Ideal S2048x256 .f32) (ix2 r k)
      = (m ((c : Thread nD τ).loc main_arg5) : Vec Ideal S2048x4096 .f32) (ix2 r ⟨t.val / 16 * 256 + k.val, by have : t.val < 256 := t.isLt; omega⟩) := by
  show V m c main_arg5 (((cfg0.win 6).blk t).view.emb (ix2 r k)) = _
  rw [V_main_arg5]
  congr 1
  funext a; apply Fin.ext
  obtain ⟨-, -, -, -, -, -, -, -, -, -, -, -, h0, h1, -⟩ := at_point t
  match a with
  | 0 => show win0_6.index t 0 * 2048 + 1 * r.val = _; rw [h0]; simp
  | 1 => show win0_6.index t 1 * 256 + 1 * k.val = _; rw [h1]; simp

/-! ## The result array -/

/-- The merged array of a launch memory's arguments. -/
def result (c : Dev nD) : Vec Ideal S8192x4096 .bf16 :=
  merged (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The tile a point computes is the merged array's at the tile's place. -/
theorem tile_apply (c : Dev nD) (t : Fin cfg0.N) (r : Fin 512) (q : Fin 256) :
    (tile m c t : Vec Ideal S512x256 .bf16) (ix2 r q)
      = result m c (ix2 ⟨t.val % 16 * 512 + r.val, by omega⟩ ⟨t.val / 16 * 256 + q.val, by have : t.val < 256 := t.isLt; omega⟩) := by
  pointwise [tile, k0_pay1, k0_pay2, k0_pay3, k0_pay4, k0_pay5]
  simp only [read_0, read_1, read_2, read_3, read_4, read_5, read_6]
  simp only [result, merged, ix2]
  congr! 7 <;> apply Fin.ext <;> simp only <;> omega

/-- What a point writes back is its block of the merged array. -/
theorem flushed_eq (c : Dev nD) (t : Fin cfg0.N) :
    (dats m 0 c).flushed 7 t = ((cfg0.win 7).blk t).view.read (Elt Ideal) (result m c) := by
  show (cfg0.win 7).cut (grid0.coords t) ((dats m 0 c).after 7 t) = _
  rw [after_7]
  funext y
  show (tile m c t : Vec Ideal S512x256 .bf16) y = result m c (((cfg0.win 7).blk t).view.emb y)
  obtain ⟨-, -, -, -, -, -, -, -, -, -, -, -, -, -, h0, h1⟩ := at_point t
  rw [show (tile m c t : Vec Ideal S512x256 .bf16) y = tile m c t (ix2 (y 0) (y 1)) from
    congrArg (tile m c t) (by funext a; match a with | 0 => rfl | 1 => rfl)]
  refine (tile_apply m c t (y 0) (y 1)).trans ?_
  congr 1
  funext a; apply Fin.ext
  match a with
  | 0 => show _ = win0_7.index t 0 * 512 + 1 * (y 0).val; rw [h0]; simp
  | 1 => show _ = win0_7.index t 1 * 256 + 1 * (y 1).val; rw [h1]; simp

theorem mem_blk (t : Fin cfg0.N) (i : S8192x4096.Idx) :
    i ∈ ((cfg0.win 7).blk t).view.set ↔ ∀ a : Fin 2, win0_7.index t a * S512x256.size a ≤ (i a).val
      ∧ (i a).val < win0_7.index t a * S512x256.size a + S512x256.size a := by
  show i ∈ ((View.whole main_v1).slice (win0_7.rect t)).set ↔ _
  rw [View.set_slice_whole, Rect.mem_set_unit]
  exact Iff.rfl

/-- Every entry of the result lies in the block some point writes back. -/
theorem cover (i : S8192x4096.Idx) : ∃ t : Fin cfg0.N, (cfg0.win 7).flush t = true ∧ i ∈ ((cfg0.win 7).blk t).view.set := by
  have h0 : (i 0).val < 8192 := (i 0).isLt
  have h1 : (i 1).val < 4096 := (i 1).isLt
  let t : Fin cfg0.N := ⟨(i 1).val / 256 * 16 + (i 0).val / 512, show _ < 256 by omega⟩
  have ht : t.val = (i 1).val / 256 * 16 + (i 0).val / 512 := rfl
  refine ⟨t, flush0_7 t, (mem_blk t i).2 ?_⟩
  obtain ⟨-, -, -, -, -, -, -, -, -, -, -, -, -, -, e0, e1⟩ := at_point t
  intro a
  match a with
  | 0 => rw [show win0_7.index t 0 = _ from e0]; show _ * 512 ≤ (i 0).val ∧ (i 0).val < _ * 512 + 512; omega
  | 1 => rw [show win0_7.index t 1 = _ from e1]; show _ * 256 ≤ (i 1).val ∧ (i 1).val < _ * 256 + 256; omega

theorem final (c : Dev nD) : (dats m 0 c).arrAt 7 cfg0.N = result m c :=
  (dats m 0 c).arrAt_eq_of_cover 7 (result m c) (fun t _ => flushed_eq m c t) cover

end Cert.KernelIdeal.Merge

end
-- ==== Proof.MemoryValue.lean ====
/-
  What the memory cross-attention computes over the extended reals: each row of the input, normalised and projected to
  four heads of queries, attends to the 256 memory slots of its batch; the heads' outputs are projected and added to the row.
-/
module

public import proofs.«01_k».proof.Proof.Gen.Kernel2Ideal.Frame
public import proofs.«01_k».proof.Proof.Gen.Reference2Ideal.Run
public import Idealize.ShloMosaic.Lib.Pointwise
public import Idealize.ShloMosaic.Lib.Pipeline.Value
public import Idealize.ShloMosaic.Lib.Pipeline.ValueKit
public import Idealize.ShloMosaic.Lib.StableHlo.Run
public import Idealize.ShloMosaic.Lib.Claim

@[expose] public section

set_option maxRecDepth 16384

noncomputable section

namespace Cert.Kernel2Ideal.Memory

open Cert.Kernel2Ideal Cert.Kernel2Ideal.Gen
open Idealize.ShloMosaic Idealize.ShloMosaic.TcCoe Idealize.ShloMosaic.Tactic
open Idealize.SL.Sem
open Idealize.ShloMosaic.Pipeline (Dat Cfg Window)

/-! ## One query against the memory -/

/-- The scaled product of a query with a key. -/
def score (q : Fin 128 → EReal) (k : Fin 256 → Fin 128 → EReal) (n : Fin 256) : EReal :=
  (∑ d, q d * k n d) * Ideal.ofBits FTy.f32 1035273459#32

/-- The exponential of a score less the greatest score. -/
def weight (q : Fin 128 → EReal) (k : Fin 256 → Fin 128 → EReal) (n : Fin 256) : EReal :=
  Ideal.exp (score q k n - Finset.fold max (Ideal.ofBits FTy.f32 4286578688#32) (score q k) Finset.univ)

/-- The softmax of a query's scores. -/
def share (q : Fin 128 → EReal) (k : Fin 256 → Fin 128 → EReal) (n : Fin 256) : EReal :=
  Ideal.div (weight q k n) (∑ n', weight q k n')

/-- The values averaged with those shares. -/
def attend (q : Fin 128 → EReal) (k : Fin 256 → Fin 128 → EReal) (v : Fin 256 → EReal) : EReal := ∑ n, share q k n * v n

/-- Entry `j` of the query of a row: the row over the root of its mean square plus a small constant, times `g`, through `w`. -/
def query (x : Fin 4096 → EReal) (g : Fin 4096 → EReal) (w : Fin 4096 → Fin 512 → EReal) (j : Fin 512) : EReal :=
  ∑ k, x k * Ideal.rsqrt (Ideal.div (∑ l, x l * x l) (Ideal.ofBits FTy.f32 1166016512#32) + Ideal.ofBits FTy.f32 897988541#32) * g k * w k j

/-- Position `d` of head `h` among the 512 columns. -/
abbrev col (h : Fin 4) (d : Fin 128) : Fin 512 := ⟨h.val * 128 + d.val, by omega⟩
/-- The head a column lies in. -/
abbrev headOf (j : Fin 512) : Fin 4 := ⟨j.val / 128, by omega⟩

/-- A row of the result, from the row, the normalisation's weights, the two projections and the batch's keys and values. -/
def row (x : Fin 4096 → EReal) (g : Fin 4096 → EReal) (w : Fin 4096 → Fin 512 → EReal) (k v : Fin 256 → Fin 512 → EReal)
    (wo : Fin 512 → Fin 4096 → EReal) (j : Fin 4096) : EReal :=
  x j + ∑ e, attend (fun d => query x g w (col (headOf e) d)) (fun n d => k n (col (headOf e) d)) (fun n => v n e) * wo e j

/-- The result array. -/
def attended (x : Vec Ideal S8192x4096 .f32) (k v : Vec Ideal S4x256x512 .bf16) (g : Vec Ideal S4096 .f32)
    (w : Vec Ideal S4096x512 .f32) (wo : Vec Ideal S512x4096 .f32) : Vec Ideal S8192x4096 .f32 := fun i =>
  row (fun j => x (ix2 (i 0) j)) (fun j => g (ix1 j)) (fun a b => w (ix2 a b))
    (fun n j => k (ix3 ⟨(i 0).val / 2048, by have := (i 0).isLt; simp at this; omega⟩ n j))
    (fun n j => v (ix3 ⟨(i 0).val / 2048, by have := (i 0).isLt; simp at this; omega⟩ n j))
    (fun a b => wo (ix2 a b)) (i 1)

/-- The greatest of some scores is at least the value the search starts from. -/
theorem fold_max_bot (f : Fin 256 → EReal) :
    max (Ideal.ofBits FTy.f32 4286578688#32) (Finset.fold max (Ideal.ofBits FTy.f32 4286578688#32) f Finset.univ)
      = Finset.fold max (Ideal.ofBits FTy.f32 4286578688#32) f Finset.univ :=
  max_eq_right (Finset.le_fold_max _ |>.2 (Or.inl le_rfl))

/-! ## The kernel's values -/

theorem query_apply (x : Vec Ideal S256x4096 .f32) (g : Vec Ideal S1x4096 .f32) (w : Vec Ideal S4096x512 .bf16) (r : Fin 256) (j : Fin 512) :
    (k0_pay2 x g w : Vec Ideal S256x512 .bf16) (ix2 r j)
      = query (fun k => x (ix2 r k)) (fun k => g (ix2 0 k)) (fun a b => w (ix2 a b)) j := by
  pointwise [k0_pay2]
  simp only [query]

/-- The first head's shares. -/
theorem share_0 (x : Vec Ideal S256x4096 .f32) (g : Vec Ideal S1x4096 .f32) (w : Vec Ideal S4096x512 .bf16) (k : Vec Ideal S1x128x256 .bf16)
    (r n : Fin 256) :
    (k0_pay3 x g w k : Vec Ideal S256x256 .bf16) (ix2 r n)
      = share (fun d => (k0_pay2 x g w : Vec Ideal S256x512 .bf16) (ix2 r (col 0 d))) (fun n d => k (ix3 0 d n)) n := by
  unfold k0_pay3
  generalize k0_pay2 x g w = q
  have hc : ∀ d : Fin 128, col 0 d = ⟨d.val, by omega⟩ := fun d => Fin.ext (by simp)
  pointwise
  simp only [hc]
  rfl

theorem head_0 (p : Vec Ideal S256x256 .bf16) (v : Vec Ideal S256x128 .bf16) (r : Fin 256) (d : Fin 128) :
    (k0_pay5 p (k0_pay4 v) (constant S256x128 .f32 0x00000000#32) : Vec Ideal S256x128 .bf16) (ix2 r d)
      = ∑ n, p (ix2 r n) * v (ix2 n d) := by
  pointwise [k0_pay5, k0_pay4]

theorem head_1 (q : Vec Ideal S256x512 .bf16) (k : Vec Ideal S1x128x256 .bf16) (v : Vec Ideal S256x128 .bf16) (r : Fin 256) (d : Fin 128) :
    (k0_pay6 q k v : Vec Ideal S256x128 .bf16) (ix2 r d)
      = attend (fun d => q (ix2 r (col 1 d))) (fun n d => k (ix3 0 d n)) (fun n => v (ix2 n d)) := by
  pointwise [k0_pay6]
  rfl

theorem share_2 (q : Vec Ideal S256x512 .bf16) (k : Vec Ideal S1x128x256 .bf16) (r n : Fin 256) :
    (k0_pay7 q k : Vec Ideal S256x256 .bf16) (ix2 r n)
      = share (fun d => q (ix2 r (col 2 d))) (fun n d => k (ix3 0 d n)) n := by
  pointwise [k0_pay7]
  rfl

/-- The four heads side by side, projected and added to the row. -/
theorem last_apply (x : Vec Ideal S256x4096 .f32) (q : Vec Ideal S256x512 .bf16) (a b : Vec Ideal S256x128 .bf16)
    (p : Vec Ideal S256x256 .bf16) (v : Vec Ideal S256x128 .bf16) (k3 : Vec Ideal S1x128x256 .bf16) (v3 : Vec Ideal S256x128 .bf16)
    (wo : Vec Ideal S512x4096 .bf16) (r : Fin 256) (j : Fin 4096) :
    (k0_pay1 x q a b p (k0_pay8 v) (constant S256x128 .f32 0x00000000#32) k3 v3 wo : Vec Ideal S256x4096 .f32) (ix2 r j)
      = x (ix2 r j) + ∑ e : Fin 512,
        (if h : e.val < 128 then a (ix2 r ⟨e.val, h⟩)
          else if h : e.val - 128 < 128 then b (ix2 r ⟨e.val - 128, h⟩)
          else if h : e.val - 128 - 128 < 128 then ∑ n, p (ix2 r n) * v (ix2 n ⟨e.val - 128 - 128, h⟩)
          else attend (fun d => q (ix2 r (col 3 d))) (fun n d => k3 (ix3 0 d n)) (fun n => v3 (ix2 n ⟨e.val - 128 - 128 - 128, by omega⟩)))
        * wo (ix2 e j) := by
  pointwise [k0_pay1, k0_pay8]
  rfl

/-! Head `h`'s keys and values among the loaded blocks. -/

theorem keys_0 (k : Vec Ideal S1x512x256 .bf16) (d : Fin 128) (n : Fin 256) :
    (View.ld k r0_3 : Vec Ideal S1x128x256 .bf16) (ix3 0 d n) = k (ix3 0 (col 0 d) n) := by
  rw [View.ld_apply]; congr 1; funext a; apply Fin.ext
  match a with
  | 0 => rfl
  | 1 => show 0 + 1 * d.val = 0 * 128 + d.val; omega
  | 2 => show 0 + 1 * n.val = n.val; omega
theorem keys_1 (k : Vec Ideal S1x512x256 .bf16) (d : Fin 128) (n : Fin 256) :
    (View.ld k r0_5 : Vec Ideal S1x128x256 .bf16) (ix3 0 d n) = k (ix3 0 (col 1 d) n) := by
  rw [View.ld_apply]; congr 1; funext a; apply Fin.ext
  match a with
  | 0 => rfl
  | 1 => show 128 + 1 * d.val = 1 * 128 + d.val; omega
  | 2 => show 0 + 1 * n.val = n.val; omega
theorem keys_2 (k : Vec Ideal S1x512x256 .bf16) (d : Fin 128) (n : Fin 256) :
    (View.ld k r0_7 : Vec Ideal S1x128x256 .bf16) (ix3 0 d n) = k (ix3 0 (col 2 d) n) := by
  rw [View.ld_apply]; congr 1; funext a; apply Fin.ext
  match a with
  | 0 => rfl
  | 1 => show 256 + 1 * d.val = 2 * 128 + d.val; omega
  | 2 => show 0 + 1 * n.val = n.val; omega
theorem keys_3 (k : Vec Ideal S1x512x256 .bf16) (d : Fin 128) (n : Fin 256) :
    (View.ld k r0_9 : Vec Ideal S1x128x256 .bf16) (ix3 0 d n) = k (ix3 0 (col 3 d) n) := by
  rw [View.ld_apply]; congr 1; funext a; apply Fin.ext
  match a with
  | 0 => rfl
  | 1 => show 384 + 1 * d.val = 3 * 128 + d.val; omega
  | 2 => show 0 + 1 * n.val = n.val; omega
theorem vals_0 (v : Vec Ideal S256x512 .bf16) (d : Fin 128) (n : Fin 256) :
    (View.ld v r0_4 : Vec Ideal S256x128 .bf16) (ix2 n d) = v (ix2 n (col 0 d)) := by
  rw [View.ld_apply]; congr 1; funext a; apply Fin.ext
  match a with
  | 0 => show 0 + 1 * n.val = n.val; omega
  | 1 => show 0 + 1 * d.val = 0 * 128 + d.val; omega
theorem vals_1 (v : Vec Ideal S256x512 .bf16) (d : Fin 128) (n : Fin 256) :
    (View.ld v r0_6 : Vec Ideal S256x128 .bf16) (ix2 n d) = v (ix2 n (col 1 d)) := by
  rw [View.ld_apply]; congr 1; funext a; apply Fin.ext
  match a with
  | 0 => show 0 + 1 * n.val = n.val; omega
  | 1 => show 128 + 1 * d.val = 1 * 128 + d.val; omega
theorem vals_2 (v : Vec Ideal S256x512 .bf16) (d : Fin 128) (n : Fin 256) :
    (View.ld v r0_8 : Vec Ideal S256x128 .bf16) (ix2 n d) = v (ix2 n (col 2 d)) := by
  rw [View.ld_apply]; congr 1; funext a; apply Fin.ext
  match a with
  | 0 => show 0 + 1 * n.val = n.val; omega
  | 1 => show 256 + 1 * d.val = 2 * 128 + d.val; omega
theorem vals_3 (v : Vec Ideal S256x512 .bf16) (d : Fin 128) (n : Fin 256) :
    (View.ld v r0_10 : Vec Ideal S256x128 .bf16) (ix2 n d) = v (ix2 n (col 3 d)) := by
  rw [View.ld_apply]; congr 1; funext a; apply Fin.ext
  match a with
  | 0 => show 0 + 1 * n.val = n.val; omega
  | 1 => show 384 + 1 * d.val = 3 * 128 + d.val; omega

/-- The block the body leaves, row by row. -/
theorem out_apply (x : Vec Ideal S256x4096 .f32) (g : Vec Ideal S1x4096 .f32) (w : Vec Ideal S4096x512 .bf16) (k : Vec Ideal S1x512x256 .bf16)
    (v : Vec Ideal S256x512 .bf16) (wo : Vec Ideal S512x4096 .bf16) (r : Fin 256) (j : Fin 4096) :
    (out0_6 x g w k v wo : Vec Ideal S256x4096 .f32) (ix2 r j)
      = row (fun j => x (ix2 r j)) (fun j => g (ix2 0 j)) (fun a b => w (ix2 a b)) (fun n j => k (ix3 0 j n)) (fun n j => v (ix2 n j))
          (fun a b => wo (ix2 a b)) j := by
  unfold out0_6 k0_pay9
  rw [View.canon_cons_unit_lit _ _ _ (by decide), View.ld_unit_lit _ x (by decide), View.ld_unit_lit _ g (by decide),
    View.ld_unit_lit _ w (by decide), View.ld_unit_lit _ wo (by decide), last_apply]
  unfold row
  congr 1
  refine Finset.sum_congr rfl fun e _ => ?_
  congr 1
  simp only [head_0, share_0, head_1, share_2, query_apply]
  have h := e.isLt
  have at_col : ∀ (i : Fin 4) (d : Fin 128), e.val = i.val * 128 + d.val → headOf e = i ∧ e = col i d := fun i d hd =>
    ⟨Fin.ext (by show e.val / 128 = i.val; omega), Fin.ext hd⟩
  by_cases h0 : e.val < 128
  · rw [dif_pos h0]
    obtain ⟨e1, e2⟩ := at_col 0 ⟨e.val, h0⟩ (by simp)
    rw [e1]
    exact Finset.sum_congr rfl fun n _ => congrArg₂ (· * ·) (congrArg (fun k => share _ k n) (funext fun n => funext fun d => keys_0 k d n))
      ((vals_0 v _ n).trans (by rw [← e2]))
  rw [dif_neg h0]
  by_cases h1 : e.val - 128 < 128
  · rw [dif_pos h1]
    obtain ⟨e1, e2⟩ := at_col 1 ⟨e.val - 128, h1⟩ (by simp; omega)
    rw [e1]
    exact Finset.sum_congr rfl fun n _ => congrArg₂ (· * ·) (congrArg (fun k => share _ k n) (funext fun n => funext fun d => keys_1 k d n))
      ((vals_1 v _ n).trans (by rw [← e2]))
  rw [dif_neg h1]
  by_cases h2 : e.val - 128 - 128 < 128
  · rw [dif_pos h2]
    obtain ⟨e1, e2⟩ := at_col 2 ⟨e.val - 128 - 128, h2⟩ (by simp; omega)
    rw [e1]
    exact Finset.sum_congr rfl fun n _ => congrArg₂ (· * ·) (congrArg (fun k => share _ k n) (funext fun n => funext fun d => keys_2 k d n))
      ((vals_2 v _ n).trans (by rw [← e2]))
  rw [dif_neg h2]
  obtain ⟨e1, e2⟩ := at_col 3 ⟨e.val - 128 - 128 - 128, by omega⟩ (by simp; omega)
  rw [e1]
  exact Finset.sum_congr rfl fun n _ => congrArg₂ (· * ·) (congrArg (fun k => share _ k n) (funext fun n => funext fun d => keys_3 k d n))
    ((vals_3 v _ n).trans (by rw [← e2]))

variable (m : (ℓ : Loc nD τ sig) → Buf (Elt Ideal) ℓ)

/-! ## The blocks a point reads -/

/-- Point `t` is row block `t`, of batch `t / 8`. -/
theorem at_point : ∀ t : Fin cfg0.N,
    win0_0.index t 0 = t.val ∧ win0_0.index t 1 = 0
    ∧ win0_1.index t 0 = 0 ∧ win0_1.index t 1 = 0
    ∧ win0_2.index t 0 = 0 ∧ win0_2.index t 1 = 0
    ∧ win0_3.index t 0 = t.val / 8 ∧ win0_3.index t 1 = 0 ∧ win0_3.index t 2 = 0
    ∧ win0_4.index t 0 = t.val / 8 ∧ win0_4.index t 1 = 1
    ∧ win0_5.index t 0 = 0 ∧ win0_5.index t 1 = 0
    ∧ win0_6.index t 0 = t.val ∧ win0_6.index t 1 = 0 := by decide +kernel

theorem V_keys (c : Dev nD) (b : Fin 4) (j : Fin 512) (n : Fin 256) : (V m c main_v0 : Vec Ideal S4x512x256 .bf16) (ix3 b j n)
    = (m ((c : Thread nD τ).loc main_arg1) : Vec Ideal S4x256x512 .bf16) (ix3 b n j) := by
  have e : V m c main_v0 = transpose S4x512x256 [0, 2, 1] (m ((c : Thread nD τ).loc main_arg1)) transposes_S4x256x512_S4x512x256_0_2_1 := by
    unfold V
    after_results
  rw [e]
  pointwise

theorem beside_apply (a b : Vec Ideal S4x256x512 .bf16) (i : Fin 1024) (j : Fin 512) :
    (concatenate S1024x1024 1 [⟨S1024x512, (shapeCast S1024x512 a shapeCasts_S4x256x512_S1024x512 : Vec Ideal S1024x512 .bf16)⟩,
      ⟨S1024x512, shapeCast S1024x512 b shapeCasts_S4x256x512_S1024x512⟩] concatenates_S1024x512_S1024x512_S1024x1024_d1
        : Vec Ideal S1024x1024 .bf16) (ix2 i ⟨512 + j.val, by omega⟩) = b (ix3 ⟨i.val / 256, by omega⟩ ⟨i.val % 256, by omega⟩ j) := by
  pointwise

theorem V_vals (c : Dev nD) (i : Fin 1024) (j : Fin 512) :
    (V m c main_v3 : Vec Ideal S1024x1024 .bf16) (ix2 i ⟨512 + j.val, by omega⟩)
      = (m ((c : Thread nD τ).loc main_arg2) : Vec Ideal S4x256x512 .bf16) (ix3 ⟨i.val / 256, by omega⟩ ⟨i.val % 256, by omega⟩ j) := by
  have e : V m c main_v3 = concatenate S1024x1024 1 [⟨S1024x512, shapeCast S1024x512 (m ((c : Thread nD τ).loc main_arg1)) shapeCasts_S4x256x512_S1024x512⟩,
      ⟨S1024x512, shapeCast S1024x512 (m ((c : Thread nD τ).loc main_arg2)) shapeCasts_S4x256x512_S1024x512⟩] concatenates_S1024x512_S1024x512_S1024x1024_d1 := by
    unfold V
    after_results
    rfl
  rw [e]
  exact beside_apply (m ((c : Thread nD τ).loc main_arg1)) (m ((c : Thread nD τ).loc main_arg2)) i j

theorem V_wq (c : Dev nD) : (V m c main_v4 : Vec Ideal S4096x512 .bf16) = (m ((c : Thread nD τ).loc main_arg4) : Vec Ideal S4096x512 .f32) := by
  unfold V
  after_results
  rfl

theorem V_wo (c : Dev nD) : (V m c main_v5 : Vec Ideal S512x4096 .bf16) = (m ((c : Thread nD τ).loc main_arg5) : Vec Ideal S512x4096 .f32) := by
  unfold V
  after_results
  rfl

theorem gain_apply (g : Vec Ideal S4096 .f32) (k : Fin 4096) :
    (shapeCast S1x4096 g shapeCasts_S4096_S1x4096 : Vec Ideal S1x4096 .f32) (ix2 0 k) = g (ix1 k) := by
  pointwise

theorem V_gain (c : Dev nD) (k : Fin 4096) : (V m c main_v6 : Vec Ideal S1x4096 .f32) (ix2 0 k)
    = (m ((c : Thread nD τ).loc main_arg3) : Vec Ideal S4096 .f32) (ix1 k) := by
  have e : V m c main_v6 = shapeCast S1x4096 (m ((c : Thread nD τ).loc main_arg3)) shapeCasts_S4096_S1x4096 := by
    unfold V
    after_results
    rfl
  rw [e]
  exact gain_apply (m ((c : Thread nD τ).loc main_arg3)) k

theorem read_0 (c : Dev nD) (t : Fin cfg0.N) (r : Fin 256) (k : Fin 4096) :
    (iblk m c 0 t : Vec Ideal S256x4096 .f32) (ix2 r k)
      = (m ((c : Thread nD τ).loc main_arg0) : Vec Ideal S8192x4096 .f32) (ix2 ⟨t.val * 256 + r.val, by have : t.val < 32 := t.isLt; omega⟩ k) := by
  show V m c main_arg0 (((cfg0.win 0).blk t).view.emb (ix2 r k)) = _
  rw [V_main_arg0]
  congr 1
  funext a; apply Fin.ext
  obtain ⟨h0, h1, -⟩ := at_point t
  match a with
  | 0 => show win0_0.index t 0 * 256 + 1 * r.val = _; rw [h0]; simp
  | 1 => show win0_0.index t 1 * 4096 + 1 * k.val = _; rw [h1]; simp

theorem read_1 (c : Dev nD) (t : Fin cfg0.N) (k : Fin 4096) :
    (iblk m c 1 t : Vec Ideal S1x4096 .f32) (ix2 0 k) = (m ((c : Thread nD τ).loc main_arg3) : Vec Ideal S4096 .f32) (ix1 k) := by
  rw [← V_gain m c]
  show V m c main_v6 (((cfg0.win 1).blk t).view.emb (ix2 0 k)) = _
  congr 1
  funext a; apply Fin.ext
  obtain ⟨-, -, h0, h1, -⟩ := at_point t
  match a with
  | 0 => show win0_1.index t 0 * 1 + 1 * 0 = 0; rw [h0]
  | 1 => show win0_1.index t 1 * 4096 + 1 * k.val = _; rw [h1]; simp

theorem read_2 (c : Dev nD) (t : Fin cfg0.N) (k : Fin 4096) (j : Fin 512) :
    (iblk m c 2 t : Vec Ideal S4096x512 .bf16) (ix2 k j) = (m ((c : Thread nD τ).loc main_arg4) : Vec Ideal S4096x512 .f32) (ix2 k j) := by
  show V m c main_v4 (((cfg0.win 2).blk t).view.emb (ix2 k j)) = _
  rw [V_wq]
  congr 1
  funext a; apply Fin.ext
  obtain ⟨-, -, -, -, h0, h1, -⟩ := at_point t
  match a with
  | 0 => show win0_2.index t 0 * 4096 + 1 * k.val = _; rw [h0]; simp
  | 1 => show win0_2.index t 1 * 512 + 1 * j.val = _; rw [h1]; simp

theorem read_3 (c : Dev nD) (t : Fin cfg0.N) (j : Fin 512) (n : Fin 256) :
    (iblk m c 3 t : Vec Ideal S1x512x256 .bf16) (ix3 0 j n)
      = (m ((c : Thread nD τ).loc main_arg1) : Vec Ideal S4x256x512 .bf16) (ix3 ⟨t.val / 8, by have : t.val < 32 := t.isLt; omega⟩ n j) := by
  rw [← V_keys m c]
  show V m c main_v0 (((cfg0.win 3).blk t).view.emb (ix3 0 j n)) = _
  congr 1
  funext a; apply Fin.ext
  obtain ⟨-, -, -, -, -, -, h0, h1, h2, -⟩ := at_point t
  match a with
  | 0 => show win0_3.index t 0 * 1 + 1 * 0 = _; rw [h0]; simp
  | 1 => show win0_3.index t 1 * 512 + 1 * j.val = _; rw [h1]; simp
  | 2 => show win0_3.index t 2 * 256 + 1 * n.val = _; rw [h2]; simp

theorem read_4 (c : Dev nD) (t : Fin cfg0.N) (n : Fin 256) (j : Fin 512) :
    (iblk m c 4 t : Vec Ideal S256x512 .bf16) (ix2 n j)
      = (m ((c : Thread nD τ).loc main_arg2) : Vec Ideal S4x256x512 .bf16) (ix3 ⟨t.val / 8, by have : t.val < 32 := t.isLt; omega⟩ n j) := by
  have ht : t.val < 32 := t.isLt
  have e := V_vals m c ⟨t.val / 8 * 256 + n.val, by omega⟩ j
  rw [show (⟨(t.val / 8 * 256 + n.val) / 256, by omega⟩ : Fin 4) = ⟨t.val / 8, by omega⟩ from Fin.ext (by simp; omega),
    show (⟨(t.val / 8 * 256 + n.val) % 256, by omega⟩ : Fin 256) = n from Fin.ext (by simp only; omega)] at e
  rw [← e]
  show V m c main_v3 (((cfg0.win 4).blk t).view.emb (ix2 n j)) = _
  congr 1
  funext a; apply Fin.ext
  obtain ⟨-, -, -, -, -, -, -, -, -, h0, h1, -⟩ := at_point t
  match a with
  | 0 => show win0_4.index t 0 * 256 + 1 * n.val = _; rw [h0]; simp
  | 1 => show win0_4.index t 1 * 512 + 1 * j.val = _; rw [h1]; simp

theorem read_5 (c : Dev nD) (t : Fin cfg0.N) (k : Fin 512) (j : Fin 4096) :
    (iblk m c 5 t : Vec Ideal S512x4096 .bf16) (ix2 k j) = (m ((c : Thread nD τ).loc main_arg5) : Vec Ideal S512x4096 .f32) (ix2 k j) := by
  show V m c main_v5 (((cfg0.win 5).blk t).view.emb (ix2 k j)) = _
  rw [V_wo]
  congr 1
  funext a; apply Fin.ext
  obtain ⟨-, -, -, -, -, -, -, -, -, -, -, h0, h1, -⟩ := at_point t
  match a with
  | 0 => show win0_5.index t 0 * 512 + 1 * k.val = _; rw [h0]; simp
  | 1 => show win0_5.index t 1 * 4096 + 1 * j.val = _; rw [h1]; simp

/-! ## The result array -/

def result (c : Dev nD) : Vec Ideal S8192x4096 .f32 :=
  attended (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The block point `t` leaves in its result buffer. -/
def tile (c : Dev nD) (t : Fin cfg0.N) : Vec Ideal S256x4096 .f32 :=
  out0_6 (iblk m c 0 t) (iblk m c 1 t) (iblk m c 2 t) (iblk m c 3 t) (iblk m c 4 t) (iblk m c 5 t)

theorem tile_apply (c : Dev nD) (t : Fin cfg0.N) (r : Fin 256) (j : Fin 4096) :
    (tile m c t) (ix2 r j) = result m c (ix2 ⟨t.val * 256 + r.val, by have : t.val < 32 := t.isLt; omega⟩ j) := by
  have ht : t.val < 32 := t.isLt
  refine (out_apply _ _ _ _ _ _ r j).trans ?_
  simp only [read_0, read_1, read_2, read_3, read_4, read_5]
  have e : (⟨t.val / 8, by omega⟩ : Fin 4) = ⟨(t.val * 256 + r.val) / 2048, by omega⟩ := Fin.ext (by simp only; omega)
  rw [e]
  rfl

theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  funext y
  show tile m c t y = result m c (((cfg0.win 6).blk t).view.emb y)
  obtain ⟨-, -, -, -, -, -, -, -, -, -, -, -, -, h0, h1⟩ := at_point t
  rw [show tile m c t y = tile m c t (ix2 (y 0) (y 1)) from
    congrArg (tile m c t) (by funext a; match a with | 0 => rfl | 1 => rfl)]
  refine (tile_apply m c t (y 0) (y 1)).trans ?_
  congr 1
  funext a; apply Fin.ext
  match a with
  | 0 => show _ = win0_6.index t 0 * 256 + 1 * (y 0).val; rw [h0]; simp
  | 1 => show _ = win0_6.index t 1 * 4096 + 1 * (y 1).val; rw [h1]; simp

theorem mem_blk (t : Fin cfg0.N) (i : S8192x4096.Idx) :
    i ∈ ((cfg0.win 6).blk t).view.set ↔ ∀ a : Fin 2, win0_6.index t a * S256x4096.size a ≤ (i a).val
      ∧ (i a).val < win0_6.index t a * S256x4096.size a + S256x4096.size a := by
  show i ∈ ((View.whole main_v7).slice (win0_6.rect t)).set ↔ _
  rw [View.set_slice_whole, Rect.mem_set_unit]
  exact Iff.rfl

theorem cover (i : S8192x4096.Idx) : ∃ t : Fin cfg0.N, (cfg0.win 6).flush t = true ∧ i ∈ ((cfg0.win 6).blk t).view.set := by
  have h0 : (i 0).val < 8192 := (i 0).isLt
  have h1 : (i 1).val < 4096 := (i 1).isLt
  let t : Fin cfg0.N := ⟨(i 0).val / 256, show _ < 32 by omega⟩
  have ht : t.val = (i 0).val / 256 := rfl
  refine ⟨t, flush0_6 t, (mem_blk t i).2 ?_⟩
  obtain ⟨-, -, -, -, -, -, -, -, -, -, -, -, -, e0, e1⟩ := at_point t
  intro a
  match a with
  | 0 => rw [show win0_6.index t 0 = _ from e0]; show _ * 256 ≤ (i 0).val ∧ (i 0).val < _ * 256 + 256; omega
  | 1 => rw [show win0_6.index t 1 = _ from e1]; show _ * 4096 ≤ (i 1).val ∧ (i 1).val < _ * 4096 + 4096; omega

theorem final (c : Dev nD) : (dats m 0 c).arrAt 6 cfg0.N = result m c :=
  (dats m 0 c).arrAt_eq_of_cover 6 (result m c) (fun t _ => flushed_eq m c t) cover

end Cert.Kernel2Ideal.Memory

end
-- ==== Proof.MemoryReference.lean ====
/-
  The plain memory cross-attention over the extended reals, stage by stage: queries, scores, weights, shares, heads. Its
  result is the function of its arguments that the kernel's is.
-/
module

public import proofs.«01_k».proof.Proof.MemoryValue
public import proofs.«01_k».proof.Proof.Gen.Reference2Ideal.Run
public import Idealize.ShloMosaic.Lib.Pointwise
public import Idealize.ShloMosaic.Lib.Pipeline.Value
public import Idealize.ShloMosaic.Lib.Pipeline.ValueKit
public import Idealize.ShloMosaic.Lib.StableHlo.Run
public import Idealize.ShloMosaic.Lib.Claim

@[expose] public section

set_option maxRecDepth 16384

noncomputable section

namespace Cert.Reference2Ideal.Memory

open Cert.Reference2Ideal Cert.Reference2Ideal.Gen Cert.Reference2Ideal.Value
open Idealize.ShloMosaic Idealize.ShloMosaic.TcCoe Idealize.ShloMosaic.Tactic
open Cert.Kernel2Ideal.Memory (score weight share attend query row attended col headOf fold_max_bot)

/-- The queries of all rows. -/
def queries (x : FVec Ideal S8192x4096 .f32) (g : FVec Ideal S4096 .f32) (w : FVec Ideal S4096x512 .f32) : FVec Ideal S8192x512 .f32 :=
  Host.dotGeneral dot_S8192x4096_S4096x512_S8192x512_1_0_0_1_n_n none
    (mulf (mulf x (broadcastInDim S8192x4096 ![0, 1] bcast_S8192x1_S8192x4096_0_1 (Host.rsqrt (addf
      (Host.divf (broadcastInDim S8192x1 ![0] bcast_S8192_S8192x1_0 (Host.reduceAdd (mulf x x) (constant S_ .f32 0x00000000#32) reducesTo_S8192x4096_S8192_d1 h_S_))
        (broadcastInDim S8192x1 ![] bcast_S_S8192x1 (constant S_ .f32 0x45800000#32)))
      (broadcastInDim S8192x1 ![] bcast_S_S8192x1 (constant S_ .f32 0x358637BD#32))))))
      (broadcastInDim S8192x4096 ![0, 1] bcast_S1x4096_S8192x4096_0_1 (broadcastInDim S1x4096 ![1] bcast_S4096_S1x4096_1 g))) w

/-- The scores of all queries against the keys of their batch and head. -/
def scores (q : FVec Ideal S8192x512 .f32) (k : FVec Ideal S4x256x512 .bf16) : FVec Ideal S4x4x2048x256 .f32 :=
  mulf (Host.dotGeneral dot_S4x2048x4x128_S4x256x4x128_S4x4x2048x256_3_3_1_1_02_02 none (shapeCast _ q shapeCasts_S8192x512_S4x2048x4x128)
      (shapeCast _ (extf .f32 k bitsLt_bf16_f32) shapeCasts_S4x256x512_S4x256x4x128))
    (broadcastInDim S4x4x2048x256 ![] bcast_S_S4x4x2048x256 (constant S_ .f32 0x3DB504F3#32))

/-- A maximum along the last of four axes, whatever their lengths. -/
theorem greatest_apply {a b c d : ℕ} (s : FVec Ideal ⟨4, ![a, b, c, d]⟩ .f32) (w : BitVec 32) (h : (⟨4, ![a, b, c, d]⟩ : Shape).ReducesTo [3] ⟨3, ![a, b, c]⟩)
    (hu : 0 < (⟨0, ![]⟩ : Shape).numel) (i : Fin a) (j : Fin b) (k : Fin c) :
    Host.reduce FloatOps.maximumf s (constant (F := Ideal) ⟨0, ![]⟩ .f32 w) h hu (ix3 i j k)
      = Finset.fold max (Ideal.ofBits FTy.f32 w) (fun n => s (ix4 i j k n)) Finset.univ := by
  pointwise

/-- Each row's greatest entry, against the least value. -/
def greatest (s : FVec Ideal S4x4x2048x256 .f32) : FVec Ideal S4x4x2048 .f32 :=
  Host.reduce FloatOps.maximumf s (constant S_ .f32 0xFF800000#32) reducesTo_S4x4x2048x256_S4x4x2048_d3 h_S_

/-- The same, never below the least value. -/
def tops (s : FVec Ideal S4x4x2048x256 .f32) : FVec Ideal S4x4x2048 .f32 :=
  maximumf (broadcastInDim S4x4x2048 ![] bcast_S_S4x4x2048 (constant S_ .f32 0xFF800000#32)) (greatest s)

/-- The exponentials of scores, each less what its row has in `t`. -/
def raised (s : FVec Ideal S4x4x2048x256 .f32) (t : FVec Ideal S4x4x2048 .f32) : FVec Ideal S4x4x2048x256 .f32 :=
  Host.exp (subf s (broadcastInDim S4x4x2048x256 ![0, 1, 2, 3] bcast_S4x4x2048x1_S4x4x2048x256_0_1_2_3
    (broadcastInDim S4x4x2048x1 ![0, 1, 2] bcast_S4x4x2048_S4x4x2048x1_0_1_2 t)))

/-- Their exponentials, each less its row's greatest. -/
def weights (s : FVec Ideal S4x4x2048x256 .f32) : FVec Ideal S4x4x2048x256 .f32 := raised s (tops s)

def shares (p : FVec Ideal S4x4x2048x256 .f32) : FVec Ideal S4x4x2048x256 .f32 :=
  Host.divf p (broadcastInDim S4x4x2048x256 ![0, 1, 2, 3] bcast_S4x4x2048x1_S4x4x2048x256_0_1_2_3
    (broadcastInDim S4x4x2048x1 ![0, 1, 2] bcast_S4x4x2048_S4x4x2048x1_0_1_2
      (Host.reduceAdd p (constant S_ .f32 0x00000000#32) reducesTo_S4x4x2048x256_S4x4x2048_d3 h_S_)))

def heads (p : FVec Ideal S4x4x2048x256 .f32) (v : FVec Ideal S4x256x512 .bf16) : FVec Ideal S8192x512 .f32 :=
  shapeCast _ (transpose S4x2048x4x128 [0, 3, 1, 2] (Host.dotGeneral dot_S4x256x4x128_S4x4x2048x256_S4x4x128x2048_1_3_3_2_02_01 none
    (shapeCast _ (extf .f32 v bitsLt_bf16_f32) shapeCasts_S4x256x512_S4x256x4x128) p) transposes_S4x4x128x2048_S4x2048x4x128_0_3_1_2)
    shapeCasts_S4x2048x4x128_S8192x512

theorem result_eq (m : (ℓ : Loc nD τ sig) → Buf (Elt Ideal) ℓ) (c : Dev nD) :
    res_main_v37 m c = addf (φ := .f32) (m ((c.tc : Thread nD τ).loc main_arg0)) (Host.dotGeneral (φ₁ := .f32) (φ₂ := .f32) dot_S8192x512_S512x4096_S8192x4096_1_0_0_1_n_n none
      (heads (shares (weights (scores (queries (m ((c.tc : Thread nD τ).loc main_arg0)) (m ((c.tc : Thread nD τ).loc main_arg3)) (m ((c.tc : Thread nD τ).loc main_arg4)))
        (m ((c.tc : Thread nD τ).loc main_arg1))))) (m ((c.tc : Thread nD τ).loc main_arg2))) (m ((c.tc : Thread nD τ).loc main_arg5))) := rfl

theorem queries_apply (x : FVec Ideal S8192x4096 .f32) (g : FVec Ideal S4096 .f32) (w : FVec Ideal S4096x512 .f32) (r : Fin 8192) (j : Fin 512) :
    queries x g w (ix2 r j) = query (fun k => x (ix2 r k)) (fun k => g (ix1 k)) (fun a b => w (ix2 a b)) j := by
  pointwise [queries]
  simp only [query]

theorem scores_apply (q : FVec Ideal S8192x512 .f32) (k : FVec Ideal S4x256x512 .bf16) (b h : Fin 4) (r : Fin 2048) (n : Fin 256) :
    scores q k (ix4 b h r n) = score (fun d => q (ix2 ⟨b.val * 2048 + r.val, by omega⟩ (col h d))) (fun n d => k (ix3 b n (col h d))) n := by
  pointwise [scores]
  simp only [score]

theorem greatest_at (s : FVec Ideal S4x4x2048x256 .f32) (b h : Fin 4) (r : Fin 2048) :
    greatest s (ix3 b h r) = Finset.fold max (Ideal.ofBits FTy.f32 4286578688#32) (fun n => s (ix4 b h r n)) Finset.univ := by
  unfold greatest
  exact greatest_apply s 0xFF800000#32 reducesTo_S4x4x2048x256_S4x4x2048_d3 h_S_ b h r

theorem raised_apply (s : FVec Ideal S4x4x2048x256 .f32) (t : FVec Ideal S4x4x2048 .f32) (b h : Fin 4) (r : Fin 2048) (n : Fin 256) :
    raised s t (ix4 b h r n) = Ideal.exp (s (ix4 b h r n) - t (ix3 b h r)) := by
  pointwise [raised]

/-- The greater of two arrays at an index. -/
theorem greater_at {s : Shape} (a b : FVec Ideal s .f32) (i : s.Idx) : maximumf a b i = max (a i) (b i) := rfl

/-- A word spread over any shape is the word everywhere. -/
theorem spread_at {s : Shape} (w : BitVec 32) (h) (i : s.Idx) :
    broadcastInDim s ![] h (constant (F := Ideal) ⟨0, ![]⟩ .f32 w) i = Ideal.ofBits FTy.f32 w := rfl

theorem tops_apply (s : FVec Ideal S4x4x2048x256 .f32) (b h : Fin 4) (r : Fin 2048) :
    tops s (ix3 b h r) = Finset.fold max (Ideal.ofBits FTy.f32 4286578688#32) (fun n => s (ix4 b h r n)) Finset.univ := by
  unfold tops
  rw [greater_at, spread_at, greatest_at, fold_max_bot]

theorem weights_apply (s : FVec Ideal S4x4x2048x256 .f32) (b h : Fin 4) (r : Fin 2048) (n : Fin 256) :
    weights s (ix4 b h r n) = Ideal.exp (s (ix4 b h r n) - Finset.fold max (Ideal.ofBits FTy.f32 4286578688#32) (fun n => s (ix4 b h r n)) Finset.univ) := by
  unfold weights
  rw [raised_apply, tops_apply]

theorem shares_apply (p : FVec Ideal S4x4x2048x256 .f32) (b h : Fin 4) (r : Fin 2048) (n : Fin 256) :
    shares p (ix4 b h r n) = Ideal.div (p (ix4 b h r n)) (∑ n, p (ix4 b h r n)) := by
  pointwise [shares]

theorem heads_apply (p : FVec Ideal S4x4x2048x256 .f32) (v : FVec Ideal S4x256x512 .bf16) (r : Fin 8192) (j : Fin 512) :
    heads p v (ix2 r j) = ∑ n, p (ix4 ⟨r.val / 2048, by omega⟩ (headOf j) ⟨r.val % 2048, by omega⟩ n) * v (ix3 ⟨r.val / 2048, by omega⟩ n j) := by
  pointwise [heads]
  refine Finset.sum_congr rfl fun n _ => ?_
  exact EReal.mul_comm _ _

theorem result_apply (m : (ℓ : Loc nD τ sig) → Buf (Elt Ideal) ℓ) (c : Dev nD) (r : Fin 8192) (j : Fin 4096) :
    (res_main_v37 m c : FVec Ideal S8192x4096 .f32) (ix2 r j)
      = attended (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (ix2 r j) := by
  have hr : (⟨r.val / 2048 * 2048 + r.val % 2048, by omega⟩ : Fin 8192) = r := Fin.ext (by simp only; omega)
  rw [result_eq]
  pointwise
  simp only [heads_apply, shares_apply, weights_apply, scores_apply, queries_apply, hr]
  rfl

end Cert.Reference2Ideal.Memory

end
-- ==== Proof.OutRun.lean ====
/-
  The body of the output projection with its residual, run once, and the launch that repeats it.
-/
module

public import proofs.«01_k».proof.Proof.Gen.Kernel3Ideal.Frame.Runs
public import Idealize.ShloMosaic.Lib.VecWindow
public import Idealize.ShloMosaic.Lib.Claim

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 800000 in
/-- The first point of a column sweep: the weight block is rounded into the scratch buffer and used from there. -/
theorem body_first (c : Dev nD) (i : grid0.Coords) (b0 : Memref sig .tc .vmem S1024x4096 .bf16) (w0 : b0.IsWhole)
    (b1 : Memref sig .tc .vmem S4096x512 .f32) (w1 : b1.IsWhole) (b2 : Memref sig .tc .vmem S1024x512 .f32) (w2 : b2.IsWhole)
    (b3 : Memref sig .tc .vmem S1024x512 .f32) (w3 : b3.IsWhole) (s0 : Memref sig .tc .vmem S4096x512 .bf16) (u0 : s0.IsWhole)
    (hc : cond0_0 i)
    (x0 : Vec F S1024x4096 .bf16) (x1 : Vec F S4096x512 .f32) (x2 : Vec F S1024x512 .f32) (E : Set ℕ) (K : PUnit → sProp 𝕄) :
    iprop(owns (c : Thread nD τ) b0 fullShare x0 ∗ owns (c : Thread nD τ) b1 fullShare x1 ∗ owns (c : Thread nD τ) b2 fullShare x2
        ∗ (∃ d, owns (c : Thread nD τ) b3 fullShare d) ∗ (∃ d, owns (c : Thread nD τ) s0 fullShare d)
        ∗ (iprop(owns (c : Thread nD τ) b0 fullShare x0 ∗ owns (c : Thread nD τ) b1 fullShare x1 ∗ owns (c : Thread nD τ) b2 fullShare x2
            ∗ owns (c : Thread nD τ) b3 fullShare (k0_pay2 x0 (k0_pay1 x1) x2) ∗ owns (c : Thread nD τ) s0 fullShare (k0_pay1 x1)) -∗ K ⟨⟩))
      ⊢ wp frame (wpE (defs₀ (F := F)) Variants.none c none) E (cc0_proj_out i b0 w0 b1 w1 b2 w2 b3 w3 s0 u0) K := by
  simp only [cc0_proj_out_eq_skeleton]; unfold cc0_proj_out_skel
  unfold owns
  iintro ⟨⟨%f0, %hf0, H0⟩, ⟨%f1, %hf1, H1⟩, ⟨%f2, %hf2, H2⟩, ⟨%d3, %f3, -, H3⟩, ⟨%e0, %g0, -, S0⟩, Hk⟩
  obtain rfl := w0.eq_unread hf0; obtain rfl := w1.eq_unread hf1; obtain rfl := w2.eq_unread hf2
  sl_exec (disch := first | sl_exact hc)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; unfold body_first.sl.v4 body_first.sl.S0_1
    rw [View.read_writes_full, View.readAt_full b0.view, View.readCov_full s0.view, View.readAt_full b1.view, View.readAt_full b2.view, hf0, hf1, hf2]
  iexists _; isplitr; swap; · iexact S0
  ipureintro; unfold body_first.sl.S0_1; rw [View.read_writes_full, View.readAt_full, hf1]

set_option maxHeartbeats 800000 in
/-- A later point of a column sweep: the scratch buffer is read as the point before left it. -/
theorem body_next (c : Dev nD) (i : grid0.Coords) (b0 : Memref sig .tc .vmem S1024x4096 .bf16) (w0 : b0.IsWhole)
    (b1 : Memref sig .tc .vmem S4096x512 .f32) (w1 : b1.IsWhole) (b2 : Memref sig .tc .vmem S1024x512 .f32) (w2 : b2.IsWhole)
    (b3 : Memref sig .tc .vmem S1024x512 .f32) (w3 : b3.IsWhole) (s0 : Memref sig .tc .vmem S4096x512 .bf16) (u0 : s0.IsWhole)
    (hc : ¬cond0_0 i)
    (x0 : Vec F S1024x4096 .bf16) (x1 : Vec F S4096x512 .f32) (x2 : Vec F S1024x512 .f32) (y0 : Vec F S4096x512 .bf16)
    (E : Set ℕ) (K : PUnit → sProp 𝕄) :
    iprop(owns (c : Thread nD τ) b0 fullShare x0 ∗ owns (c : Thread nD τ) b1 fullShare x1 ∗ owns (c : Thread nD τ) b2 fullShare x2
        ∗ (∃ d, owns (c : Thread nD τ) b3 fullShare d) ∗ owns (c : Thread nD τ) s0 fullShare y0
        ∗ (iprop(owns (c : Thread nD τ) b0 fullShare x0 ∗ owns (c : Thread nD τ) b1 fullShare x1 ∗ owns (c : Thread nD τ) b2 fullShare x2
            ∗ owns (c : Thread nD τ) b3 fullShare (k0_pay2 x0 y0 x2) ∗ owns (c : Thread nD τ) s0 fullShare y0) -∗ K ⟨⟩))
      ⊢ wp frame (wpE (defs₀ (F := F)) Variants.none c none) E (cc0_proj_out i b0 w0 b1 w1 b2 w2 b3 w3 s0 u0) K := by
  simp only [cc0_proj_out_eq_skeleton]; unfold cc0_proj_out_skel
  unfold owns
  iintro ⟨⟨%f0, %hf0, H0⟩, ⟨%f1, %hf1, H1⟩, ⟨%f2, %hf2, H2⟩, ⟨%d3, %f3, -, H3⟩, ⟨%g0, %hg0, S0⟩, Hk⟩
  obtain rfl := w0.eq_unread hf0; obtain rfl := w1.eq_unread hf1; obtain rfl := w2.eq_unread hf2; obtain rfl := u0.eq_unread hg0
  sl_exec (disch := first | sl_exact hc)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro
    rw [View.read_writes_full, View.readAt_full b0.view, View.readAt_full s0.view, View.readAt_full b2.view, hf0, hg0, hf2]
  iexists _; isplitr; swap; · iexact S0
  ipureintro; exact hg0

/-! ## The proof data -/

variable (m : (ℓ : Loc nD τ sig) → Buf (Elt F) ℓ) (ρ : Dev nD → PrngReg)

/-- The result tile of point `t`. -/
def tile (c : Dev nD) (t : Fin cfg0.N) : Vec F S1024x512 .f32 := k0_pay2 (iblk m c 0 t) (k0_pay1 (iblk m c 1 t)) (iblk m c 2 t)

/-- The scratch buffer holds the rounded weight block of point `t`. -/
def held (c : Dev nD) (t : Fin cfg0.N) : sProp 𝕄 :=
  iprop(iprop(owns (c : Thread nD τ) scM0_0 fullShare (k0_pay1 (iblk m c 1 t))) ∗ (∃ r, prngReg c r))

/-- At the start the scratch holds anything, after point `n` the weight block of point `n`. -/
def between (c : Dev nD) : (n : ℕ) → n ≤ cfg0.N → sProp 𝕄
  | 0, _ => Pipeline.ΦA spec0 c
  | n + 1, h => held m c ⟨n, h⟩

theorem between_pos (c : Dev nD) (n : ℕ) (h : n ≤ cfg0.N) (hz : n ≠ 0) : between m c n h = held m c ⟨n - 1, by omega⟩ := by
  cases n with
  | zero => exact absurd rfl hz
  | succ n => rfl

theorem held_forget (c : Dev nD) (t : Fin cfg0.N) : held m c t ⊢ Pipeline.ΦA spec0 c := by
  rw [PhiA0_eq]
  unfold held
  iintro ⟨S0, Hg⟩
  isplitl [S0]
  · iexists _; iexact S0
  iexact Hg

theorem between_forget (c : Dev nD) (n : ℕ) (h : n ≤ cfg0.N) : between m c n h ⊢ Pipeline.ΦA spec0 c := by
  cases n with
  | zero => exact Idealize.SL.BI.Entails.refl _
  | succ n => exact held_forget m c ⟨n, h⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tile m c t
  Φ t := between m c t.val (Nat.le_of_lt_succ t.isLt)
  q _ := fullShare
  owed _ := 0

theorem dats_A (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = tile m c t := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d

/-- The point before `t`. -/
abbrev prev (t : Fin cfg0.N) : Fin cfg0.N := ⟨t.val - 1, Nat.lt_of_le_of_lt (Nat.sub_le _ _) t.isLt⟩

/-- A weight block not fetched anew is the block of the point before. -/
theorem weights_1 (c : Dev nD) (t : Fin cfg0.N) (h : ¬t.val % 8 = 0) : iblk m c 1 t = iblk m c 1 (prev t) :=
  (dats m 0 c).fetched_congr 1 (Pipeline.Window.index_eq_of_fetch win0_1 rfl t (Bool.eq_false_iff.mpr fun e => h ((fetch0_1 t).mp e))).2 rfl
    (iblk m c 1 t)

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, after_0, after_1, after_2, after_3,
    show (dats m 0 c).Φ t.succ = held m c t from rfl,
    show (dats m 0 c).Φ t.castSucc = between m c t.val (Nat.le_of_lt t.isLt) from rfl]
  by_cases h0 : t.val % 8 = 0
  · refine (sep_mono_left (between_forget m c _ _)).trans ?_
    rw [PhiA0_eq]
    unfold held tile
    iintro ⟨⟨S0, Hg⟩, Ho, ⟨%d0, H0⟩, ⟨%d1, H1⟩, ⟨%d2, H2⟩, ⟨%d3, H3⟩⟩
    iapply (body_first c (grid0.coords t) _ _ _ _ _ _ _ _ _ _ ((hcond0_0 t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [S0]; · iexact S0
    iintro ⟨H0, H1, H2, H3, S0⟩
    isplitl [S0 Hg]
    · isplitl [S0]; · iexact S0
      iexact Hg
    isplitl [Ho]; · iexact Ho
    isplitl [H0]; · iexact H0
    isplitl [H1]; · iexact H1
    isplitl [H2]; · iexact H2
    iexact H3
  · have hz : t.val ≠ 0 := fun e => h0 (by rw [e])
    rw [between_pos m c _ _ hz, show (⟨t.val - 1, _⟩ : Fin cfg0.N) = prev t from rfl]
    unfold held tile
    rw [weights_1 m c t h0]
    iintro ⟨⟨S0, Hg⟩, Ho, ⟨%d0, H0⟩, ⟨%d1, H1⟩, ⟨%d2, H2⟩, ⟨%d3, H3⟩⟩
    iapply (body_next c (grid0.coords t) _ _ _ _ _ _ _ _ _ _ (fun h => h0 ((hcond0_0 t).mp h)) (iblk m c 0 t) (iblk m c 1 (prev t))
      (iblk m c 2 t) _ Set.univ _)
    isplitl [H0]; · iexact H0
    isplitl [H1]; · iexact H1
    isplitl [H2]; · iexact H2
    isplitl [H3]; · iexists _; iexact H3
    isplitl [S0]; · iexact S0
    iintro ⟨H0, H1, H2, H3, S0⟩
    isplitl [S0 Hg]
    · isplitl [S0]; · iexact S0
      iexact Hg
    isplitl [Ho]; · iexact Ho
    isplitl [H0]; · iexact H0
    isplitl [H1]; · iexact H1
    isplitl [H2]; · iexact H2
    iexact H3

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_at m c t) rfl .rfl fun _ => .rfl

/-! ## The run -/

set_option backward.isDefEq.respectTransparency.types false in
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m)
    (hin := fun c => Idealize.SL.BI.Entails.refl _) (hout := fun c => between_forget m c cfg0.N (Nat.le_refl _))

/-- Every run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (run_main m ρ)))
    ((θ_run defs _ _).mono (fun _ h => h.2) (run_main m ρ))

/-- The run with the result array named. -/
theorem run : θ_run defs (onTc (τ := τ) (main (F := F))) ⟨m, fun _ => 0, ρ⟩ fun r => ∀ c : Dev nD,
      r.2.mem ((c : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1.1 c).1 3, h.2.1 c⟩) (θ_run_and (run_main m ρ) (frame m ρ))

end Cert.Kernel3Ideal.Out

end
-- ==== Proof.OutValue.lean ====
/-
  What the output projection computes over the extended reals.
-/
module

public import proofs.«01_k».proof.Proof.OutRun
public import proofs.«01_k».proof.Proof.Gen.Reference3Ideal.Run
public import Idealize.ShloMosaic.Lib.Pointwise
public import Idealize.ShloMosaic.Lib.Pipeline.Value
public import Idealize.ShloMosaic.Lib.StableHlo.Run

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-- The projected array with the residual added. -/
def projected (a : Vec Ideal S8192x4096 .bf16) (w : Vec Ideal S4096x4096 .f32) (x : Vec Ideal S8192x4096 .f32) :
    Vec Ideal S8192x4096 .f32 := fun i =>
  ((∑ k : Fin 4096, a (ix2 (i 0) k) * w (ix2 k (i 1))) + x (ix2 (i 0) (i 1)) : EReal)

/-- Point `t` is row block `t % 8` of the column sweep `t / 8`. -/
theorem at_point : ∀ t : Fin cfg0.N,
    win0_0.index t 0 = t.val % 8 ∧ win0_0.index t 1 = 0
    ∧ win0_1.index t 0 = 0 ∧ win0_1.index t 1 = t.val / 8
    ∧ win0_2.index t 0 = t.val % 8 ∧ win0_2.index t 1 = t.val / 8
    ∧ win0_3.index t 0 = t.val % 8 ∧ win0_3.index t 1 = t.val / 8 := by decide +kernel

theorem read_0 (c : Dev nD) (t : Fin cfg0.N) (r : Fin 1024) (k : Fin 4096) :
    (iblk m c 0 t : Vec Ideal S1024x4096 .bf16) (ix2 r k)
      = (m ((c : Thread nD τ).loc main_arg0) : Vec Ideal S8192x4096 .bf16) (ix2 ⟨t.val % 8 * 1024 + r.val, by omega⟩ k) := by
  show V m c main_arg0 (((cfg0.win 0).blk t).view.emb (ix2 r k)) = _
  rw [V_main_arg0]
  congr 1
  funext a; apply Fin.ext
  obtain ⟨h0, h1, -⟩ := at_point t
  match a with
  | 0 => show win0_0.index t 0 * 1024 + 1 * r.val = _; rw [h0]; simp
  | 1 => show win0_0.index t 1 * 4096 + 1 * k.val = _; rw [h1]; simp

theorem read_1 (c : Dev nD) (t : Fin cfg0.N) (k : Fin 4096) (q : Fin 512) :
    (iblk m c 1 t : Vec Ideal S4096x512 .f32) (ix2 k q)
      = (m ((c : Thread nD τ).loc main_arg1) : Vec Ideal S4096x4096 .f32) (ix2 k ⟨t.val / 8 * 512 + q.val, by have : t.val < 64 := t.isLt; omega⟩) := by
  show V m c main_arg1 (((cfg0.win 1).blk t).view.emb (ix2 k q)) = _
  rw [V_main_arg1]
  congr 1
  funext a; apply Fin.ext
  obtain ⟨-, -, h0, h1, -⟩ := at_point t
  match a with
  | 0 => show win0_1.index t 0 * 4096 + 1 * k.val = _; rw [h0]; simp
  | 1 => show win0_1.index t 1 * 512 + 1 * q.val = _; rw [h1]; simp

theorem read_2 (c : Dev nD) (t : Fin cfg0.N) (r : Fin 1024) (q : Fin 512) :
    (iblk m c 2 t : Vec Ideal S1024x512 .f32) (ix2 r q)
      = (m ((c : Thread nD τ).loc main_arg2) : Vec Ideal S8192x4096 .f32) (ix2 ⟨t.val % 8 * 1024 + r.val, by omega⟩
          ⟨t.val / 8 * 512 + q.val, by have : t.val < 64 := t.isLt; omega⟩) := by
  show V m c main_arg2 (((cfg0.win 2).blk t).view.emb (ix2 r q)) = _
  rw [V_main_arg2]
  congr 1
  funext a; apply Fin.ext
  obtain ⟨-, -, -, -, h0, h1, -⟩ := at_point t
  match a with
  | 0 => show win0_2.index t 0 * 1024 + 1 * r.val = _; rw [h0]; simp
  | 1 => show win0_2.index t 1 * 512 + 1 * q.val = _; rw [h1]; simp

def result (c : Dev nD) : Vec Ideal S8192x4096 .f32 :=
  projected (m ((c : Thread nD τ).loc main_arg0)) (m ((c : Thread nD τ).loc main_arg1)) (m ((c : Thread nD τ).loc main_arg2))

/-- The tile a point computes is the projected array's at the tile's place. -/
theorem tile_apply (c : Dev nD) (t : Fin cfg0.N) (r : Fin 1024) (q : Fin 512) :
    (tile m c t : Vec Ideal S1024x512 .f32) (ix2 r q)
      = result m c (ix2 ⟨t.val % 8 * 1024 + r.val, by omega⟩ ⟨t.val / 8 * 512 + q.val, by have : t.val < 64 := t.isLt; omega⟩) := by
  pointwise [tile, k0_pay1, k0_pay2]
  simp only [read_0, read_1, read_2]
  simp only [result, projected, ix2]

theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after_3]
  funext y
  show (tile m c t : Vec Ideal S1024x512 .f32) y = result m c (((cfg0.win 3).blk t).view.emb y)
  obtain ⟨-, -, -, -, -, -, h0, h1⟩ := at_point t
  rw [show (tile m c t : Vec Ideal S1024x512 .f32) y = tile m c t (ix2 (y 0) (y 1)) from
    congrArg (tile m c t) (by funext a; match a with | 0 => rfl | 1 => rfl)]
  refine (tile_apply m c t (y 0) (y 1)).trans ?_
  congr 1
  funext a; apply Fin.ext
  match a with
  | 0 => show _ = win0_3.index t 0 * 1024 + 1 * (y 0).val; rw [h0]; simp
  | 1 => show _ = win0_3.index t 1 * 512 + 1 * (y 1).val; rw [h1]; simp

theorem mem_blk (t : Fin cfg0.N) (i : S8192x4096.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v0).slice (win0_3.rect t)).set ↔ _
  rw [View.set_slice_whole, Rect.mem_set_unit]
  exact Iff.rfl

theorem cover (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  let t : Fin cfg0.N := ⟨(i 1).val / 512 * 8 + (i 0).val / 1024, show _ < 64 by omega⟩
  have ht : t.val = (i 1).val / 512 * 8 + (i 0).val / 1024 := rfl
  refine ⟨t, flush0_3 t, (mem_blk t i).2 ?_⟩
  obtain ⟨-, -, -, -, -, -, e0, e1⟩ := at_point t
  intro a
  match a with
  | 0 => rw [show win0_3.index t 0 = _ from e0]; show _ * 1024 ≤ (i 0).val ∧ (i 0).val < _ * 1024 + 1024; omega
  | 1 => rw [show win0_3.index t 1 = _ from e1]; show _ * 512 ≤ (i 1).val ∧ (i 1).val < _ * 512 + 512; omega

theorem final (c : Dev nD) : (dats m 0 c).arrAt 3 cfg0.N = result m c :=
  (dats m 0 c).arrAt_eq_of_cover 3 (result m c) (fun t _ => flushed_eq m c t) cover

end Cert.Kernel3Ideal.Out

end
-- ==== Proof.QkvRun.lean ====
/-
  The body of the projection to queries, keys and values, run once, and the launch that repeats it.
-/
module

public import proofs.«01_k».proof.Proof.Gen.Kernel4Ideal.Frame.Runs
public import Idealize.ShloMosaic.Lib.VecWindow
public import Idealize.ShloMosaic.Lib.Claim

@[expose] public section

set_option maxRecDepth 16384

noncomputable section

namespace Cert.Kernel4Ideal.Qkv

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 800000 in
/-- The first point of a column sweep: the weight block is rounded into the scratch buffer and used from there. -/
theorem body_first (c : Dev nD) (i : grid0.Coords) (b0 : Memref sig .tc .vmem S1024x4096 .bf16) (w0 : b0.IsWhole)
    (b1 : Memref sig .tc .vmem S512x4096 .f32) (w1 : b1.IsWhole) (b2 : Memref sig .tc .vmem S1024x512 .bf16) (w2 : b2.IsWhole)
    (s0 : Memref sig .tc .vmem S512x4096 .bf16) (u0 : s0.IsWhole)
    (hc : cond0_0 i)
    (x0 : Vec F S1024x4096 .bf16) (x1 : Vec F S512x4096 .f32) (E : Set ℕ) (K : PUnit → sProp 𝕄) :
    iprop(owns (c : Thread nD τ) b0 fullShare x0 ∗ owns (c : Thread nD τ) b1 fullShare x1
        ∗ (∃ d, owns (c : Thread nD τ) b2 fullShare d) ∗ (∃ d, owns (c : Thread nD τ) s0 fullShare d)
        ∗ (iprop(owns (c : Thread nD τ) b0 fullShare x0 ∗ owns (c : Thread nD τ) b1 fullShare x1
            ∗ owns (c : Thread nD τ) b2 fullShare (k0_pay2 i x0 (k0_pay1 x1)) ∗ owns (c : Thread nD τ) s0 fullShare (k0_pay1 x1)) -∗ K ⟨⟩))
      ⊢ wp frame (wpE (defs₀ (F := F)) Variants.none c none) E (cc0_proj_qkv i b0 w0 b1 w1 b2 w2 s0 u0) K := by
  simp only [cc0_proj_qkv_eq_skeleton]; unfold cc0_proj_qkv_skel
  unfold owns
  iintro ⟨⟨%f0, %hf0, H0⟩, ⟨%f1, %hf1, H1⟩, ⟨%d2, %f2, -, H2⟩, ⟨%e0, %g0, -, S0⟩, Hk⟩
  obtain rfl := w0.eq_unread hf0; obtain rfl := w1.eq_unread hf1
  sl_exec (disch := first | sl_exact hc)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; unfold body_first.sl.v4 body_first.sl.S0_1
    rw [View.read_writes_full, View.readAt_full b0.view, View.readCov_full s0.view, View.readAt_full b1.view, hf0, hf1]
  iexists _; isplitr; swap; · iexact S0
  ipureintro; unfold body_first.sl.S0_1; rw [View.read_writes_full, View.readAt_full, hf1]

set_option maxHeartbeats 800000 in
/-- A later point of a column sweep: the scratch buffer is read as the point before left it. -/
theorem body_next (c : Dev nD) (i : grid0.Coords) (b0 : Memref sig .tc .vmem S1024x4096 .bf16) (w0 : b0.IsWhole)
    (b1 : Memref sig .tc .vmem S512x4096 .f32) (w1 : b1.IsWhole) (b2 : Memref sig .tc .vmem S1024x512 .bf16) (w2 : b2.IsWhole)
    (s0 : Memref sig .tc .vmem S512x4096 .bf16) (u0 : s0.IsWhole)
    (hc : ¬cond0_0 i)
    (x0 : Vec F S1024x4096 .bf16) (x1 : Vec F S512x4096 .f32) (y0 : Vec F S512x4096 .bf16)
    (E : Set ℕ) (K : PUnit → sProp 𝕄) :
    iprop(owns (c : Thread nD τ) b0 fullShare x0 ∗ owns (c : Thread nD τ) b1 fullShare x1
        ∗ (∃ d, owns (c : Thread nD τ) b2 fullShare d) ∗ owns (c : Thread nD τ) s0 fullShare y0
        ∗ (iprop(owns (c : Thread nD τ) b0 fullShare x0 ∗ owns (c : Thread nD τ) b1 fullShare x1
            ∗ owns (c : Thread nD τ) b2 fullShare (k0_pay2 i x0 y0) ∗ owns (c : Thread nD τ) s0 fullShare y0) -∗ K ⟨⟩))
      ⊢ wp frame (wpE (defs₀ (F := F)) Variants.none c none) E (cc0_proj_qkv i b0 w0 b1 w1 b2 w2 s0 u0) K := by
  simp only [cc0_proj_qkv_eq_skeleton]; unfold cc0_proj_qkv_skel
  unfold owns
  iintro ⟨⟨%f0, %hf0, H0⟩, ⟨%f1, %hf1, H1⟩, ⟨%d2, %f2, -, H2⟩, ⟨%g0, %hg0, S0⟩, Hk⟩
  obtain rfl := w0.eq_unread hf0; obtain rfl := w1.eq_unread hf1; obtain rfl := u0.eq_unread hg0
  sl_exec (disch := first | sl_exact hc)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro
    rw [View.read_writes_full, View.readAt_full b0.view, View.readAt_full s0.view, hf0, hg0]
  iexists _; isplitr; swap; · iexact S0
  ipureintro; exact hg0

/-! ## The proof data -/

variable (m : (ℓ : Loc nD τ sig) → Buf (Elt F) ℓ) (ρ : Dev nD → PrngReg)

/-- The result tile of point `t`. -/
def tile (c : Dev nD) (t : Fin cfg0.N) : Vec F S1024x512 .bf16 := k0_pay2 (grid0.coords t) (iblk m c 0 t) (k0_pay1 (X0_1 m c t))

/-- The scratch buffer holds the rounded weight block of point `t`. -/
def held (c : Dev nD) (t : Fin cfg0.N) : sProp 𝕄 :=
  iprop(iprop(owns (c : Thread nD τ) scM0_0 fullShare (k0_pay1 (X0_1 m c t))) ∗ (∃ r, prngReg c r))

/-- At the start the scratch holds anything, after point `n` the weight block of point `n`. -/
def between (c : Dev nD) : (n : ℕ) → n ≤ cfg0.N → sProp 𝕄
  | 0, _ => Pipeline.ΦA spec0 c
  | n + 1, h => held m c ⟨n, h⟩

theorem between_pos (c : Dev nD) (n : ℕ) (h : n ≤ cfg0.N) (hz : n ≠ 0) : between m c n h = held m c ⟨n - 1, by omega⟩ := by
  cases n with
  | zero => exact absurd rfl hz
  | succ n => rfl

theorem held_forget (c : Dev nD) (t : Fin cfg0.N) : held m c t ⊢ Pipeline.ΦA spec0 c := by
  rw [PhiA0_eq]
  unfold held
  iintro ⟨S0, Hg⟩
  isplitl [S0]
  · iexists _; iexact S0
  iexact Hg

theorem between_forget (c : Dev nD) (n : ℕ) (h : n ≤ cfg0.N) : between m c n h ⊢ Pipeline.ΦA spec0 c := by
  cases n with
  | zero => exact Idealize.SL.BI.Entails.refl _
  | succ n => exact held_forget m c ⟨n, h⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => tile m c t
  Φ t := between m c t.val (Nat.le_of_lt_succ t.isLt)
  q _ := fullShare
  owed _ := 0

theorem dats_A (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = tile m c t := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = X0_1 m c t :=
  before0_1_of m (dats m 0 c) (dats_A m c 1) (after_1 m c) t d

/-- The point before `t`. -/
abbrev prev (t : Fin cfg0.N) : Fin cfg0.N := ⟨t.val - 1, Nat.lt_of_le_of_lt (Nat.sub_le _ _) t.isLt⟩

/-- A weight block not fetched anew is the block of the point before. -/
theorem weights_1 (c : Dev nD) (t : Fin cfg0.N) (h : ¬t.val % 8 = 0) : X0_1 m c t = X0_1 m c (prev t) :=
  have hi : (cfg0.win 1).index t = (cfg0.win 1).index (prev t) :=
    (Pipeline.Window.index_eq_of_fetch win0_1 rfl t (Bool.eq_false_iff.mpr fun e => h ((fetch0_1 t).mp e))).2
  (dats m 0 c).fetched_congr 1 hi
    (funext fun a => congrArg (fun n => Pipeline.Clip.of n ((cfg0.win 1).size a) (S15856x4096.size a)) (congrFun hi a)) dflt0_1

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl, after_0, after_1, after_2,
    show (dats m 0 c).Φ t.succ = held m c t from rfl,
    show (dats m 0 c).Φ t.castSucc = between m c t.val (Nat.le_of_lt t.isLt) from rfl]
  by_cases h0 : t.val % 8 = 0
  · refine (sep_mono_left (between_forget m c _ _)).trans ?_
    rw [PhiA0_eq]
    unfold held tile
    iintro ⟨⟨S0, Hg⟩, Ho, ⟨%d0, H0⟩, ⟨%d1, H1⟩, ⟨%d2, H2⟩⟩
    iapply (body_first c (grid0.coords t) _ _ _ _ _ _ _ _ ((hcond0_0 t).mpr h0) (iblk m c 0 t) (X0_1 m c t) Set.univ _)
    isplitl [H0]; · iexact H0
    isplitl [H1]; · iexact H1
    isplitl [H2]; · iexists _; iexact H2
    isplitl [S0]; · iexact S0
    iintro ⟨H0, H1, H2, S0⟩
    isplitl [S0 Hg]
    · isplitl [S0]; · iexact S0
      iexact Hg
    isplitl [Ho]; · iexact Ho
    isplitl [H0]; · iexact H0
    isplitl [H1]; · iexact H1
    iexact H2
  · have hz : t.val ≠ 0 := fun e => h0 (by rw [e])
    rw [between_pos m c _ _ hz, show (⟨t.val - 1, _⟩ : Fin cfg0.N) = prev t from rfl]
    unfold held tile
    rw [weights_1 m c t h0]
    iintro ⟨⟨S0, Hg⟩, Ho, ⟨%d0, H0⟩, ⟨%d1, H1⟩, ⟨%d2, H2⟩⟩
    iapply (body_next c (grid0.coords t) _ _ _ _ _ _ _ _ (fun h => h0 ((hcond0_0 t).mp h)) (iblk m c 0 t) (X0_1 m c (prev t))
      _ Set.univ _)
    isplitl [H0]; · iexact H0
    isplitl [H1]; · iexact H1
    isplitl [H2]; · iexists _; iexact H2
    isplitl [S0]; · iexact S0
    iintro ⟨H0, H1, H2, S0⟩
    isplitl [S0 Hg]
    · isplitl [S0]; · iexact S0
      iexact Hg
    isplitl [Ho]; · iexact Ho
    isplitl [H0]; · iexact H0
    isplitl [H1]; · iexact H1
    iexact H2

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_at m c t) rfl .rfl fun _ => .rfl

/-! ## The run -/

set_option backward.isDefEq.respectTransparency.types false in
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m)
    (hin := fun c => Idealize.SL.BI.Entails.refl _) (hout := fun c => between_forget m c cfg0.N (Nat.le_refl _))

/-- Every run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (dats_A m) ((θ_run defs _ _).mono (fun _ h => h.1) (run_main m ρ)))
    ((θ_run defs _ _).mono (fun _ h => h.2) (run_main m ρ))

/-- The run with the result array named. -/
theorem run : θ_run defs (onTc (τ := τ) (main (F := F))) ⟨m, fun _ => 0, ρ⟩ fun r => ∀ c : Dev nD,
      r.2.mem ((c : Thread nD τ).loc main_v1) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h.1.1 c).1 2, h.2.1 c⟩) (θ_run_and (run_main m ρ) (frame m ρ))

end Cert.Kernel4Ideal.Qkv

end
-- ==== Proof.QkvValue.lean ====
/-
  What the projection to queries, keys and values computes over the extended reals.
-/
module

public import proofs.«01_k».proof.Proof.QkvRun
public import proofs.«01_k».proof.Proof.Gen.Reference4Ideal.Run
public import Idealize.ShloMosaic.Lib.Pointwise
public import Idealize.ShloMosaic.Lib.Pipeline.Value
public import Idealize.ShloMosaic.Lib.StableHlo.Run

@[expose] public section

set_option maxRecDepth 16384

noncomputable section

namespace Cert.Kernel4Ideal.Qkv

open Cert.Kernel4Ideal Cert.Kernel4Ideal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-- A row against a column of the weight; the columns of the queries scaled. -/
def projected (a : Vec Ideal S8192x4096 .bf16) (w : Vec Ideal S4096x15856 .f32) : Vec Ideal S8192x6144 .bf16 := fun i =>
  ((∑ k : Fin 4096, a (ix2 (i 0) k) * w (ix2 k ⟨(i 1).val, by have : (i 1).val < 6144 := (i 1).isLt; omega⟩))
    * (if (i 1).val < 2048 then Ideal.ofBits FTy.f32 0x3E0293EE#32 else 1) : EReal)

theorem projected_query (a : Vec Ideal S8192x4096 .bf16) (w : Vec Ideal S4096x15856 .f32) (r : Fin 8192) (j : Fin 6144)
    (h : j.val < 2048) : projected a w (ix2 r j)
      = ((∑ k : Fin 4096, a (ix2 r k) * w (ix2 k ⟨j.val, by omega⟩)) * Ideal.ofBits FTy.f32 0x3E0293EE#32 : EReal) := by
  show (_ * (if j.val < 2048 then _ else _) : EReal) = _
  rw [if_pos h]
  rfl

theorem projected_rest (a : Vec Ideal S8192x4096 .bf16) (w : Vec Ideal S4096x15856 .f32) (r : Fin 8192) (j : Fin 6144)
    (h : ¬j.val < 2048) : projected a w (ix2 r j)
      = (∑ k : Fin 4096, a (ix2 r k) * w (ix2 k ⟨j.val, by omega⟩) : EReal) := by
  show (_ * (if j.val < 2048 then _ else _) : EReal) = _
  rw [if_neg h, mul_one]
  rfl

/-- Point `t` is row block `t % 8` of the column sweep `t / 8`. -/
theorem at_point : ∀ t : Fin cfg0.N,
    win0_0.index t 0 = t.val % 8 ∧ win0_0.index t 1 = 0
    ∧ win0_1.index t 0 = t.val / 8 ∧ win0_1.index t 1 = 0
    ∧ win0_2.index t 0 = t.val % 8 ∧ win0_2.index t 1 = t.val / 8
    ∧ (grid0.coords t 0).val = t.val / 8 := by decide +kernel

theorem read_0 (c : Dev nD) (t : Fin cfg0.N) (r : Fin 1024) (k : Fin 4096) :
    (iblk m c 0 t : Vec Ideal S1024x4096 .bf16) (ix2 r k)
      = (m ((c : Thread nD τ).loc main_arg0) : Vec Ideal S8192x4096 .bf16) (ix2 ⟨t.val % 8 * 1024 + r.val, by omega⟩ k) := by
  show V m c main_arg0 (((cfg0.win 0).blk t).view.emb (ix2 r k)) = _
  rw [V_main_arg0]
  congr 1
  funext a; apply Fin.ext
  obtain ⟨h0, h1, -⟩ := at_point t
  match a with
  | 0 => show win0_0.index t 0 * 1024 + 1 * r.val = _; rw [h0]; simp
  | 1 => show win0_0.index t 1 * 4096 + 1 * k.val = _; rw [h1]; simp

theorem V_rows (c : Dev nD) (j : Fin 15856) (k : Fin 4096) : (V m c main_v0 : Vec Ideal S15856x4096 .f32) (ix2 j k)
    = (m ((c : Thread nD τ).loc main_arg1) : Vec Ideal S4096x15856 .f32) (ix2 k j) := by
  have e : V m c main_v0 = transpose S15856x4096 [1, 0] (m ((c : Thread nD τ).loc main_arg1)) transposes_S4096x15856_S15856x4096_1_0 := by
    unfold V
    after_results
  rw [e]
  pointwise

/-- No block of the weight's rows is cut short: each entry is the array's. -/
theorem read_1 (c : Dev nD) (t : Fin cfg0.N) (q : Fin 512) (k : Fin 4096) :
    (X0_1 m c t : Vec Ideal S512x4096 .f32) (ix2 q k)
      = (m ((c : Thread nD τ).loc main_arg1) : Vec Ideal S4096x15856 .f32) (ix2 k ⟨t.val / 8 * 512 + q.val, by have : t.val < 96 := t.isLt; omega⟩) := by
  rw [← V_rows m c]
  unfold X0_1 Pipeline.Window.fill
  rw [dif_pos (moved0_1 t (ix2 q k))]
  show V m c main_v0 (((cfg0.win 1).blk t).view.emb _) = _
  congr 1
  funext a; apply Fin.ext
  obtain ⟨-, -, h0, h1, -⟩ := at_point t
  match a with
  | 0 => show win0_1.index t 0 * 512 + 1 * q.val = _; rw [h0]; simp
  | 1 => show win0_1.index t 1 * 4096 + 1 * k.val = _; rw [h1]; simp

def result (c : Dev nD) : Vec Ideal S8192x6144 .bf16 :=
  projected (m ((c : Thread nD τ).loc main_arg0)) (m ((c : Thread nD τ).loc main_arg1))

/-- The factor of a column sweep: the scale for the first four, one after them. -/
theorem factor_eq (a b : Ideal .f32) (j : Nat) (h : j < 12) :
    Scalar.select (Scalar.cmpi .slt (BitVec.ofNat 32 j) 4#32) a b = if j < 4 then a else b := by
  have hb : ∀ j : Fin 12, Scalar.cmpi .slt (BitVec.ofNat 32 j.val) 4#32 = if j.val < 4 then 1#1 else 0#1 := by decide
  rw [hb ⟨j, h⟩]
  simp only
  split <;> rfl

/-- The tile a point computes is the projected array's at the tile's place. -/
theorem tile_apply (c : Dev nD) (t : Fin cfg0.N) (r : Fin 1024) (q : Fin 512) :
    (tile m c t : Vec Ideal S1024x512 .bf16) (ix2 r q)
      = result m c (ix2 ⟨t.val % 8 * 1024 + r.val, by omega⟩ ⟨t.val / 8 * 512 + q.val, by have : t.val < 96 := t.isLt; omega⟩) := by
  have ht : t.val < 96 := t.isLt
  obtain ⟨-, -, -, -, -, -, h0⟩ := at_point t
  pointwise [tile, k0_pay1, k0_pay2]
  simp only [read_0, read_1, h0]
  rw [factor_eq _ _ _ (by omega)]
  simp only [result, projected, ix2]
  have e : t.val / 8 < 4 ↔ t.val / 8 * 512 + q.val < 2048 := by omega
  simp only [e]
  rfl

theorem flushed_eq (c : Dev nD) (t : Fin cfg0.N) :
    (dats m 0 c).flushed 2 t = ((cfg0.win 2).blk t).view.read (Elt Ideal) (result m c) := by
  show (cfg0.win 2).cut (grid0.coords t) ((dats m 0 c).after 2 t) = _
  rw [after_2]
  funext y
  show (tile m c t : Vec Ideal S1024x512 .bf16) y = result m c (((cfg0.win 2).blk t).view.emb y)
  obtain ⟨-, -, -, -, h0, h1, -⟩ := at_point t
  rw [show (tile m c t : Vec Ideal S1024x512 .bf16) y = tile m c t (ix2 (y 0) (y 1)) from
    congrArg (tile m c t) (by funext a; match a with | 0 => rfl | 1 => rfl)]
  refine (tile_apply m c t (y 0) (y 1)).trans ?_
  congr 1
  funext a; apply Fin.ext
  match a with
  | 0 => show _ = win0_2.index t 0 * 1024 + 1 * (y 0).val; rw [h0]; simp
  | 1 => show _ = win0_2.index t 1 * 512 + 1 * (y 1).val; rw [h1]; simp

theorem mem_blk (t : Fin cfg0.N) (i : S8192x6144.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v1).slice (win0_2.rect t)).set ↔ _
  rw [View.set_slice_whole, Rect.mem_set_unit]
  exact Iff.rfl

theorem cover (i : S8192x6144.Idx) : ∃ t : Fin cfg0.N, (cfg0.win 2).flush t = true ∧ i ∈ ((cfg0.win 2).blk t).view.set := by
  have h0 : (i 0).val < 8192 := (i 0).isLt
  have h1 : (i 1).val < 6144 := (i 1).isLt
  let t : Fin cfg0.N := ⟨(i 1).val / 512 * 8 + (i 0).val / 1024, show _ < 96 by omega⟩
  have ht : t.val = (i 1).val / 512 * 8 + (i 0).val / 1024 := rfl
  refine ⟨t, flush0_2 t, (mem_blk t i).2 ?_⟩
  obtain ⟨-, -, -, -, e0, e1, -⟩ := at_point t
  intro a
  match a with
  | 0 => rw [show win0_2.index t 0 = _ from e0]; show _ * 1024 ≤ (i 0).val ∧ (i 0).val < _ * 1024 + 1024; omega
  | 1 => rw [show win0_2.index t 1 = _ from e1]; show _ * 512 ≤ (i 1).val ∧ (i 1).val < _ * 512 + 512; omega

theorem final (c : Dev nD) : (dats m 0 c).arrAt 2 cfg0.N = result m c :=
  (dats m 0 c).arrAt_eq_of_cover 2 (result m c) (fun t _ => flushed_eq m c t) cover

end Cert.Kernel4Ideal.Qkv

end
-- ==== Proof.CombineRows.lean ====
/-
  The rows the combining kernel copies into its scratch buffer: which elements a copy writes, what they hold once it has
  landed, and the rule by which one copy of a tile's batch is started.
-/
module

public import proofs.«01_k».proof.Proof.Gen.Kernel5Ideal.Loops
public import proofs.«01_k».proof.Proof.Gen.Kernel5Ideal.Launch
public import Idealize.ShloMosaic.Lib.Batch
public import Idealize.ShloMosaic.Lib.Ring
public import Idealize.ShloMosaic.Lib.Tactic
public import Idealize.ShloMosaic.Lib.ValueLayout

@[expose] public section

set_option maxRecDepth 16384

noncomputable section

namespace Cert.Kernel5Ideal.Combine

open Cert.Kernel5Ideal Cert.Kernel5Ideal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The elements -/

/-- Row `r` of plane `k` of slot `s` of the scratch buffer. -/
def rowSet (s k r : ℕ) : Finset S2x2x256x2048.Idx :=
  Finset.univ.filter fun i => (i 0).val = s ∧ (i 1).val = k ∧ (i 2).val = r
/-- Slot `s` of the scratch buffer. -/
def slotSet (s : ℕ) : Finset S2x2x256x2048.Idx := Finset.univ.filter fun i => (i 0).val = s

theorem mem_rowSet (s k r : ℕ) (i : S2x2x256x2048.Idx) :
    i ∈ rowSet s k r ↔ (i 0).val = s ∧ (i 1).val = k ∧ (i 2).val = r := by
  unfold rowSet; rw [Finset.mem_filter]; exact ⟨fun h => h.2, fun h => ⟨Finset.mem_univ _, h⟩⟩
theorem mem_slotSet (s : ℕ) (i : S2x2x256x2048.Idx) : i ∈ slotSet s ↔ (i 0).val = s := by
  unfold slotSet; rw [Finset.mem_filter]; exact ⟨fun h => h.2, fun h => ⟨Finset.mem_univ _, h⟩⟩

/-- The elements copy `n` of a tile writes: slot `s`, plane `n % 2`, row `n / 2`. -/
def copySet (s : ℕ) (n : Fin 512) : Finset S2x2x256x2048.Idx := rowSet s (n.val % 2) (n.val / 2)

theorem copySet_disjoint (s : ℕ) (n n' : Fin 512) (h : n ≠ n') : Disjoint (copySet s n) (copySet s n') := by
  rw [Finset.disjoint_left]; intro i hi hi'
  unfold copySet at hi hi'; rw [mem_rowSet] at hi hi'
  exact h (Fin.ext (by omega))

theorem copySet_cover (s : ℕ) : Finset.univ.biUnion (copySet s) = slotSet s := by
  ext i
  rw [Finset.mem_biUnion, mem_slotSet]
  have h1 : (i 1).val < 2 := (i 1).isLt
  have h2 : (i 2).val < 256 := (i 2).isLt
  constructor
  · rintro ⟨n, -, hn⟩; unfold copySet at hn; rw [mem_rowSet] at hn; exact hn.1
  · intro hs
    refine ⟨⟨2 * (i 2).val + (i 1).val, by omega⟩, Finset.mem_univ _, ?_⟩
    unfold copySet; rw [mem_rowSet]; refine ⟨hs, ?_, ?_⟩ <;> simp only <;> omega

theorem slot_disjoint : Disjoint (slotSet 0) (slotSet 1) := by
  rw [Finset.disjoint_left]; intro i hi hi'; rw [mem_slotSet] at hi hi'; omega
theorem slot_cover : slotSet 0 ∪ slotSet 1 = Finset.univ := by
  ext i; rw [Finset.mem_union, mem_slotSet, mem_slotSet]
  have h0 : (i 0).val < 2 := (i 0).isLt
  exact ⟨fun _ => Finset.mem_univ _, fun _ => by omega⟩

/-! ## What lands -/

/-- Word `n` of the table, and the row of the sorted outputs it names. -/
def wordAt (tbl : S16384.Idx → BitVec 32) (n : ℕ) : BitVec 32 := tbl (ix1 ⟨n % 16384, by omega⟩)
def rowOf (tbl : S16384.Idx → BitVec 32) (n : ℕ) : Fin 17280 := ⟨(wordAt tbl n).toNat % 17280, by omega⟩

/-- The scratch buffer's contents once tile `t` has landed (in either slot): plane `k`, row `r` is the row of the sorted
    outputs that word `512 t + 2 r + k` of the table names. -/
def landed (tbl : S16384.Idx → BitVec 32) (y : S17280x2048.Idx → BitVec 32) (t : ℕ) : S2x2x256x2048.Idx → BitVec 32 :=
  fun i => y (ix2 (rowOf tbl (512 * t + 2 * (i 2).val + (i 1).val)) (i 3))

/-! ## The two ends of a copy -/

section Ends

variable (o9 : Fin 4 → ℕ) (h9 : ∀ a, o9 a + S1x1x256x2048.size a ≤ S2x2x256x2048.size a)
  (o10 : Fin 2 → ℕ) (h10 : ∀ a, o10 a + S1x2048.size a ≤ S256x2048.size a)
  (o11 : Fin 2 → ℕ) (h11 : ∀ a, o11 a + S1x2048.size a ≤ S17280x2048.size a)

/-- A row of a plane of the scratch buffer, and a row of the sorted outputs. -/
abbrev dstAt : Memref sig .tc .vmem S1x2048 .i32 :=
  (((Memref.whole cc0_scratch0).slice (Rect.unit (s := S2x2x256x2048) o9 S1x1x256x2048.size h9) (fun _ => rfl)).squeeze S256x2048
    squeezes_S1x1x256x2048_S256x2048).slice (Rect.unit (s := S256x2048) o10 S1x2048.size h10) (fun _ => rfl)
abbrev srcAt : Memref sig .tc .hbm S1x2048 .i32 :=
  (Memref.whole main_arg1).slice (Rect.unit (s := S17280x2048) o11 S1x2048.size h11) (fun _ => rfl)

end Ends

theorem dst_emb (s k r : ℕ) (h9 : ∀ a, (![s, k, 0, 0] : Fin 4 → ℕ) a + S1x1x256x2048.size a ≤ S2x2x256x2048.size a)
    (h10 : ∀ a, (![r, 0] : Fin 2 → ℕ) a + S1x2048.size a ≤ S256x2048.size a) (x : S1x2048.Idx) :
    ((dstAt ![s, k, 0, 0] h9 ![r, 0] h10).view.emb x : S2x2x256x2048.Idx)
      = ix4 ⟨s, Nat.lt_of_lt_of_le (Nat.lt_succ_self s) (h9 0)⟩ ⟨k, Nat.lt_of_lt_of_le (Nat.lt_succ_self k) (h9 1)⟩
          ⟨r, Nat.lt_of_lt_of_le (Nat.lt_succ_self r) (h10 0)⟩ (x 1) := by
  have hx : (x 0).val = 0 := by have : (x 0).val < 1 := (x 0).isLt; omega
  have e : ((Rect.unit (s := S256x2048) ![r, 0] S1x2048.size h10).emb x : S256x2048.Idx)
      = ix2 ⟨r, Nat.lt_of_lt_of_le (Nat.lt_succ_self r) (h10 0)⟩ (x 1) := by
    funext a; refine Fin.ext ?_
    rw [Rect.emb_apply]
    match a with
    | 0 => simp [hx]
    | 1 => simp
  show ((Rect.unit (s := S2x2x256x2048) ![s, k, 0, 0] S1x1x256x2048.size h9).emb
    (Shape.reshapeEquiv _ ((Rect.unit (s := S256x2048) ![r, 0] S1x2048.size h10).emb x)) : S2x2x256x2048.Idx) = _
  rw [e]
  refine (congrArg _ (reshapeEquiv_ix2_11ab (a := 256) (b := 2048) _ _ _)).trans ?_
  funext a; refine Fin.ext ?_
  rw [Rect.emb_apply]
  match a with
  | 0 => simp
  | 1 => simp
  | 2 => simp
  | 3 => simp

theorem dst_set (s k r : ℕ) (h9 : ∀ a, (![s, k, 0, 0] : Fin 4 → ℕ) a + S1x1x256x2048.size a ≤ S2x2x256x2048.size a)
    (h10 : ∀ a, (![r, 0] : Fin 2 → ℕ) a + S1x2048.size a ≤ S256x2048.size a) :
    ((dstAt ![s, k, 0, 0] h9 ![r, 0] h10).view.set : Finset S2x2x256x2048.Idx) = rowSet s k r := by
  ext i
  refine Finset.mem_map.trans (Iff.trans ?_ (mem_rowSet s k r i).symm)
  constructor
  · rintro ⟨x, -, hx⟩
    have e := (dst_emb s k r h9 h10 x).symm.trans hx
    rw [← e]
    exact ⟨rfl, rfl, rfl⟩
  · rintro ⟨h0, h1, h2⟩
    refine ⟨ix2 ⟨0, Nat.one_pos⟩ (i 3), Finset.mem_univ _, ?_⟩
    refine (dst_emb s k r h9 h10 _).trans ?_
    funext a; refine Fin.ext ?_
    match a with
    | 0 => exact h0.symm
    | 1 => exact h1.symm
    | 2 => exact h2.symm
    | 3 => rfl

theorem src_emb (w : ℕ) (h11 : ∀ a, (![w, 0] : Fin 2 → ℕ) a + S1x2048.size a ≤ S17280x2048.size a) (x : S1x2048.Idx) :
    ((srcAt ![w, 0] h11).view.emb x : S17280x2048.Idx)
      = ix2 ⟨w, Nat.lt_of_lt_of_le (Nat.lt_succ_self w) (h11 0)⟩ (x 1) := by
  have hx : (x 0).val = 0 := by have : (x 0).val < 1 := (x 0).isLt; omega
  show ((Rect.unit (s := S17280x2048) ![w, 0] S1x2048.size h11).emb x : S17280x2048.Idx) = _
  funext a; refine Fin.ext ?_
  rw [Rect.emb_apply]
  match a with
  | 0 => simp [hx]
  | 1 => simp

/-- What a copy leaves in its row is the landed row, whatever the row held. -/
theorem write_landed (s k r w t : ℕ)
    (h9 : ∀ a, (![s, k, 0, 0] : Fin 4 → ℕ) a + S1x1x256x2048.size a ≤ S2x2x256x2048.size a)
    (h10 : ∀ a, (![r, 0] : Fin 2 → ℕ) a + S1x2048.size a ≤ S256x2048.size a)
    (h11 : ∀ a, (![w, 0] : Fin 2 → ℕ) a + S1x2048.size a ≤ S17280x2048.size a)
    (tbl : S16384.Idx → BitVec 32) (y : S17280x2048.Idx → BitVec 32)
    (hw : w = (rowOf tbl (512 * t + 2 * r + k)).val) (fd : S2x2x256x2048.Idx → BitVec 32) :
    ∀ i ∈ rowSet s k r, (dstAt ![s, k, 0, 0] h9 ![r, 0] h10).view.write (Elt F) fd
      ((srcAt ![w, 0] h11).view.read (Elt F) y) Finset.univ i = landed tbl y t i := by
  intro i hi
  rw [← dst_set s k r h9 h10] at hi
  obtain ⟨x, -, rfl⟩ := Finset.mem_map.mp hi
  refine (View.write_emb_of_mem _ _ (Finset.mem_univ _)).trans ?_
  refine (show _ = y ((srcAt ![w, 0] h11).view.emb x) from rfl).trans ?_
  refine (congrArg y (src_emb w h11 x)).trans ?_
  refine Eq.trans ?_ (congrArg (landed tbl y t) (dst_emb s k r h9 h10 x)).symm
  unfold landed
  refine congrArg y ?_
  funext a; refine Fin.ext ?_
  match a with
  | 0 => exact hw
  | 1 => rfl

/-! ## Copies in flight

Tile `t` travels into slot `s` as one batch of 512 copies on the slot's semaphore. Copy `n` borrows the reading token
`512 s + n` of the sorted outputs and the row it writes; both come back, the row landed, when the batch is collected. -/

variable (c : Dev nD)

/-- The scratch buffer and the sorted outputs, as locations. -/
abbrev scr : Loc nD τ sig := (c : Thread nD τ).loc cc0_scratch0
abbrev yl : Loc nD τ sig := (c : Thread nD τ).loc main_arg1

/-- What one row of 2048 words credits its semaphore. -/
def credit : ℕ := Ref.dmaCredit (sig := sig) cc0_scratch0 S1x2048 .i32
theorem credit_pos : 0 < credit := sig.dmaCredit_pos _ _ _ _ _ (by decide)

/-- The reading token of copy `n` of slot `s`. -/
def tok (n : ℕ) : PosShare TreeShare := Transfers.shareTokN fullShare n

/-- The delivery of copy `n` of tile `t` into slot `s`. -/
def deliv (tbl : S16384.Idx → BitVec 32) (y : S17280x2048.Idx → BitVec 32) (t s : ℕ) (n : Fin 512) : sProp 𝕄 :=
  iprop((scr c ↦[copySet s n]{fullShare} landed tbl y t) ∗ (yl c ↦{tok (512 * s + n.val)} y))

instance deliv_storable (tbl : S16384.Idx → BitVec 32) (y : S17280x2048.Idx → BitVec 32) (t s : ℕ) (n : Fin 512) :
    BI.Storable (upEmb : UEmb _ 𝕄) (deliv (F := F) c tbl y t s n) := by
  unfold deliv; infer_instance

/-- The slot's semaphore. -/
def sem (s : ℕ) : DmaSem sig := ⟨(7 + s) % 9, Nat.mod_lt _ (by decide)⟩

/-- Tile `t`'s batch on slot `s`: `j` copies started, `u` units of credit consumed. -/
def Flight (tbl : S16384.Idx → BitVec 32) (y : S17280x2048.Idx → BitVec 32) (t s j u : ℕ) : sProp 𝕄 :=
  Transfers.Batch (countersEmb (U := Pipeline.UD sig nD τ)) (c : Thread nD τ) (.dma (sem s)) () credit (deliv (F := F) c tbl y t s) j u

/-- The rows and tokens of the copies of slot `s` not yet started. -/
def Avail (y : S17280x2048.Idx → BitVec 32) (s : ℕ) (f : S2x2x256x2048.Idx → BitVec 32) (j : ℕ) : sProp 𝕄 :=
  bigSep (Transfers.pending (n := 512) j) fun n => iprop((scr c ↦[copySet s n]{fullShare} f) ∗ (yl c ↦{tok (512 * s + n.val)} y))

variable {Λ : Labels} {defs : Defs nD τ sig (Elt F) Λ} (𝒱 : Variants) (bd : Option 𝒱.V)

/-- Starting the next copy of a batch. -/
theorem issue {α : Type} {Q : α → sProp 𝕄} {k : PUnit → Prog (TpuEff nD τ sig (Elt F) Λ .tc) α}
    {o9 : Fin 4 → ℕ} {h9 : ∀ a, o9 a + S1x1x256x2048.size a ≤ S2x2x256x2048.size a}
    {o10 : Fin 2 → ℕ} {h10 : ∀ a, o10 a + S1x2048.size a ≤ S256x2048.size a}
    {o11 : Fin 2 → ℕ} {h11 : ∀ a, o11 a + S1x2048.size a ≤ S17280x2048.size a}
    {sm : DmaSem sig} {hsrc : (srcAt o11 h11).view.WordExact} {hdst : (dstAt o9 h9 o10 h10).view.WordExact}
    {hsem : DmaTarget.Typed (nD := nD) (τ := τ) (p := .tc) .hbm (.dma sm) (.here (dstAt o9 h9 o10 h10))}
    (tbl : S16384.Idx → BitVec 32) (y : S17280x2048.Idx → BitVec 32) (t s j : ℕ) (f : S2x2x256x2048.Idx → BitVec 32) (hj : j < 512)
    (e9 : o9 = ![s, j % 2, 0, 0]) (e10 : o10 = ![j / 2, 0]) (e11 : o11 = ![(rowOf tbl (512 * t + j)).val, 0]) (es : sm = sem s) :
    iprop(Flight (F := F) c tbl y t s j 0 ∗ Avail (F := F) c y s f j)
      ⊢ iprop((iprop(Flight (F := F) c tbl y t s (j + 1) 0 ∗ Avail (F := F) c y s f (j + 1))
            -∗ wp frame (wpE defs 𝒱 (c : Thread nD τ) bd) Set.univ (k ⟨⟩) Q)
          -∗ wp frame (wpE defs 𝒱 (c : Thread nD τ) bd) Set.univ
              (.op (.enqueueDma (srcAt o11 h11) (.here (dstAt o9 h9 o10 h10)) (.dma sm) hsrc hdst hsem) k) Q) := by
  subst e9 e10 e11 es
  unfold Flight Avail Transfers.Batch
  iintro ⟨⟨%γ, %γ₀, %κ, #Hinv, HI, H0, Hcred⟩, Hav⟩ Hk
  ihave HI' := (Entails.of_eq (Transfers.bigSep_pending_step (fun t => count (countersEmb (U := Pipeline.UD sig nD τ)) (γ t) 0) j hj)) $$ HI
  icases HI' with ⟨Ht, HI⟩
  ihave Hav' := (Entails.of_eq (Transfers.bigSep_pending_step _ j hj)) $$ Hav
  icases Hav' with ⟨⟨Hd, Hy⟩, Hav⟩
  ihave Hy' := (pointsTo_split_subset (Finset.subset_univ (srcAt ![(rowOf tbl (512 * t + j)).val, 0] h11).view.set)).1 $$ Hy
  icases Hy' with ⟨Hs, Hrest⟩
  iapply (wp_enqueueDmaAs 𝒱 (c : Thread nD τ) bd Set.univ () credit rfl) $$ [Hs Hd] [Ht Hrest]
  · isplitl [Hs]; · iexact Hs
    iapply (pointsTo_writeUpdate (c : Thread nD τ) (v := (dstAt ![s, j % 2, 0, 0] h9 ![j / 2, 0] h10).view) (S := copySet s ⟨j, hj⟩)
      (Finset.subset_of_eq (dst_set s (j % 2) (j / 2) h9 h10)) (fd := f)) $$ Hd
  · iapply (Transfers.batch_creditUpdate_with (countersEmb (U := Pipeline.UD sig nD τ)) (D := deliv (F := F) c tbl y t s) ⟨j, hj⟩ ?_)
    rotate_left
    · isplitr; · iexact Hinv
      isplitl [Ht]; · iexact Ht
      iexact Hrest
    · unfold deliv
      iintro ⟨Hrest, Hd, Hs⟩
      isplitl [Hd]
      · iapply (Entails.of_eq (pointsTo_congr (write_landed (F := F) s (j % 2) (j / 2) _ t h9 h10 h11 tbl y (by congr 2; omega) f))) $$ Hd
      · iapply (pointsTo_split_subset (Finset.subset_univ (srcAt ![(rowOf tbl (512 * t + j)).val, 0] h11).view.set)).2
        isplitl [Hs] <;> iassumption
  iintro Hcred'
  iapply Hk
  isplitr [Hav]
  · iexists γ, γ₀, κ
    isplitr; · iexact Hinv
    isplitl [HI]; · iexact HI
    isplitl [H0]; · iexact H0
    rw [show (j + 1) * credit - 0 = (j * credit - 0) + credit by rw [Nat.succ_mul]; rfl, ← tallyAt_add]
    icombine Hcred Hcred' as H
    iexact H
  · iexact Hav

/-! ## The trips of the two loops that start copies -/

/-- The table's half the body reads. -/
abbrev Tbl (tbl : S16384.Idx → BitVec 32) : sProp 𝕄 := ((c : Thread nD τ).loc main_arg0) ↦{fullShare.right} tbl

/-- Every word of the table names a row of the sorted outputs. -/
def InBounds (tbl : S16384.Idx → BitVec 32) : Prop := ∀ n, (wordAt tbl n).toNat < 17280

theorem rowOf_of_inBounds {tbl : S16384.Idx → BitVec 32} (h : InBounds tbl) (n : ℕ) : (rowOf tbl n).val = (wordAt tbl n).toNat :=
  Nat.mod_eq_of_lt (h n)

theorem inb_of_lt {w : ℕ} (h : w < 17280) : ∀ a, (![w, 0] : Fin 2 → ℕ) a + S1x2048.size a ≤ S17280x2048.size a := by
  intro a
  match a with
  | 0 => show w + 1 ≤ 17280; omega
  | 1 => show 0 + 2048 ≤ 2048; omega

/-- The word a load of one word of the table gives. -/
theorem word_read (o : Fin 1 → ℕ) (h : ∀ a, o a + S1.size a ≤ S16384.size a) (tbl : S16384.Idx → BitVec 32) (n : ℕ) (e : o = ![n])
    (hn : n < 16384) (x : S1.Idx) :
    (((Memref.whole (sig := sig) main_arg0).access (Rect.unit (s := S16384) o S1.size h)).read (Elt F) tbl x : BitVec 32) = wordAt tbl n := by
  subst e
  show tbl ((Rect.unit (s := S16384) ![n] S1.size h).emb x) = _
  unfold wordAt
  refine congrArg tbl ?_
  have hx : (x 0).val = 0 := by have : (x 0).val < 1 := (x 0).isLt; omega
  funext a; refine Fin.ext ?_
  rw [Rect.emb_apply]
  match a with
  | 0 => simp [hx, Nat.mod_eq_of_lt hn]

theorem plane_eq (s : ℕ) {a b : ℕ} (h : a = b) : (![s, a, 0, 0] : Fin 4 → ℕ) = ![s, b, 0, 0] := by rw [h]
theorem row_eq {a b : ℕ} (h : a = b) : (![a, 0] : Fin 2 → ℕ) = ![b, 0] := by rw [h]
theorem word_eq {a b : ℕ} (h : a = b) : (![a] : Fin 1 → ℕ) = ![b] := by rw [h]

/-- Reading a word of the table. -/
theorem load_word {α : Type} {Q : α → sProp 𝕄} {K : BitVec 32 → Prog (TpuEff nD τ sig (Elt F) Λ .tc) α}
    (o1 : Fin 1 → ℕ) (b1 : ∀ a, o1 a + S1.size a ≤ S16384.size a) (tbl : S16384.Idx → BitVec 32) (n : ℕ) (e1 : o1 = ![n]) (hn : n < 16384) :
    Tbl (F := F) c tbl
      ⊢ iprop((Tbl (F := F) c tbl -∗ wp frame (wpE defs 𝒱 (c : Thread nD τ) bd) Set.univ (K (wordAt tbl n)) Q)
        -∗ wp frame (wpE defs 𝒱 (c : Thread nD τ) bd) Set.univ
          ((smemLoad (Memref.whole main_arg0) (Rect.unit (s := S16384) o1 S1.size b1) numel1_S1 rfl : Prog (TpuEff nD τ sig (Elt F) Λ .tc) (Elt F .i32)) >>= K) Q) := by
  rw [← word_read (F := F) o1 b1 tbl n e1 hn (Shape.Idx.first (numel1_S1.symm ▸ Nat.one_pos))]
  exact wp_smemLoadElt (Val := Elt F) 𝒱 (c : Thread nD τ) bd Set.univ (m := Memref.whole main_arg0) (r := Rect.unit (s := S16384) o1 S1.size b1) (f := tbl)
    (q := fullShare.right) (S := Finset.univ) (k := K) (hw := View.loads_smem_one rfl numel1_S1) (x := Shape.Idx.first (numel1_S1.symm ▸ Nat.one_pos)) (Finset.subset_univ _)

/-- One copy started: the word read, found in bounds, the copy of the row it names enqueued. -/
theorem half {α : Type} {Q : α → sProp 𝕄} {k : PUnit → Prog (TpuEff nD τ sig (Elt F) Λ .tc) α}
    (o1 : Fin 1 → ℕ) (b1 : ∀ a, o1 a + S1.size a ≤ S16384.size a)
    (C : BitVec 32 → Prop) (dec : ∀ v, Decidable (C v))
    (o9 : Fin 4 → ℕ) (b9 : ∀ a, o9 a + S1x1x256x2048.size a ≤ S2x2x256x2048.size a)
    (o10 : Fin 2 → ℕ) (b10 : ∀ a, o10 a + S1x2048.size a ≤ S256x2048.size a)
    (o11 : BitVec 32 → Fin 2 → ℕ) (b11 : ∀ v, C v → ∀ a, o11 v a + S1x2048.size a ≤ S17280x2048.size a)
    (sm : DmaSem sig) (hsrc : ∀ v hw, (srcAt (o11 v) (b11 v hw)).view.WordExact) (hdst : (dstAt o9 b9 o10 b10).view.WordExact)
    (hsem : DmaTarget.Typed (nD := nD) (τ := τ) (p := .tc) .hbm (.dma sm) (.here (dstAt o9 b9 o10 b10)))
    (tbl : S16384.Idx → BitVec 32) (y : S17280x2048.Idx → BitVec 32) (t s j : ℕ) (f : S2x2x256x2048.Idx → BitVec 32) (hj : j < 512)
    (hb : InBounds tbl) (hC : ∀ v : BitVec 32, v.toNat < 17280 → C v)
    (e1 : o1 = ![512 * t + j]) (ht : t < 32)
    (e9 : o9 = ![s, j % 2, 0, 0]) (e10 : o10 = ![j / 2, 0]) (e11 : ∀ v, o11 v = ![v.toNat, 0]) (es : sm = sem s)
    (hk : iprop(Tbl (F := F) c tbl ∗ Flight (F := F) c tbl y t s (j + 1) 0 ∗ Avail (F := F) c y s f (j + 1))
      ⊢ wp frame (wpE defs 𝒱 (c : Thread nD τ) bd) Set.univ (k ⟨⟩) Q) :
    iprop(Tbl (F := F) c tbl ∗ Flight (F := F) c tbl y t s j 0 ∗ Avail (F := F) c y s f j)
      ⊢ wp frame (wpE defs 𝒱 (c : Thread nD τ) bd) Set.univ
          ((smemLoad (Memref.whole main_arg0) (Rect.unit (s := S16384) o1 S1.size b1) numel1_S1 rfl : Prog (TpuEff nD τ sig (Elt F) Λ .tc) (Elt F .i32)) >>= fun v =>
            Prog.lift (TpuEff.assume (C v) (dec v)) >>= fun hw =>
              Prog.lift (.enqueueDma (srcAt (o11 v) (b11 v hw.down)) (.here (dstAt o9 b9 o10 b10)) (.dma sm) (hsrc v hw.down) hdst hsem) >>= k) Q := by
  iintro ⟨HT, HF, HA⟩
  iapply (load_word (F := F) c 𝒱 bd o1 b1 tbl (512 * t + j) e1 (by omega)) $$ HT
  iintro HT
  iapply (wp_assume 𝒱 (c : Thread nD τ) bd Set.univ (hC _ (hb _)))
  iapply (issue (F := F) c 𝒱 bd tbl y t s j f hj e9 e10 ((e11 _).trans (by rw [rowOf_of_inBounds hb])) es) $$ [HF HA]
  · isplitl [HF] <;> iassumption
  iintro ⟨HF, HA⟩
  iapply hk
  isplitl [HT]; · iexact HT
  isplitl [HF] <;> iassumption

section Trips

variable (i : grid0.Coords)
  (arg3 : Memref sig .tc .vmem S256x4096 .f32) (harg3 : arg3.IsWhole) (arg4 : Memref sig .tc .vmem S256x128 .f32) (harg4 : arg4.IsWhole)
  (arg5 : Memref sig .tc .vmem S1x4096 .f32) (harg5 : arg5.IsWhole) (arg6 : Memref sig .tc .vmem S256x4096 .f32) (harg6 : arg6.IsWhole)

theorem trip1 (h1 : k0_cond1 i = 1#1) (tbl : S16384.Idx → BitVec 32) (hb : InBounds tbl) (y : S17280x2048.Idx → BitVec 32)
    (f : S2x2x256x2048.Idx → BitVec 32) (k : Fin k0_t1_loop.trips) (u : Unit) :
    iprop(Tbl (F := F) c tbl ∗ Flight (F := F) c tbl y 0 0 (2 * k.val) 0 ∗ Avail (F := F) c y 0 f (2 * k.val))
      ⊢ wp frame (wpE defs₀ 𝒱 (c : Thread nD τ) bd) Set.univ
          (k0_t1_body (F := F) i (Memref.whole main_arg0) (Memref.isWhole_whole _) (Memref.whole main_arg1) (Memref.isWhole_whole _)
            arg3 harg3 arg4 harg4 arg5 harg5 arg6 harg6 (Memref.whole cc0_scratch0) (Memref.isWhole_whole _) cc0_scratch1 h1 k u)
          (fun _ => iprop(Tbl (F := F) c tbl ∗ Flight (F := F) c tbl y 0 0 (2 * (k.val + 1)) 0 ∗ Avail (F := F) c y 0 f (2 * (k.val + 1)))) := by
  have hk : k.val < 256 := Nat.lt_of_lt_of_le k.isLt Gen.k0_t1_abs.2.1
  unfold k0_t1_body
  refine half (F := F) c 𝒱 bd (k0_off1 k) (k0_off1_inb i k h1) (k0_chk1 i) (k0_chk1.dec i) _ _ (k0_off2 k) (k0_off2_inb i k h1)
    k0_off3 (fun v hw => k0_off3_inb i v hw h1) _ _ _ _ tbl y 0 0 (2 * k.val) f (by omega) hb (fun _ hv _ => inb_of_lt hv)
    ((Gen.k0_off1_eq k).trans (word_eq (by omega))) (by omega) (plane_eq 0 (by omega)) ((Gen.k0_off2_eq k).trans (row_eq (by omega))) (fun _ => rfl) (by decide +kernel) ?_
  refine half (F := F) c 𝒱 bd (k0_off4 k) (k0_off4_inb i k h1) (k0_chk2 i) (k0_chk2.dec i) _ _ (k0_off5 k) (k0_off5_inb i k h1)
    k0_off6 (fun v hw => k0_off6_inb i v hw h1) _ _ _ _ tbl y 0 0 (2 * k.val + 1) f (by omega) hb (fun _ hv _ => inb_of_lt hv)
    ((Gen.k0_off4_eq k).trans (word_eq (by omega))) (by omega) (plane_eq 0 (by omega)) ((Gen.k0_off5_eq k).trans (row_eq (by omega))) (fun _ => rfl) (by decide +kernel) ?_
  rw [wp_pure]
  iintro H
  imodintro
  iexact H

theorem sem_off8 : ∀ (i : grid0.Coords) (h2 : k0_cond2 i = 1#1),
    ((cc0_scratch1.slice (Rect.unit (s := S2) (k0_off8 i) S1.size (k0_off8_inb i h2))).squeeze S_ squeezes_S1_S_).sem = sem (1 - (i 0).val % 2) := by
  decide +kernel
theorem sem_off13 : ∀ (i : grid0.Coords) (h2 : k0_cond2 i = 1#1),
    ((cc0_scratch1.slice (Rect.unit (s := S2) (k0_off13 i) S1.size (k0_off13_inb i h2))).squeeze S_ squeezes_S1_S_).sem = sem (1 - (i 0).val % 2) := by
  decide +kernel
theorem sem_off17 : ∀ i : grid0.Coords,
    ((cc0_scratch1.slice (Rect.unit (s := S2) (k0_off17 i) S1.size (k0_off17_inb i))).squeeze S_ squeezes_S1_S_).sem = sem ((i 0).val % 2) := by
  decide +kernel

theorem cond1_iff : ∀ i : grid0.Coords, k0_cond1 i = 1#1 ↔ (i 0).val = 0 := by decide +kernel
theorem cond2_iff : ∀ i : grid0.Coords, k0_cond2 i = 1#1 ↔ (i 0).val + 1 < 32 := by decide +kernel
theorem trips1 : k0_t1_loop.trips = 256 := by decide +kernel
theorem trips2 : k0_t2_loop.trips = 256 := by decide +kernel
theorem trips3 : k0_t3_loop.trips = 512 := by decide +kernel

theorem trip2 (h2 : k0_cond2 i = 1#1) (tbl : S16384.Idx → BitVec 32) (hb : InBounds tbl) (y : S17280x2048.Idx → BitVec 32)
    (f : S2x2x256x2048.Idx → BitVec 32) (k : Fin k0_t2_loop.trips) (u : Unit) :
    iprop(Tbl (F := F) c tbl ∗ Flight (F := F) c tbl y ((i 0).val + 1) (1 - (i 0).val % 2) (2 * k.val) 0 ∗ Avail (F := F) c y (1 - (i 0).val % 2) f (2 * k.val))
      ⊢ wp frame (wpE defs₀ 𝒱 (c : Thread nD τ) bd) Set.univ
          (k0_t2_body (F := F) i (Memref.whole main_arg0) (Memref.isWhole_whole _) (Memref.whole main_arg1) (Memref.isWhole_whole _)
            arg3 harg3 arg4 harg4 arg5 harg5 arg6 harg6 (Memref.whole cc0_scratch0) (Memref.isWhole_whole _) cc0_scratch1 h2 k u)
          (fun _ => iprop(Tbl (F := F) c tbl ∗ Flight (F := F) c tbl y ((i 0).val + 1) (1 - (i 0).val % 2) (2 * (k.val + 1)) 0
            ∗ Avail (F := F) c y (1 - (i 0).val % 2) f (2 * (k.val + 1)))) := by
  have hk : k.val < 256 := Nat.lt_of_lt_of_le k.isLt Gen.k0_t2_abs.2.1
  have hi : (i 0).val + 1 < 32 := (cond2_iff i).mp h2
  unfold k0_t2_body
  refine half (F := F) c 𝒱 bd (k0_off7 i k) (k0_off7_inb i k h2) (k0_chk3 i) (k0_chk3.dec i) (k0_off9 i) (k0_off9_inb i h2) (k0_off10 k) (k0_off10_inb i k h2)
    k0_off11 (fun v hw => k0_off11_inb i v hw h2) _ _ _ _ tbl y ((i 0).val + 1) (1 - (i 0).val % 2) (2 * k.val) f (by omega) hb (fun _ hv _ => inb_of_lt hv)
    ((Gen.k0_off7_eq i k).trans (word_eq (by omega))) hi ((Gen.k0_off9_eq i).trans (plane_eq _ (by omega))) ((Gen.k0_off10_eq k).trans (row_eq (by omega)))
    (fun _ => rfl) (sem_off8 i h2) ?_
  refine half (F := F) c 𝒱 bd (k0_off12 i k) (k0_off12_inb i k h2) (k0_chk4 i) (k0_chk4.dec i) (k0_off14 i) (k0_off14_inb i h2) (k0_off15 k) (k0_off15_inb i k h2)
    k0_off16 (fun v hw => k0_off16_inb i v hw h2) _ _ _ _ tbl y ((i 0).val + 1) (1 - (i 0).val % 2) (2 * k.val + 1) f (by omega) hb (fun _ hv _ => inb_of_lt hv)
    ((Gen.k0_off12_eq i k).trans (word_eq (by omega))) hi ((Gen.k0_off14_eq i).trans (plane_eq _ (by omega))) ((Gen.k0_off15_eq k).trans (row_eq (by omega)))
    (fun _ => rfl) (sem_off13 i h2) ?_
  rw [wp_pure]
  iintro H
  imodintro
  iexact H

/-- One wait of the draining loop. -/
theorem trip3 (tbl : S16384.Idx → BitVec 32) (y : S17280x2048.Idx → BitVec 32) (t : ℕ) (k : Fin k0_t3_loop.trips) (u : Unit) :
    iprop(Flight (F := F) c tbl y t ((i 0).val % 2) 512 (k.val * credit) ∗ ∃ W, owes (Ix := Unit) (c : Thread nD τ) 0 W)
      ⊢ wp frame (wpE defs₀ 𝒱 (c : Thread nD τ) bd) Set.univ
          (k0_t3_body (F := F) i (Memref.whole main_arg0) (Memref.isWhole_whole _) (Memref.whole main_arg1) (Memref.isWhole_whole _)
            arg3 harg3 arg4 harg4 arg5 harg5 arg6 harg6 (Memref.whole cc0_scratch0) (Memref.isWhole_whole _) cc0_scratch1 k u)
          (fun _ => iprop(Flight (F := F) c tbl y t ((i 0).val % 2) 512 ((k.val + 1) * credit) ∗ ∃ W, owes (Ix := Unit) (c : Thread nD τ) 0 W)) := by
  have hk : k.val < 512 := Nat.lt_of_lt_of_le k.isLt Gen.k0_t3_abs.2.1
  unfold k0_t3_body Flight
  rw [← sem_off17 i]
  iintro ⟨HF, %W, HO⟩
  iapply (Transfers.wp_waitBatchMul (countersEmb (U := Pipeline.UD sig nD τ)) 𝒱 (c : Thread nD τ) bd () (N := credit) 1 (Nat.one_mul _).symm
    (by rw [← Nat.succ_mul, Nat.mul_comm credit]; exact Nat.mul_le_mul_right _ hk)) $$ [HF HO]
  · isplitl [HF]
    · iexact HF
    · iexact HO
  iintro ⟨HF, HO⟩
  rw [show (Prog.ret PUnit.unit : Prog (TpuEff nD τ sig (Elt F) Λ₀ .tc) PUnit).bind (fun _ => pure PUnit.unit) = pure PUnit.unit from rfl, wp_pure]
  imodintro
  rw [show (k.val + 1) * credit = k.val * credit + credit by rw [Nat.succ_mul]]
  isplitl [HF]
  · rw [Nat.one_mul]; iexact HF
  · iexists _; iexact HO

end Trips

end Cert.Kernel5Ideal.Combine
-- ==== Proof.CombineSlots.lean ====
/-
  The two slots of the combining kernel's scratch buffer, each at rest between the batch that filled it and the next.
-/
module

public import proofs.«01_k».proof.Proof.CombineRows
public import Idealize.ShloMosaic.Lib.Batch
public import Idealize.ShloMosaic.Lib.Ring
public import Idealize.ShloMosaic.Lib.Tactic
public import Idealize.ShloMosaic.Lib.ValueLayout

@[expose] public section

set_option maxRecDepth 16384

noncomputable section

namespace Cert.Kernel5Ideal.Combine

open Cert.Kernel5Ideal Cert.Kernel5Ideal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-! ## A slot between tiles -/

/-- The reading tokens of slot `s`. -/
def Toks (y : S17280x2048.Idx → BitVec 32) (s : ℕ) : sProp 𝕄 := bigSep Finset.univ fun n : Fin 512 => yl c ↦{tok (512 * s + n.val)} y

/-- Slot `s` at rest, its contents `f`. -/
def Rest (y : S17280x2048.Idx → BitVec 32) (s : ℕ) (f : S2x2x256x2048.Idx → BitVec 32) : sProp 𝕄 :=
  iprop(semVal ((c : Thread nD τ), SemLoc.dma (sem s)) 0 ∗ (scr c ↦[slotSet s]{fullShare} f) ∗ Toks (F := F) c y s)

/-- An element set held whole is held block by block. -/
theorem blocks_of {ℓ : Loc nD τ sig} (I : Fin 512 → Finset (Idx ℓ)) (S : Finset (Idx ℓ)) (f : Buf (Elt F) ℓ)
    (hd : ∀ n n', n ≠ n' → Disjoint (I n) (I n')) (hc : ∀ i, (∃ n, i ∈ I n) ↔ i ∈ S) :
    (ℓ ↦[S]{fullShare} f : sProp 𝕄) = bigSep Finset.univ fun n => ℓ ↦[I n]{fullShare} f := by
  refine Ring.pointsTo_sub_blocks I hd S (Finset.ext fun i => ?_) f
  rw [Finset.mem_biUnion, ← hc i]
  exact ⟨fun ⟨n, _, h⟩ => ⟨n, h⟩, fun ⟨n, h⟩ => ⟨n, Finset.mem_univ _, h⟩⟩

theorem mem_copies (s : ℕ) (i : S2x2x256x2048.Idx) : (∃ n, i ∈ copySet s n) ↔ i ∈ slotSet s := by
  rw [← copySet_cover s, Finset.mem_biUnion]
  exact ⟨fun ⟨n, h⟩ => ⟨n, Finset.mem_univ _, h⟩, fun ⟨n, _, h⟩ => ⟨n, h⟩⟩

theorem slot_blocks (s : ℕ) (f : S2x2x256x2048.Idx → BitVec 32) :
    (scr c ↦[slotSet s]{fullShare} f : sProp 𝕄) = bigSep Finset.univ fun n : Fin 512 => scr c ↦[copySet s n]{fullShare} f :=
  blocks_of (F := F) (ℓ := scr c) (copySet s) (slotSet s) f (copySet_disjoint s) (mem_copies s)

theorem tile_split (y : S17280x2048.Idx → BitVec 32) (s : ℕ) (f : S2x2x256x2048.Idx → BitVec 32) :
    (bigSep Finset.univ (fun n : Fin 512 => iprop((scr c ↦[copySet s n]{fullShare} f) ∗ (yl c ↦{tok (512 * s + n.val)} y))) : sProp 𝕄)
      = iprop(bigSep Finset.univ (fun n : Fin 512 => scr c ↦[copySet s n]{fullShare} f)
          ∗ bigSep Finset.univ (fun n : Fin 512 => yl c ↦{tok (512 * s + n.val)} y)) :=
  BI.bigSep_sep _ _ _

theorem avail_intro (y : S17280x2048.Idx → BitVec 32) (s : ℕ) (f : S2x2x256x2048.Idx → BitVec 32) :
    iprop((scr c ↦[slotSet s]{fullShare} f) ∗ bigSep Finset.univ (fun n : Fin 512 => (yl c ↦{tok (512 * s + n.val)} y : sProp 𝕄)))
      ⊢ bigSep (Transfers.pending (n := 512) 0) fun n => iprop((scr c ↦[copySet s n]{fullShare} f) ∗ (yl c ↦{tok (512 * s + n.val)} y)) := by
  rw [Transfers.pending_zero, slot_blocks, tile_split]

/-- A slot at rest, made ready for tile `t`. -/
theorem begin_tile (tbl : S16384.Idx → BitVec 32) (y : S17280x2048.Idx → BitVec 32) (t s : ℕ) (f : S2x2x256x2048.Idx → BitVec 32) :
    Rest (F := F) c y s f ⊢ (|={Set.univ}=> iprop(Flight (F := F) c tbl y t s 0 0 ∗ Avail (F := F) c y s f 0) : sProp 𝕄) := by
  unfold Rest Toks Flight Avail
  iintro ⟨Hv, Hs, Ht⟩
  imod (Transfers.batch_alloc' (Lvl := ℕ) (countersEmb (U := Pipeline.UD sig nD τ)) (c : Thread nD τ) () credit (deliv (F := F) c tbl y t s)
    (E := Set.univ)) $$ Hv with HB
  imodintro
  isplitl [HB]; · iexact HB
  iapply (avail_intro (F := F) c y s f)
  isplitl [Hs]
  · iexact Hs
  · iexact Ht

/-- A tile landed: the slot is at rest again. -/
theorem end_tile (tbl : S16384.Idx → BitVec 32) (y : S17280x2048.Idx → BitVec 32) (t s : ℕ) :
    Flight (F := F) c tbl y t s 512 (512 * credit) ⊢ (|={Set.univ}=> Rest (F := F) c y s (landed tbl y t) : sProp 𝕄) := by
  unfold Rest Toks Flight
  rw [Nat.mul_comm]
  iintro HB
  imod (Transfers.batch_collect' (countersEmb (U := Pipeline.UD sig nD τ)) (c : Thread nD τ) credit_pos) $$ HB with ⟨HD, Hv⟩
  imodintro
  isplitl [Hv]; · iexact Hv
  rw [slot_blocks]
  iapply (show bigSep Finset.univ (deliv (F := F) c tbl y t s) ⊢ _ from Entails.of_eq (tile_split (F := F) c y s (landed tbl y t))) $$ HD

end Cert.Kernel5Ideal.Combine
-- ==== Proof.CombineBody.lean ====
/-
  The body of the combining kernel at one tile: the batch of the next tile is started, this tile's batch is drained, and the
  landed slot is read.
-/
module

public import proofs.«01_k».proof.Proof.CombineSlots
public import proofs.«01_k».proof.Proof.Gen.Kernel5Ideal.Skeleton
public import Idealize.ShloMosaic.Lib.Batch
public import Idealize.ShloMosaic.Lib.Ring
public import Idealize.ShloMosaic.Lib.Tactic
public import Idealize.ShloMosaic.Lib.ValueLayout
public import Idealize.ShloMosaic.Lib.Scf
public import Idealize.ShloMosaic.Lib.VecWindow

@[expose] public section

set_option maxRecDepth 16384

noncomputable section

namespace Cert.Kernel5Ideal.Combine

open Cert.Kernel5Ideal Cert.Kernel5Ideal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- The two slots before tile `n`: in the middle of the grid tile `n`'s rows are on their way into slot `n % 2` and the other
    slot is at rest; before the first tile and after the last one both are at rest. -/
def Slots (tbl : S16384.Idx → BitVec 32) (y : S17280x2048.Idx → BitVec 32) (n : ℕ) : sProp 𝕄 :=
  if 0 < n ∧ n < 32 then iprop(Flight (F := F) c tbl y n (n % 2) 512 0 ∗ ∃ f, Rest (F := F) c y (1 - n % 2) f)
  else iprop((∃ f, Rest (F := F) c y 0 f) ∗ ∃ f, Rest (F := F) c y 1 f)

theorem slots_mid (tbl : S16384.Idx → BitVec 32) (y : S17280x2048.Idx → BitVec 32) (n : ℕ) (h : 0 < n ∧ n < 32) :
    Slots (F := F) c tbl y n = iprop(Flight (F := F) c tbl y n (n % 2) 512 0 ∗ ∃ f, Rest (F := F) c y (1 - n % 2) f) := if_pos h

theorem slots_end (tbl : S16384.Idx → BitVec 32) (y : S17280x2048.Idx → BitVec 32) (n : ℕ) (h : ¬(0 < n ∧ n < 32)) :
    Slots (F := F) c tbl y n = iprop((∃ f, Rest (F := F) c y 0 f) ∗ ∃ f, Rest (F := F) c y 1 f) := if_neg h

/-! ## What one tile leaves in the result's block -/

/-- A block given by its left and right halves. -/
def halves (a b : Vec F S256x2048 .f32) : Vec F S256x4096 .f32 := fun j =>
  if h : (j 1).val < 2048 then a (ix2 (j 0) ⟨(j 1).val, h⟩) else b (ix2 (j 0) ⟨(j 1).val - 2048, by have : (j 1).val < 4096 := (j 1).isLt; omega⟩)

/-- The left half of a block. -/
def leftHalf (x : Vec F S256x4096 .f32) : Vec F S256x2048 .f32 := VecWindow.window x ![0, 0] S256x2048.size inb_S256x4096_S256x2048_0_0
/-- The right half of a block. -/
def rightHalf (x : Vec F S256x4096 .f32) : Vec F S256x2048 .f32 := VecWindow.window x ![0, 2048] S256x2048.size inb_S256x4096_S256x2048_0_2048
/-- The left half of the scale row. -/
def leftRow (x : Vec F S1x4096 .f32) : Vec F S1x2048 .f32 := VecWindow.window x ![0, 0] S1x2048.size inb_S1x4096_S1x2048_0_0
/-- The right half of the scale row. -/
def rightRow (x : Vec F S1x4096 .f32) : Vec F S1x2048 .f32 := VecWindow.window x ![0, 2048] S1x2048.size inb_S1x4096_S1x2048_0_2048

/-- The result's block, from the blocks of the three windowed operands and the two planes of landed rows. -/
def tileOut (x0 : Vec F S256x4096 .f32) (x1 : Vec F S256x128 .f32) (x2 : Vec F S1x4096 .f32) (p0 p1 : Vec F S1x1x256x2048 .i32) : Vec F S256x4096 .f32 :=
  halves (k0_pay4 x1 (k0_pay7 x1 (leftHalf x0) p0) (k0_pay8 x1 (rightHalf x0) p0) (k0_pay10 p1) (k0_pay11 p1) (leftRow x2))
    (k0_pay5 x1 (k0_pay7 x1 (leftHalf x0) p0) (k0_pay8 x1 (rightHalf x0) p0) (k0_pay10 p1) (k0_pay11 p1) (rightRow x2))

/-- Two stores, one to each half, leave the block of the two halves. -/
theorem read_halves {κ : Kind} {sp : Space} (v : View sig κ sp S256x4096 .f32) (f : v.ty.Contents (Elt F)) (a b : Vec F S256x2048 .f32) :
    v.read (Elt F) (v.writes (Elt F) f [⟨Rect.unit ![0, 2048] S256x2048.size inb_S256x4096_S256x2048_0_2048, b⟩,
      ⟨Rect.unit ![0, 0] S256x2048.size inb_S256x4096_S256x2048_0_0, a⟩]) = halves a b := by
  funext j
  have hj : (j 1).val < 4096 := (j 1).isLt
  unfold halves
  by_cases h : (j 1).val < 2048
  · rw [dif_pos h, View.read_writes_cons_unit_of_not_mem v f inb_S256x4096_S256x2048_0_2048 b _ j rfl 1 (.inl h)]
    refine View.read_writes_cons_unit_of_mem v f inb_S256x4096_S256x2048_0_0 a _ j (ix2 (j 0) ⟨(j 1).val, h⟩) rfl fun x => ?_
    match x with
    | 0 => exact (Nat.zero_add _).symm
    | 1 => exact (Nat.zero_add _).symm
  · rw [dif_neg h]
    refine View.read_writes_cons_unit_of_mem v f inb_S256x4096_S256x2048_0_2048 b _ j (ix2 (j 0) ⟨(j 1).val - 2048, by omega⟩) rfl fun x => ?_
    match x with
    | 0 => exact (Nat.zero_add _).symm
    | 1 => show (j 1).val = 2048 + ((j 1).val - 2048); omega

section Phases

variable (𝒱 : Variants) (bd : Option 𝒱.V)
variable (i : grid0.Coords)
  (arg3 : Memref sig .tc .vmem S256x4096 .f32) (harg3 : arg3.IsWhole) (arg4 : Memref sig .tc .vmem S256x128 .f32) (harg4 : arg4.IsWhole)
  (arg5 : Memref sig .tc .vmem S1x4096 .f32) (harg5 : arg5.IsWhole) (arg6 : Memref sig .tc .vmem S256x4096 .f32) (harg6 : arg6.IsWhole)

set_option maxHeartbeats 800000 in
/-- The loop that starts the first tile's copies. -/
theorem start_first (h1 : k0_cond1 i = 1#1) (tbl : S16384.Idx → BitVec 32) (hb : InBounds tbl) (y : S17280x2048.Idx → BitVec 32)
    (f : S2x2x256x2048.Idx → BitVec 32) :
    iprop(Tbl (F := F) c tbl ∗ Rest (F := F) c y 0 f)
      ⊢ wp frame (wpE defs₀ 𝒱 (c : Thread nD τ) bd) Set.univ
          (Scf.Loop.for k0_t1_loop (k0_t1_ok i h1) ⟨⟩ (k0_t1_body (F := F) i (Memref.whole main_arg0) (Memref.isWhole_whole _) (Memref.whole main_arg1) (Memref.isWhole_whole _)
            arg3 harg3 arg4 harg4 arg5 harg5 arg6 harg6 (Memref.whole cc0_scratch0) (Memref.isWhole_whole _) cc0_scratch1 h1))
          (fun _ => iprop(Tbl (F := F) c tbl ∗ Flight (F := F) c tbl y 0 0 512 0)) := by
  iintro ⟨HT, HR⟩
  imod (begin_tile (F := F) c tbl y 0 0 f) $$ HR with ⟨HF, HA⟩
  iapply (Scf.wp_for (frame) (wpE (defs₀ (F := F)) 𝒱 (c : Thread nD τ) bd) Set.univ k0_t1_loop.lb k0_t1_loop.ub k0_t1_loop.st (k0_t1_ok i h1) ⟨⟩ _
    (fun n _ => iprop(Tbl (F := F) c tbl ∗ Flight (F := F) c tbl y 0 0 (2 * n) 0 ∗ Avail (F := F) c y 0 f (2 * n)))
    (fun k u => trip1 (F := F) c 𝒱 bd i arg3 harg3 arg4 harg4 arg5 harg5 arg6 harg6 h1 tbl hb y f k u))
  isplitl [HT HF HA]
  · isplitl [HT]; · iexact HT
    isplitl [HF]; · iexact HF
    iexact HA
  iintro %u
  rw [show Scf.trips k0_t1_loop.lb k0_t1_loop.ub k0_t1_loop.st = 256 from trips1]
  iintro ⟨HT, HF, HA⟩
  isplitl [HT]; · iexact HT
  iexact HF

set_option maxHeartbeats 800000 in
/-- The loop that starts the next tile's copies. -/
theorem start_next (h2 : k0_cond2 i = 1#1) (tbl : S16384.Idx → BitVec 32) (hb : InBounds tbl) (y : S17280x2048.Idx → BitVec 32)
    (f : S2x2x256x2048.Idx → BitVec 32) :
    iprop(Tbl (F := F) c tbl ∗ Rest (F := F) c y (1 - (i 0).val % 2) f)
      ⊢ wp frame (wpE defs₀ 𝒱 (c : Thread nD τ) bd) Set.univ
          (Scf.Loop.for k0_t2_loop (k0_t2_ok i h2) ⟨⟩ (k0_t2_body (F := F) i (Memref.whole main_arg0) (Memref.isWhole_whole _) (Memref.whole main_arg1) (Memref.isWhole_whole _)
            arg3 harg3 arg4 harg4 arg5 harg5 arg6 harg6 (Memref.whole cc0_scratch0) (Memref.isWhole_whole _) cc0_scratch1 h2))
          (fun _ => iprop(Tbl (F := F) c tbl ∗ Flight (F := F) c tbl y ((i 0).val + 1) (1 - (i 0).val % 2) 512 0)) := by
  iintro ⟨HT, HR⟩
  imod (begin_tile (F := F) c tbl y ((i 0).val + 1) (1 - (i 0).val % 2) f) $$ HR with ⟨HF, HA⟩
  iapply (Scf.wp_for (frame) (wpE (defs₀ (F := F)) 𝒱 (c : Thread nD τ) bd) Set.univ k0_t2_loop.lb k0_t2_loop.ub k0_t2_loop.st (k0_t2_ok i h2) ⟨⟩ _
    (fun n _ => iprop(Tbl (F := F) c tbl ∗ Flight (F := F) c tbl y ((i 0).val + 1) (1 - (i 0).val % 2) (2 * n) 0 ∗ Avail (F := F) c y (1 - (i 0).val % 2) f (2 * n)))
    (fun k u => trip2 (F := F) c 𝒱 bd i arg3 harg3 arg4 harg4 arg5 harg5 arg6 harg6 h2 tbl hb y f k u))
  isplitl [HT HF HA]
  · isplitl [HT]; · iexact HT
    isplitl [HF]; · iexact HF
    iexact HA
  iintro %u
  rw [show Scf.trips k0_t2_loop.lb k0_t2_loop.ub k0_t2_loop.st = 256 from trips2]
  iintro ⟨HT, HF, HA⟩
  isplitl [HT]; · iexact HT
  iexact HF

set_option maxHeartbeats 800000 in
/-- The loop that waits for this tile's copies, one by one. -/
theorem drain (tbl : S16384.Idx → BitVec 32) (y : S17280x2048.Idx → BitVec 32) (t : ℕ) :
    iprop(Flight (F := F) c tbl y t ((i 0).val % 2) 512 0 ∗ ∃ W, owes (Ix := Unit) (c : Thread nD τ) 0 W)
      ⊢ wp frame (wpE defs₀ 𝒱 (c : Thread nD τ) bd) Set.univ
          (Scf.Loop.for k0_t3_loop k0_t3_ok ⟨⟩ (k0_t3_body (F := F) i (Memref.whole main_arg0) (Memref.isWhole_whole _) (Memref.whole main_arg1) (Memref.isWhole_whole _)
            arg3 harg3 arg4 harg4 arg5 harg5 arg6 harg6 (Memref.whole cc0_scratch0) (Memref.isWhole_whole _) cc0_scratch1))
          (fun _ => iprop(Flight (F := F) c tbl y t ((i 0).val % 2) 512 (512 * credit) ∗ ∃ W, owes (Ix := Unit) (c : Thread nD τ) 0 W)) := by
  iintro ⟨HF, HO⟩
  iapply (Scf.wp_for (frame) (wpE (defs₀ (F := F)) 𝒱 (c : Thread nD τ) bd) Set.univ k0_t3_loop.lb k0_t3_loop.ub k0_t3_loop.st k0_t3_ok ⟨⟩ _
    (fun n _ => iprop(Flight (F := F) c tbl y t ((i 0).val % 2) 512 (n * credit) ∗ ∃ W, owes (Ix := Unit) (c : Thread nD τ) 0 W))
    (fun k u => trip3 (F := F) c 𝒱 bd i arg3 harg3 arg4 harg4 arg5 harg5 arg6 harg6 tbl y t k u))
  isplitl [HF HO]
  · rw [Nat.zero_mul]
    isplitl [HF]; · iexact HF
    iexact HO
  iintro %u
  rw [show Scf.trips k0_t3_loop.lb k0_t3_loop.ub k0_t3_loop.st = 512 from trips3]
  iintro ⟨HF, HO⟩
  isplitl [HF]; · iexact HF
  iexact HO

set_option maxHeartbeats 800000 in
/-- Before the first tile nothing is on its way: its copies are started here. -/
theorem phase_first {α : Type} {Q : α → sProp 𝕄} (K : PUnit.{1} → Prog (TpuEff nD τ sig (Elt F) Λ₀ .tc) α) (tbl : S16384.Idx → BitVec 32) (hb : InBounds tbl) (y : S17280x2048.Idx → BitVec 32) :
    iprop(Tbl (F := F) c tbl ∗ Slots (F := F) c tbl y (i 0).val)
      ⊢ iprop((iprop(Tbl (F := F) c tbl ∗ Flight (F := F) c tbl y (i 0).val ((i 0).val % 2) 512 0 ∗ ∃ f, Rest (F := F) c y (1 - (i 0).val % 2) f)
          -∗ wp frame (wpE defs₀ 𝒱 (c : Thread nD τ) bd) Set.univ (K ⟨⟩) Q) -∗ wp frame (wpE defs₀ 𝒱 (c : Thread nD τ) bd) Set.univ
          (if k0_h1 : k0_cond1 i = 1#1 then do
            Scf.Loop.for k0_t1_loop (k0_t1_ok i k0_h1) ⟨⟩ (k0_t1_body (F := F) i (Memref.whole main_arg0) (Memref.isWhole_whole _) (Memref.whole main_arg1) (Memref.isWhole_whole _)
              arg3 harg3 arg4 harg4 arg5 harg5 arg6 harg6 (Memref.whole cc0_scratch0) (Memref.isWhole_whole _) cc0_scratch1 k0_h1)
            K ⟨⟩
          else K ⟨⟩) Q) := by
  by_cases h1 : k0_cond1 i = 1#1
  · rw [dif_pos h1, wp_bind]
    have h0 := (cond1_iff i).mp h1
    rw [h0, slots_end (F := F) c tbl y 0 (by omega)]
    iintro ⟨HT, ⟨%f0, H0⟩, H1⟩ Hk
    iapply ((start_first (F := F) c 𝒱 bd i arg3 harg3 arg4 harg4 arg5 harg5 arg6 harg6 h1 tbl hb y f0).trans (wp_wand _ _ _)) $$ [HT H0]
    · isplitl [HT]; · iexact HT
      iexact H0
    iintro %u ⟨HT, HF⟩
    iapply Hk
    isplitl [HT]; · iexact HT
    isplitl [HF]; · iexact HF
    iexact H1
  · rw [dif_neg h1]
    have h0 : (i 0).val ≠ 0 := fun h => h1 ((cond1_iff i).mpr h)
    have hlt : (i 0).val < 32 := (i 0).isLt
    rw [slots_mid (F := F) c tbl y _ ⟨by omega, hlt⟩]
    iintro H Hk
    iapply Hk
    iexact H

set_option maxHeartbeats 800000 in
/-- While there is a next tile its copies are started; on the last tile the other slot stays at rest. -/
theorem phase_next {α : Type} {Q : α → sProp 𝕄} (K : PUnit.{1} → Prog (TpuEff nD τ sig (Elt F) Λ₀ .tc) α) (tbl : S16384.Idx → BitVec 32) (hb : InBounds tbl) (y : S17280x2048.Idx → BitVec 32) :
    iprop(Tbl (F := F) c tbl ∗ ∃ f, Rest (F := F) c y (1 - (i 0).val % 2) f)
      ⊢ iprop((iprop(Tbl (F := F) c tbl ∗ ((∃ f, Rest (F := F) c y ((i 0).val % 2) f) -∗ Slots (F := F) c tbl y ((i 0).val + 1)))
          -∗ wp frame (wpE defs₀ 𝒱 (c : Thread nD τ) bd) Set.univ (K ⟨⟩) Q) -∗ wp frame (wpE defs₀ 𝒱 (c : Thread nD τ) bd) Set.univ
          (if k0_h2 : k0_cond2 i = 1#1 then do
            Scf.Loop.for k0_t2_loop (k0_t2_ok i k0_h2) ⟨⟩ (k0_t2_body (F := F) i (Memref.whole main_arg0) (Memref.isWhole_whole _) (Memref.whole main_arg1) (Memref.isWhole_whole _)
              arg3 harg3 arg4 harg4 arg5 harg5 arg6 harg6 (Memref.whole cc0_scratch0) (Memref.isWhole_whole _) cc0_scratch1 k0_h2)
            K ⟨⟩
          else K ⟨⟩) Q) := by
  have hlt : (i 0).val < 32 := (i 0).isLt
  by_cases h2 : k0_cond2 i = 1#1
  · rw [dif_pos h2, wp_bind]
    have h0 := (cond2_iff i).mp h2
    rw [slots_mid (F := F) c tbl y ((i 0).val + 1) ⟨by omega, h0⟩]
    iintro ⟨HT, ⟨%f0, H0⟩⟩ Hk
    iapply ((start_next (F := F) c 𝒱 bd i arg3 harg3 arg4 harg4 arg5 harg5 arg6 harg6 h2 tbl hb y f0).trans (wp_wand _ _ _)) $$ [HT H0]
    · isplitl [HT]; · iexact HT
      iexact H0
    iintro %u ⟨HT, HF⟩
    iapply Hk
    isplitl [HT]; · iexact HT
    iintro HR
    rw [show ((i 0).val + 1) % 2 = 1 - (i 0).val % 2 by omega, show 1 - (1 - (i 0).val % 2) = (i 0).val % 2 by omega]
    isplitl [HF]; · iexact HF
    iexact HR
  · rw [dif_neg h2]
    have h0 : (i 0).val = 31 := by
      have hn : ¬(i 0).val + 1 < 32 := fun h => h2 ((cond2_iff i).mpr h)
      omega
    rw [h0, slots_end (F := F) c tbl y _ (by omega)]
    iintro ⟨HT, HR⟩ Hk
    iapply Hk
    isplitl [HT]; · iexact HT
    iintro H1
    isplitl [HR]; · iexact HR
    iexact H1

/-! ## Reading the landed slot -/

theorem plane_emb (s p : ℕ) (h : ∀ a, (![s, p, 0, 0] : Fin 4 → ℕ) a + S1x1x256x2048.size a ≤ S2x2x256x2048.size a) (x : S1x1x256x2048.Idx) :
    (Rect.unit (s := S2x2x256x2048) ![s, p, 0, 0] S1x1x256x2048.size h).emb x = ix4 ⟨s, by have := h 0; exact this⟩ ⟨p, by have := h 1; exact this⟩ (x 2) (x 3) := by
  have h0 : (x 0).val = 0 := by have : (x 0).val < 1 := (x 0).isLt; omega
  have h1 : (x 1).val = 0 := by have : (x 1).val < 1 := (x 1).isLt; omega
  funext a; refine Fin.ext ?_
  match a with
  | 0 => show s + 1 * (x 0).val = s; omega
  | 1 => show p + 1 * (x 1).val = p; omega
  | 2 => show 0 + 1 * (x 2).val = (x 2).val; omega
  | 3 => show 0 + 1 * (x 3).val = (x 3).val; omega

theorem plane_sub (o : Fin 4 → ℕ) (h : ∀ a, o a + S1x1x256x2048.size a ≤ S2x2x256x2048.size a) (s p : ℕ) (e : o = ![s, p, 0, 0]) :
    (((Memref.whole (sig := sig) cc0_scratch0).access (Rect.unit (s := S2x2x256x2048) o S1x1x256x2048.size h)).set : Finset S2x2x256x2048.Idx) ⊆ slotSet s := by
  subst e
  intro x hx
  obtain ⟨z, -, hz⟩ := Finset.mem_map.mp hx
  have e := (plane_emb s p h z).symm.trans hz
  rw [mem_slotSet, ← e]

/-- Plane `p` of a landed tile: row `r` is the sorted output row that entry `2 r + p` of the tile's words names. -/
def plane (tbl : S16384.Idx → BitVec 32) (y : S17280x2048.Idx → BitVec 32) (t p : ℕ) : S1x1x256x2048.Idx → BitVec 32 :=
  fun x => y (ix2 (rowOf tbl (512 * t + 2 * (x 2).val + p)) (x 3))

theorem plane_read (o : Fin 4 → ℕ) (h : ∀ a, o a + S1x1x256x2048.size a ≤ S2x2x256x2048.size a) (s p : ℕ) (e : o = ![s, p, 0, 0])
    (tbl : S16384.Idx → BitVec 32) (y : S17280x2048.Idx → BitVec 32) (t : ℕ) :
    (((Memref.whole (sig := sig) cc0_scratch0).access (Rect.unit (s := S2x2x256x2048) o S1x1x256x2048.size h)).read (Elt F) (landed tbl y t) : S1x1x256x2048.Idx → BitVec 32)
      = plane tbl y t p := by
  subst e
  funext x
  exact congrArg (landed tbl y t) (plane_emb s p h x)

/-- Reading plane `p` of the landed slot. -/
theorem load_plane {Λ : Labels} {defs : Defs nD τ sig (Elt F) Λ} {α : Type} {Q : α → sProp 𝕄} {K : Vec F S1x1x256x2048 .i32 → Prog (TpuEff nD τ sig (Elt F) Λ .tc) α}
    (o : Fin 4 → ℕ) (h : ∀ a, o a + S1x1x256x2048.size a ≤ S2x2x256x2048.size a) (s p : ℕ) (e : o = ![s, p, 0, 0])
    (hl : (Memref.whole (sig := sig) cc0_scratch0).view.LoadsAt (Rect.unit (s := S2x2x256x2048) o S1x1x256x2048.size h).toLoadRect)
    (g : S2x2x256x2048.Idx → BitVec 32) (v : Vec F S1x1x256x2048 .i32)
    (hv : (Memref.whole (sig := sig) cc0_scratch0).view.readAt (Elt F) (Rect.unit (s := S2x2x256x2048) o S1x1x256x2048.size h).toLoadRect g = v) :
    (scr c ↦[slotSet s]{fullShare} g : sProp 𝕄)
      ⊢ iprop(((scr c ↦[slotSet s]{fullShare} g) -∗ wp frame (wpE defs 𝒱 (c : Thread nD τ) bd) Set.univ (K v) Q)
        -∗ wp frame (wpE defs 𝒱 (c : Thread nD τ) bd) Set.univ
          (.op (TpuEff.load (Val := Elt F) (Memref.whole cc0_scratch0) (Rect.unit (s := S2x2x256x2048) o S1x1x256x2048.size h).toLoadRect hl) K) Q) := by
  subst hv
  have hS' : (Memref.whole (sig := sig) cc0_scratch0).view.setOn (Rect.unit (s := S2x2x256x2048) o S1x1x256x2048.size h).toLoadRect.set ⊆ slotSet s :=
    (Finset.subset_of_eq (View.set_slice _ _).symm).trans (plane_sub o h s p e)
  exact wp_load (Val := Elt F) 𝒱 (c : Thread nD τ) bd Set.univ (m := Memref.whole cc0_scratch0) (r := (Rect.unit (s := S2x2x256x2048) o S1x1x256x2048.size h).toLoadRect) (hl := hl) (S := slotSet s) (q := fullShare) (f := g) hS'

/-! ## The body after each of its two branches -/

/-- What follows the second branch: this tile's copies are drained, then the blocks and the landed slot are read. -/
def afterNext : PUnit.{1} → Prog (TpuEff nD τ sig (Elt F) Λ₀ .tc)
    (Σ' (v9 : Vec F S256x128 .f32) (v23 : FVec F S256x2048 .f32) (v28 : FVec F S256x2048 .f32) (v33 : FVec F S256x2048 .f32), FVec F S256x2048 .bf16) :=
  fun _ => do
    Scf.Loop.for k0_t3_loop k0_t3_ok ⟨⟩ (k0_t3_body (F := F) i (Memref.whole main_arg0) (Memref.isWhole_whole _) (Memref.whole main_arg1) (Memref.isWhole_whole _)
      arg3 harg3 arg4 harg4 arg5 harg5 arg6 harg6 (Memref.whole cc0_scratch0) (Memref.isWhole_whole _) cc0_scratch1)
    let v9 : Vec F S256x128 .f32 ← Prog.lift (.load arg4 (Rect.unit (s := S256x128) ![0, 0] S256x128.size inb_S256x128_S256x128_0_0).toLoadRect (View.loadsAt_vmem h_S256x128))
    let v10 : Vec F S256x2048 .f32 ← Prog.lift (.load arg3 (Rect.unit (s := S256x4096) ![0, 0] S256x2048.size inb_S256x4096_S256x2048_0_0).toLoadRect (View.loadsAt_vmem h_S256x2048))
    let v11 : Vec F S256x2048 .f32 ← Prog.lift (.load arg3 (Rect.unit (s := S256x4096) ![0, 2048] S256x2048.size inb_S256x4096_S256x2048_0_2048).toLoadRect (View.loadsAt_vmem h_S256x2048))
    let v13 : Vec F S1x1x256x2048 .i32 ← Prog.lift (.load (Memref.whole cc0_scratch0) (Rect.unit (s := S2x2x256x2048) (k0_off19 i) S1x1x256x2048.size (k0_off19_inb i)).toLoadRect (View.loadsAt_vmem h_S1x1x256x2048))
    let v30 : Vec F S1x1x256x2048 .i32 ← Prog.lift (.load (Memref.whole cc0_scratch0) (Rect.unit (s := S2x2x256x2048) (k0_off20 i) S1x1x256x2048.size (k0_off20_inb i)).toLoadRect (View.loadsAt_vmem h_S1x1x256x2048))
    pure ⟨v9, k0_pay7 v9 v10 v13, k0_pay8 v9 v11 v13, k0_pay10 v30, k0_pay11 v30⟩

/-- What follows the first branch. -/
def afterFirst : PUnit.{1} → Prog (TpuEff nD τ sig (Elt F) Λ₀ .tc)
    (Σ' (v9 : Vec F S256x128 .f32) (v23 : FVec F S256x2048 .f32) (v28 : FVec F S256x2048 .f32) (v33 : FVec F S256x2048 .f32), FVec F S256x2048 .bf16) :=
  fun _ =>
    if k0_h2 : k0_cond2 i = 1#1 then do
      Scf.Loop.for k0_t2_loop (k0_t2_ok i k0_h2) ⟨⟩ (k0_t2_body (F := F) i (Memref.whole main_arg0) (Memref.isWhole_whole _) (Memref.whole main_arg1) (Memref.isWhole_whole _)
        arg3 harg3 arg4 harg4 arg5 harg5 arg6 harg6 (Memref.whole cc0_scratch0) (Memref.isWhole_whole _) cc0_scratch1 k0_h2)
      afterNext (F := F) i arg3 harg3 arg4 harg4 arg5 harg5 arg6 harg6 ⟨⟩
    else afterNext (F := F) i arg3 harg3 arg4 harg4 arg5 harg5 arg6 harg6 ⟨⟩

theorem part1_eq :
    k0_part1 (F := F) i (Memref.whole main_arg0) (Memref.isWhole_whole _) (Memref.whole main_arg1) (Memref.isWhole_whole _)
        arg3 harg3 arg4 harg4 arg5 harg5 arg6 harg6 (Memref.whole cc0_scratch0) (Memref.isWhole_whole _) cc0_scratch1
      = if k0_h1 : k0_cond1 i = 1#1 then do
          Scf.Loop.for k0_t1_loop (k0_t1_ok i k0_h1) ⟨⟩ (k0_t1_body (F := F) i (Memref.whole main_arg0) (Memref.isWhole_whole _) (Memref.whole main_arg1) (Memref.isWhole_whole _)
            arg3 harg3 arg4 harg4 arg5 harg5 arg6 harg6 (Memref.whole cc0_scratch0) (Memref.isWhole_whole _) cc0_scratch1 k0_h1)
          afterFirst (F := F) i arg3 harg3 arg4 harg4 arg5 harg5 arg6 harg6 ⟨⟩
        else afterFirst (F := F) i arg3 harg3 arg4 harg4 arg5 harg5 arg6 harg6 ⟨⟩ := by
  rw [k0_part1_eq_skeleton]; rfl

set_option maxHeartbeats 800000 in
theorem body_tile (tbl : S16384.Idx → BitVec 32) (hb : InBounds tbl) (y : S17280x2048.Idx → BitVec 32)
    (x0 : Vec F S256x4096 .f32) (x1 : Vec F S256x128 .f32) (x2 : Vec F S1x4096 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ Tbl (F := F) c tbl ∗ Slots (F := F) c tbl y (i 0).val ∗ (∃ W, owes (Ix := Unit) (c : Thread nD τ) 0 W)
        ∗ (iprop(owns (c : Thread nD τ) arg3 fullShare x0 ∗ owns (c : Thread nD τ) arg4 fullShare x1 ∗ owns (c : Thread nD τ) arg5 fullShare x2
            ∗ owns (c : Thread nD τ) arg6 fullShare (tileOut x0 x1 x2 (plane tbl y (i 0).val 0) (plane tbl y (i 0).val 1))
            ∗ Tbl (F := F) c tbl ∗ Slots (F := F) c tbl y ((i 0).val + 1) ∗ (∃ W, owes (Ix := Unit) (c : Thread nD τ) 0 W)) -∗ K ⟨⟩))
      ⊢ wp frame (wpE defs₀ 𝒱 (c : Thread nD τ) bd) Set.univ
          (cc0_moe_combine_final_norm (F := F) i (Memref.whole main_arg0) (Memref.isWhole_whole _) (Memref.whole main_arg1) (Memref.isWhole_whole _)
              arg3 harg3 arg4 harg4 arg5 harg5 arg6 harg6 (Memref.whole cc0_scratch0) (Memref.isWhole_whole _) cc0_scratch1) K := by
  rw [cc0_moe_combine_final_norm_eq_skeleton]; unfold cc0_moe_combine_final_norm_skel
  rw [part1_eq]
  rw [wp_bind]
  unfold owns
  iintro ⟨⟨%f0, %hf0, H0⟩, ⟨%f1, %hf1, H1⟩, ⟨%f2, %hf2, H2⟩, ⟨%d3, %f3, -, H3⟩, HT, HS, HO, Hk⟩
  obtain rfl := harg3.eq_unread hf0; obtain rfl := harg4.eq_unread hf1; obtain rfl := harg5.eq_unread hf2
  iapply (phase_first (F := F) c 𝒱 bd i arg3 harg3 arg4 harg4 arg5 harg5 arg6 harg6 (afterFirst (F := F) i arg3 harg3 arg4 harg4 arg5 harg5 arg6 harg6) tbl hb y) $$ [HT HS]
  · isplitl [HT]; · iexact HT
    iexact HS
  iintro ⟨HT, HF, HR⟩
  unfold afterFirst
  iapply (phase_next (F := F) c 𝒱 bd i arg3 harg3 arg4 harg4 arg5 harg5 arg6 harg6 (afterNext (F := F) i arg3 harg3 arg4 harg4 arg5 harg5 arg6 harg6) tbl hb y) $$ [HT HR]
  · isplitl [HT]; · iexact HT
    iexact HR
  iintro ⟨HT, HN⟩
  unfold afterNext
  rw [wp_bind]
  iapply ((drain (F := F) c 𝒱 bd i arg3 harg3 arg4 harg4 arg5 harg5 arg6 harg6 tbl y (i 0).val).trans (wp_wand _ _ _)) $$ [HF HO]
  · isplitl [HF]; · iexact HF
    iexact HO
  iintro %u ⟨HF, HO⟩
  imod (end_tile (F := F) c tbl y (i 0).val ((i 0).val % 2)) $$ HF with HR
  unfold Rest
  icases HR with ⟨Hv, Hs, Ht⟩
  sl_exec
  iapply (load_plane (F := F) c 𝒱 bd (k0_off19 i) (k0_off19_inb i) ((i 0).val % 2) 0 (k0_off19_eq i) _ (landed tbl y (i 0).val)
    (plane tbl y (i 0).val 0) (plane_read (F := F) (k0_off19 i) (k0_off19_inb i) ((i 0).val % 2) 0 (k0_off19_eq i) tbl y (i 0).val)) $$ [Hs]
  · iexact Hs
  iintro Hs
  rw [wp_bind]
  unfold Prog.lift
  iapply (load_plane (F := F) c 𝒱 bd (k0_off20 i) (k0_off20_inb i) ((i 0).val % 2) 1 (k0_off20_eq i) _ (landed tbl y (i 0).val)
    (plane tbl y (i 0).val 1) (plane_read (F := F) (k0_off20 i) (k0_off20_inb i) ((i 0).val % 2) 1 (k0_off20_eq i) tbl y (i 0).val)) $$ [Hs]
  · iexact Hs
  iintro Hs
  sl_exec
  rw [wp_ret]
  imodintro
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro
    refine (read_halves _ _ _ _).trans ?_
    unfold tileOut body_tile.sl.r_1 body_tile.sl.r_2 body_tile.sl.r_3 body_tile.sl.r_4 body_tile.sl.r_5
    unfold body_tile.sl.r leftHalf rightHalf leftRow rightRow
    rw [View.readAt_full arg4.view, View.readAt_unit arg3.view _ inb_S256x4096_S256x2048_0_0 rfl inb_S256x4096_S256x2048_0_0,
      View.readAt_unit arg3.view _ inb_S256x4096_S256x2048_0_2048 rfl inb_S256x4096_S256x2048_0_2048,
      View.readAt_unit arg5.view _ inb_S1x4096_S1x2048_0_0 rfl inb_S1x4096_S1x2048_0_0,
      View.readAt_unit arg5.view _ inb_S1x4096_S1x2048_0_2048 rfl inb_S1x4096_S1x2048_0_2048, hf0, hf1, hf2]
  isplitl [HT]; · iexact HT
  isplitl [HN Hv Hs Ht]
  · iapply HN
    iexists _
    isplitl [Hv]; · iexact Hv
    isplitl [Hs]; · iexact Hs
    iexact Ht
  iexact HO

end Phases

end Cert.Kernel5Ideal.Combine
-- ==== Proof.CombineRun.lean ====
/-
  The combining kernel launched: the data of its pipeline, the body at every point, the run and what it leaves.
-/
module

public import proofs.«01_k».proof.Proof.CombineBody
public import proofs.«01_k».proof.Proof.Gen.Kernel5Ideal.Launch
public import Idealize.ShloMosaic.Lib.Pipeline.FrameBody
public import Idealize.ShloMosaic.Lib.Pipeline.Kit
public import Idealize.ShloMosaic.Lib.Claim

@[expose] public section

set_option maxRecDepth 16384

noncomputable section

namespace Cert.Kernel5Ideal.Combine

open Cert.Kernel5Ideal Cert.Kernel5Ideal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The words, the sorted outputs, the windows' blocks -/

/-- The table of destination words. -/
def words : S16384.Idx → BitVec 32 := m (((0 : Dev nD).tc : Thread nD τ).loc main_arg0)
/-- The experts' sorted outputs, two values to a word. -/
def sorted (c : Dev nD) : S17280x2048.Idx → BitVec 32 := m ((c : Thread nD τ).loc main_arg1)

theorem words_eq (c : Dev nD) : m ((c : Thread nD τ).loc main_arg0) = words m := by
  have h : c = 0 := Subsingleton.elim _ _
  subst h; rfl

/-- The region's table contents. -/
def tabs : pre0.Contents (Elt F) := fun | ⟨0, _⟩ => words m | ⟨_ + 1, h⟩ => absurd h (by simp)

/-- They are admissible: the region checks nothing of them. -/
def adm (p : Fin 1) : (pcfgs (F := F) p).Adm := ⟨tabs m, trivial⟩

/-- The pipeline at these contents. -/
abbrev cfgA : Pipeline.Cfg sig Λ₀ := Pipeline.pin (pcfgs (F := F)) (adm m) 0

def V (c : Dev nD) (b : Ref sig .tc) : Buf (Elt F) ((c.tc : Thread nD τ).loc b) := m ((c.tc : Thread nD τ).loc b)

/-- Window `w`'s block at point `t`, read off the array the region finds. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- The result's block at point `t`. -/
def tile (c : Dev nD) (t : Fin (cfgA m).N) : Vec F S256x4096 .f32 :=
  tileOut (iblk m c 0 t) (iblk m c 1 t) (iblk m c 2 t) (plane (words m) (sorted m c) t.val 0) (plane (words m) (sorted m c) t.val 1)

/-! ## Between two points -/

/-- Before point `n`: the table's half, what is left of the sorted outputs beside the reading tokens, the two slots. -/
def between (c : Dev nD) (n : ℕ) : sProp 𝕄 :=
  iprop((∃ r, prngReg c r) ∗ Tbl (F := F) c (words m) ∗ (yl c ↦{Transfers.shareDrop fullShare 1024} sorted m c) ∗ Slots (F := F) c (words m) (sorted m c) n)

def dats (p : Fin 1) (c : Dev nD) : Dat τ (Elt F) Unit ℕ (Pipeline.UD sig nD τ) ℕ (Pipeline.pin (pcfgs (F := F)) (adm m) p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => tile m c t
  Φ t := between m c t.val
  q _ := fullShare
  owed _ := 0

theorem dats_A (c : Dev nD) (w : Fin (cfgA m).W) : (dats m 0 c).A w = V m c (Pipeline.arrRef spec0 w) := by dsimp only [dats]
theorem after_0 (c : Dev nD) (t : Fin (cfgA m).N) : (dats m 0 c).after 0 t = iblk m c 0 t := rfl
theorem after_1 (c : Dev nD) (t : Fin (cfgA m).N) : (dats m 0 c).after 1 t = iblk m c 1 t := rfl
theorem after_2 (c : Dev nD) (t : Fin (cfgA m).N) : (dats m 0 c).after 2 t = iblk m c 2 t := rfl
theorem after_3 (c : Dev nD) (t : Fin (cfgA m).N) : (dats m 0 c).after 3 t = tile m c t := rfl

theorem before_0 (c : Dev nD) (t : Fin (cfgA m).N) (d) : (dats m 0 c).before 0 t d = iblk m c 0 t :=
  ((dats m 0 c).before_in_eq_fetched 0 rfl (fun _ => rfl) (fun _ _ _ => rfl)
    (fun t => by rw [after_0]; unfold Dat.blockOf iblk; rw [dats_A]; try rfl) t d).trans (by unfold Dat.fetched Dat.blockOf iblk; rw [dats_A]; try rfl)
theorem before_1 (c : Dev nD) (t : Fin (cfgA m).N) (d) : (dats m 0 c).before 1 t d = iblk m c 1 t :=
  ((dats m 0 c).before_in_eq_fetched 1 rfl (fun _ => rfl) (fun _ _ _ => rfl)
    (fun t => by rw [after_1]; unfold Dat.blockOf iblk; rw [dats_A]; try rfl) t d).trans (by unfold Dat.fetched Dat.blockOf iblk; rw [dats_A]; try rfl)
theorem before_2 (c : Dev nD) (t : Fin (cfgA m).N) (d) : (dats m 0 c).before 2 t d = iblk m c 2 t :=
  ((dats m 0 c).before_in_eq_fetched 2 rfl (fun _ => rfl) (fun _ _ _ => rfl)
    (fun t => by rw [after_2]; unfold Dat.blockOf iblk; rw [dats_A]; try rfl) t d).trans (by unfold Dat.fetched Dat.blockOf iblk; rw [dats_A]; try rfl)

/-! ## The body at every point -/

abbrev ms_0 (t : Fin (cfgA m).N) := ((cfgA m).win 0).stage ((cfgA m).slots t 0)
abbrev ms_1 (t : Fin (cfgA m).N) := ((cfgA m).win 1).stage ((cfgA m).slots t 1)
abbrev ms_2 (t : Fin (cfgA m).N) := ((cfgA m).win 2).stage ((cfgA m).slots t 2)
abbrev ms_3 (t : Fin (cfgA m).N) := ((cfgA m).win 3).stage ((cfgA m).slots t 3)

abbrev bodyAt (t : Fin (cfgA m).N) : Prog (TpuEff nD τ sig (Elt F) Λ₀ .tc) PUnit :=
  cc0_moe_combine_final_norm (F := F) (grid0.coords t) (Memref.whole main_arg0) (Memref.isWhole_whole _) (Memref.whole main_arg1) (Memref.isWhole_whole _)
    (ms_0 m t) (hstage0_0 (((cfgA m).slots t 0).cast nbuf0_0)) (ms_1 m t) (hstage0_1 (((cfgA m).slots t 1).cast nbuf0_1))
    (ms_2 m t) (hstage0_2 (((cfgA m).slots t 2).cast nbuf0_2)) (ms_3 m t) (hstage0_3 (((cfgA m).slots t 3).cast nbuf0_3))
    (Memref.whole cc0_scratch0) (Memref.isWhole_whole _) cc0_scratch1

theorem defs_row (t : Fin (cfgA m).N) : defs₀ (F := F) .tc (cfgA m).body ((cfgA m).bodyArgs t ((cfgA m).slots t)) = bodyAt m t := by
  unfold defs₀; rw [Defs.onTc_tc]; rfl

def bodyPre (c : Dev nD) (t : Fin (cfgA m).N) : sProp 𝕄 :=
  iprop((dats m 0 c).Φ t.castSucc ∗ (dats m 0 c).owesAt () t.castSucc
    ∗ (∃ d, owns (c : Thread nD τ) (ms_0 m t) fullShare ((dats m 0 c).before 0 t d))
    ∗ (∃ d, owns (c : Thread nD τ) (ms_1 m t) fullShare ((dats m 0 c).before 1 t d))
    ∗ (∃ d, owns (c : Thread nD τ) (ms_2 m t) fullShare ((dats m 0 c).before 2 t d))
    ∗ (∃ d, owns (c : Thread nD τ) (ms_3 m t) fullShare ((dats m 0 c).before 3 t d)))

def bodyPost (c : Dev nD) (t : Fin (cfgA m).N) : sProp 𝕄 :=
  iprop((dats m 0 c).Φ t.succ ∗ (dats m 0 c).owesAt () t.succ
    ∗ owns (c : Thread nD τ) (ms_0 m t) fullShare ((dats m 0 c).after 0 t)
    ∗ owns (c : Thread nD τ) (ms_1 m t) fullShare ((dats m 0 c).after 1 t)
    ∗ owns (c : Thread nD τ) (ms_2 m t) fullShare ((dats m 0 c).after 2 t)
    ∗ owns (c : Thread nD τ) (ms_3 m t) fullShare ((dats m 0 c).after 3 t))

theorem coord_val : ∀ t : Fin grid0.N, (grid0.coords t 0).val = t.val := by decide +kernel

set_option maxHeartbeats 800000 in
theorem body_at (hb : InBounds (words m)) (c : Dev nD) (t : Fin (cfgA m).N) :
    bodyPre m c t ⊢ wp frame (wpE (defs₀ (F := F)) Variants.none c none) Set.univ (bodyAt m t) (fun _ => bodyPost m c t) := by
  unfold bodyPre bodyPost bodyAt
  simp only [before_0, before_1, before_2]
  rw [after_0, after_1, after_2, after_3, show (dats m 0 c).Φ t.castSucc = between m c t.val from rfl,
    show (dats m 0 c).Φ t.succ = between m c (t.val + 1) from rfl]
  unfold Dat.owesAt Pipeline.owesWithin
  rw [show (dats m 0 c).owed t.castSucc = 0 from rfl, show (dats m 0 c).owed t.succ = 0 from rfl]
  unfold between tile
  have hv : (grid0.coords t 0).val = t.val := coord_val t
  iintro ⟨⟨Hg, HT, Hy, HS⟩, ⟨%W, -, HW⟩, ⟨%d0, H0⟩, ⟨%d1, H1⟩, ⟨%d2, H2⟩, ⟨%d3, H3⟩⟩
  have key := body_tile (F := F) c Variants.none none (grid0.coords t) (ms_0 m t) (hstage0_0 (((cfgA m).slots t 0).cast nbuf0_0)) (ms_1 m t) (hstage0_1 (((cfgA m).slots t 1).cast nbuf0_1))
    (ms_2 m t) (hstage0_2 (((cfgA m).slots t 2).cast nbuf0_2)) (ms_3 m t) (hstage0_3 (((cfgA m).slots t 3).cast nbuf0_3))
    (words m) hb (sorted m c) (iblk m c 0 t) (iblk m c 1 t) (iblk m c 2 t)
  rw [hv] at key
  iapply (key _)
  isplitl [H0]; · iexact H0
  isplitl [H1]; · iexact H1
  isplitl [H2]; · iexact H2
  isplitl [H3]; · iexists _; iexact H3
  isplitl [HT]; · iexact HT
  isplitl [HS]; · iexact HS
  isplitl [HW]; · iexists _; iexact HW
  iintro ⟨H0, H1, H2, H3, HT, HS, ⟨%W', HW'⟩⟩
  isplitl [Hg HT Hy HS]
  · isplitl [Hg]; · iexact Hg
    isplitl [HT]; · iexact HT
    isplitl [Hy]; · iexact Hy
    iexact HS
  isplitl [HW']
  · iexists W'; isplitr; · ipureintro; exact fun _ _ => Or.inl trivial
    iexact HW'
  isplitl [H0]; · iexact H0
  isplitl [H1]; · iexact H1
  isplitl [H2]; · iexact H2
  iexact H3

theorem obligation (hb : InBounds (words m)) (c : Dev nD) : BodyObligation (dats (F := F) m 0 c) (defs₀ (F := F)) Variants.none () Set.univ := fun t => by
  rw [bigSep_W0, bigSep_W0, defs_row]
  exact triple_restated (body_at m hb c t) rfl .rfl fun _ => .rfl

/-! ## What the region hands the first point, and what the last one hands back -/

/-- The kernel's own semaphores, one to a slot. -/
def osem0 : Fin 2 → SemLoc sig := fun j => (![SemLoc.dma 7, SemLoc.dma 8]) j

theorem ownSemFacts0 : Pipeline.OwnSemFacts spec0 osem0 := by decide

/-- The array read through by the kernel's own copies. -/
def H0 : Finset (Ref sig .tc) := {main_arg1}

theorem PhiD_eq (c : Dev nD) : (Pipeline.ΦD osem0 spec0 H0 (V m) c : sProp 𝕄)
    = iprop((∃ f, scr c ↦{fullShare} f) ∗ (∃ r, prngReg c r)
      ∗ iprop(semVal (c, .dma (sem 0)) 0 ∗ semVal (c, .dma (sem 1)) 0) ∗ (yl c ↦{fullShare} sorted m c)) := by
  rw [Pipeline.ΦD_eq, scopedRest0_eq, Pipeline.ownSems0_eq_of_list c osem0 [0, 1] (by decide) (by decide),
    BI.bigSep_eq_bigSepL_of_eq [main_arg1] (by decide) (by decide)]
  rfl

theorem PhiT_eq (c : Dev nD) : (Pipeline.ΦT pre0 (tabs (F := F) m) c : sProp 𝕄) = Tbl (F := F) c (words m) := by
  unfold Pipeline.ΦT Pipeline.prefHeld
  rw [BI.bigSep_eq_bigSepL_of_eq [(0 : Fin 1)] (by decide) (by decide)]
  rfl

/-- The first 1024 reading tokens are the two slots' own. -/
theorem toks_both (c : Dev nD) (y : S17280x2048.Idx → BitVec 32) :
    (BI.bigSep (Finset.range 1024) (fun i => (yl c ↦{Transfers.shareTokN fullShare i} y : sProp 𝕄))) = iprop(Toks (F := F) c y 0 ∗ Toks (F := F) c y 1) := by
  have e : ∀ s : ℕ, Toks (F := F) c y s = BI.bigSep (Finset.range 512) (fun k => (yl c ↦{Transfers.shareTokN fullShare (512 * s + k)} y : sProp 𝕄)) := fun s =>
    Ring.bigSep_fin_eq_range 512 _ _ (fun _ _ => rfl)
  have a := Ring.bigSep_rangeSet_eq_range (NB := 1024) (lo := 0) (hi := 1024) (Φ := fun t => (yl c ↦{Transfers.shareTokN fullShare t.val} y : sProp 𝕄)) le_rfl
    (fun k => yl c ↦{Transfers.shareTokN fullShare k} y) (fun k hk => by show _ = (yl c ↦{Transfers.shareTokN fullShare (0 + k)} y : sProp 𝕄); rw [Nat.zero_add])
  have a0 := Ring.bigSep_rangeSet_eq_range (NB := 1024) (lo := 0) (hi := 512) (Φ := fun t => (yl c ↦{Transfers.shareTokN fullShare t.val} y : sProp 𝕄)) (by decide)
    (fun k => yl c ↦{Transfers.shareTokN fullShare (512 * 0 + k)} y) (fun k hk => rfl)
  have a1 := Ring.bigSep_rangeSet_eq_range (NB := 1024) (lo := 512) (hi := 1024) (Φ := fun t => (yl c ↦{Transfers.shareTokN fullShare t.val} y : sProp 𝕄)) (by decide)
    (fun k => yl c ↦{Transfers.shareTokN fullShare (512 * 1 + k)} y) (fun k hk => rfl)
  rw [e, e, ← a0, ← a1]
  exact a.symm.trans (Ring.bigSep_rangeSet_split (by decide) (by decide))

theorem sorted_split (c : Dev nD) (y : S17280x2048.Idx → BitVec 32) :
    (yl c ↦{fullShare} y : sProp 𝕄) ⊣⊢ iprop((yl c ↦{Transfers.shareDrop fullShare 1024} y) ∗ Toks (F := F) c y 0 ∗ Toks (F := F) c y 1) := by
  rw [← toks_both]
  exact Transfers.pointsTo_toks_range fullShare 1024

theorem scratch_split (c : Dev nD) (f : S2x2x256x2048.Idx → BitVec 32) :
    (scr c ↦{fullShare} f : sProp 𝕄) ⊣⊢ iprop((scr c ↦[slotSet 0]{fullShare} f) ∗ (scr c ↦[slotSet 1]{fullShare} f)) := by
  refine .trans (.of_eq ?_) (pointsTo_union slot_disjoint)
  rw [slot_cover]

theorem scratch_join (c : Dev nD) (f g : S2x2x256x2048.Idx → BitVec 32) :
    iprop((scr c ↦[slotSet 0]{fullShare} f) ∗ (scr c ↦[slotSet 1]{fullShare} g)) ⊢ (scr c ↦{fullShare} ((slotSet 1).piecewise g f) : sProp 𝕄) := by
  refine (pointsTo_join slot_disjoint).trans (.of_eq ?_)
  rw [slot_cover]

theorem start (c : Dev nD) : iprop((Pipeline.ΦD osem0 spec0 H0 (V m) c : sProp 𝕄) ∗ Pipeline.ΦT pre0 (tabs (F := F) m) c) ⊢ between m c 0 := by
  rw [PhiD_eq, PhiT_eq]
  unfold between
  rw [slots_end _ _ _ 0 (by decide)]
  unfold Rest
  iintro ⟨⟨⟨%f, Hs⟩, Hg, ⟨H0, H1⟩, Hy⟩, HT⟩
  ihave Hy := (sorted_split c (sorted m c)).1 $$ Hy
  icases Hy with ⟨Hy, Ht0, Ht1⟩
  ihave Hs := (scratch_split c f).1 $$ Hs
  icases Hs with ⟨Hs0, Hs1⟩
  isplitl [Hg]; · iexact Hg
  isplitl [HT]; · iexact HT
  isplitl [Hy]; · iexact Hy
  isplitl [H0 Hs0 Ht0]
  · iexists f
    isplitl [H0]; · iexact H0
    isplitl [Hs0]; · iexact Hs0
    iexact Ht0
  · iexists f
    isplitl [H1]; · iexact H1
    isplitl [Hs1]; · iexact Hs1
    iexact Ht1

theorem finish (c : Dev nD) : between m c 32 ⊢ (Pipeline.ΦD osem0 spec0 H0 (V m) c : sProp 𝕄) := by
  rw [PhiD_eq]
  unfold between
  rw [slots_end _ _ _ 32 (by decide)]
  unfold Rest
  iintro ⟨Hg, -, Hy, ⟨%f, H0, Hs0, Ht0⟩, ⟨%g, H1, Hs1, Ht1⟩⟩
  isplitl [Hs0 Hs1]
  · iexists _
    iapply (scratch_join c f g)
    isplitl [Hs0]; · iexact Hs0
    iexact Hs1
  isplitl [Hg]; · iexact Hg
  isplitl [H0 H1]
  · isplitl [H0]; · iexact H0
    iexact H1
  iapply (sorted_split c (sorted m c)).2
  isplitl [Hy]; · iexact Hy
  isplitl [Ht0]; · iexact Ht0
  iexact Ht1

/-! ## The run -/

theorem tables_found (c : Dev nD) : ∀ k, V m c (pre0.ref k) = (tabs (F := F) m) k
  | ⟨0, _⟩ => words_eq m c
  | ⟨_ + 1, h⟩ => absurd h (by simp)

theorem rest_arg0 : main_arg0 ∈ Pipeline.restRefs sig spec0 := by decide
theorem rest_arg1 : main_arg1 ∈ Pipeline.restRefs sig spec0 := by decide
theorem read_refs : H0 ⊆ Pipeline.restRefsP sig pre0 spec0 := by decide

set_option backward.isDefEq.respectTransparency.types false in
theorem run_main (hb : InBounds (words m)) : θ_run (defs (F := F)) (onTc (τ := τ) (main (F := F))) ⟨m, fun _ => 0, ρ⟩
    (fun r => Pipeline.FramePost (Pipeline.pin (pcfgs (F := F)) (adm m)) (dats m) 0 (V m) r ∧ r.2.sem = fun _ => 0) :=
  Pipeline.θ_run_frameP_dma (Q' := _) (pcfgs (F := F)) (adm m) (dats m) 0 launch0 osem0 (defs₀ (F := F)) Variants.none ownSemFacts0 H0 read_refs m ρ main
    (hbody := fun c => (obligation m hb c).loose)
    (hshare := fun c => (dats m 0 c).share_full fun _ => rfl)
    (howed := fun _ _ => rfl) (V := V m)
    (hmain := Pipeline.hmainP_region (pcfgs (F := F)) 0 (defs₀ (F := F)) Variants.none m main main_chain)
    (hA := dats_A m) (hpf := tables_found m)
    (hin := fun c => start m c) (hout := fun c => finish m c)

/-- The run with the result array named, every argument as it was, every semaphore at zero. -/
theorem run (hb : InBounds (words m)) : θ_run (defs (F := F)) (onTc (τ := τ) (main (F := F))) ⟨m, fun _ => 0, ρ⟩ fun r => (∀ c : Dev nD,
      r.2.mem ((c : Thread nD τ).loc main_v0) = (dats m 0 c).arrAt 3 (cfgA m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun _ h => ⟨fun c => ⟨(h.1 c).1 3, (h.1 c).2 main_arg0 rest_arg0, (h.1 c).2 main_arg1 rest_arg1,
      ((h.1 c).1 0).trans (((dats m 0 c).arrAt_in 0 rfl _).trans (dats_A m c 0)),
      ((h.1 c).1 1).trans (((dats m 0 c).arrAt_in 1 rfl _).trans (dats_A m c 1)),
      ((h.1 c).1 2).trans (((dats m 0 c).arrAt_in 2 rfl _).trans (dats_A m c 2))⟩, h.2⟩) (run_main m ρ hb)

end Cert.Kernel5Ideal.Combine
-- ==== Proof.CombineValue.lean ====
/-
  What the combining kernel computes over the extended reals.
-/
module

public import proofs.«01_k».proof.Proof.CombineRun
public import proofs.«01_k».proof.Pre_dest_in_bounds
public import Idealize.ShloMosaic.Lib.Pointwise
public import Idealize.ShloMosaic.Lib.Pipeline.Value
public import Idealize.ShloMosaic.Lib.Pipeline.ValueKit
public import Idealize.ShloMosaic.Lib.StableHlo.Run
public import Idealize.ShloMosaic.Lib.StableHlo.Predicate

@[expose] public section

set_option maxRecDepth 16384

noncomputable section

namespace Cert.Kernel5Ideal.Combine

open Cert.Kernel5Ideal Cert.Kernel5Ideal.Gen
open Idealize.ShloMosaic Idealize.ShloMosaic.TcCoe Idealize.ShloMosaic.Tactic
open Idealize.SL.Sem
open Idealize.ShloMosaic.Pipeline (Dat Cfg Window)

/-! ## The destinations lie among the sorted outputs' rows -/

theorem inBounds_of {F : FTy → Type} [FloatOps F] [Cert.Pre_dest_in_bounds.Facts] {d : S16384.Idx → BitVec 32} {y : S17280x2048.Idx → BitVec 32}
    {x : FVec F S8192x4096 .f32} {w : FVec F S8192x128 .f32} {g : FVec F S1x4096 .f32}
    (h : Cert.Pre_dest_in_bounds.fn (F := F) d y x w g = fun _ => 1#1) : InBounds d := by
  intro n
  have e := congrFun h (ix1 ⟨n % 16384, by omega⟩)
  have e' : IntOp.andi (IntOp.cmpi .sge (wordAt d n) 0#32) (IntOp.cmpi .slt (wordAt d n) 17280#32) = 1#1 := e
  generalize wordAt d n = v at e' ⊢
  have e₁ : IntOp.cmpi .sge v 0#32 = 1#1 ∧ IntOp.cmpi .slt v 17280#32 = 1#1 := by
    revert e'
    generalize IntOp.cmpi .sge v 0#32 = a
    generalize IntOp.cmpi .slt v 17280#32 = b
    revert a b
    decide
  obtain ⟨h0, h1⟩ := e₁
  unfold IntOp.cmpi at h0 h1
  have h0' : (0 : Int) ≤ v.toInt := by
    have := (StableHlo.Predicate.ofBool_eq_one_iff _).1 h0
    simpa [BitVec.sle] using this
  have h1' : v.toInt < 17280 := by
    have := (StableHlo.Predicate.ofBool_eq_one_iff _).1 h1
    simpa [BitVec.slt] using this
  rw [BitVec.toInt_eq_toNat_cond] at h0' h1'
  split at h0' <;> omega

/-! ## The two halves of a word -/

/-- The number in a word's low sixteen bits. -/
def low (w : BitVec 32) : EReal := Ideal.ofBits .bf16 (w.extractLsb' 0 16)
/-- The number in its high sixteen bits. -/
def high (w : BitVec 32) : EReal := Ideal.ofBits .bf16 (w.extractLsb' 16 16)

/-- Sixteen bits followed by sixteen zeros denote, as a longer number, what they denote as a short one. -/
theorem widen (w : BitVec 32) (h : w.extractLsb' 0 16 = 0#16) : Ideal.ofBits .f32 w = Ideal.ofBits .bf16 (w.extractLsb' 16 16) := by
  show Ideal.ieee 8 23 w = Ideal.ieee 8 7 (w.extractLsb' 16 16)
  have hs : w.extractLsb' (8 + 23) 1 = (w.extractLsb' 16 16).extractLsb' (8 + 7) 1 := by
    apply BitVec.eq_of_toNat_eq
    simp only [BitVec.extractLsb'_toNat, Nat.shiftRight_eq_div_pow]
    omega
  have he : w.extractLsb' 23 8 = (w.extractLsb' 16 16).extractLsb' 7 8 := by
    apply BitVec.eq_of_toNat_eq
    simp only [BitVec.extractLsb'_toNat, Nat.shiftRight_eq_div_pow]
    omega
  have hf : (w.extractLsb' 0 23).toNat = ((w.extractLsb' 16 16).extractLsb' 0 7).toNat * 2 ^ 16 := by
    have h0 : w.toNat % 2 ^ 16 = 0 := by
      have := congrArg BitVec.toNat h
      simpa [BitVec.extractLsb'_toNat] using this
    simp only [BitVec.extractLsb'_toNat, Nat.shiftRight_eq_div_pow]
    omega
  have hz : ∀ n : ℕ, n * 2 ^ 16 = 0 ↔ n = 0 := fun n => by omega
  have hn : ∀ n : ℕ, 2 ^ 23 + n * 2 ^ 16 = (2 ^ 7 + n) * 2 ^ 16 := fun n => by omega
  have hr : ∀ (s : ℝ) (n : ℕ) (e : ℤ), s * ((n * 2 ^ 16 : ℕ) : ℝ) * (2 : ℝ) ^ (e - (23 : ℕ)) = s * (n : ℝ) * (2 : ℝ) ^ (e - (7 : ℕ)) := by
    intro s n e
    have : (2 : ℝ) ^ (e - (7 : ℕ)) = 2 ^ 16 * (2 : ℝ) ^ (e - (23 : ℕ)) := by
      rw [show e - ((7 : ℕ) : ℤ) = 16 + (e - ((23 : ℕ) : ℤ)) by push_cast; ring, zpow_add₀ (by norm_num)]
      norm_cast
    rw [this]; push_cast; ring
  unfold Ideal.ieee
  simp only [hs, he, hf]
  generalize ((w.extractLsb' 16 16).extractLsb' 0 7).toNat = n
  simp only [hz, hn, hr]

theorem shifted (w : BitVec 32) : Ideal.ofBits .f32 (w <<< 16) = low w := by
  have hw : w.toNat < 2 ^ 32 := w.isLt
  refine (widen _ ?_).trans (congrArg (Ideal.ofBits .bf16) ?_) <;> apply BitVec.eq_of_toNat_eq <;>
    simp only [BitVec.extractLsb'_toNat, Nat.shiftRight_eq_div_pow, BitVec.toNat_shiftLeft, Nat.shiftLeft_eq, BitVec.toNat_ofNat] <;> omega

theorem masked (w : BitVec 32) : Ideal.ofBits .f32 (w &&& 0xFFFF0000#32) = high w := by
  have hw : w.toNat < 2 ^ 32 := w.isLt
  have e : w &&& 0xFFFF0000#32 = (w >>> 16) <<< 16 := by
    apply BitVec.eq_of_getLsbD_eq
    intro i hi
    have hm : ∀ i : Fin 32, (0xFFFF0000#32).getLsbD i.val = decide (16 ≤ i.val) := by decide
    rw [BitVec.getLsbD_and, hm ⟨i, hi⟩]
    by_cases h : 16 ≤ i
    · simp [h, hi, show ¬ i < 16 by omega]
    · simp [h, show i < 16 by omega]
  rw [e]
  refine (widen _ ?_).trans (congrArg (Ideal.ofBits .bf16) ?_) <;> apply BitVec.eq_of_toNat_eq <;>
    simp only [BitVec.extractLsb'_toNat, Nat.shiftRight_eq_div_pow, BitVec.toNat_shiftLeft, BitVec.toNat_ushiftRight, Nat.shiftLeft_eq, BitVec.toNat_ofNat] <;> omega

/-! ## The combined and normalised rows -/

/-- A row of the sorted outputs, unpacked: its left half from the words' low halves, its right half from the high ones. -/
def entry (y : S17280x2048.Idx → BitVec 32) (r : Fin 17280) (k : Fin 4096) : EReal :=
  if h : k.val < 2048 then low (y (ix2 r ⟨k.val, h⟩)) else high (y (ix2 r ⟨k.val - 2048, by omega⟩))

/-- A token's row and its two experts' outputs under their weights. -/
def mixed (d : S16384.Idx → BitVec 32) (y : S17280x2048.Idx → BitVec 32) (x : FVec Ideal S8192x4096 .f32) (w : FVec Ideal S8192x128 .f32)
    (r : Fin 8192) (k : Fin 4096) : EReal :=
  x (ix2 r k) + entry y (rowOf d (2 * r.val)) k * w (ix2 r 0) + entry y (rowOf d (2 * r.val + 1)) k * w (ix2 r 1)

/-- A row divided by its root mean square, and scaled. -/
def normed (f : Fin 4096 → EReal) (g : Fin 4096 → EReal) (k : Fin 4096) : EReal :=
  f k * Ideal.rsqrt (Ideal.div (∑ l, f l * f l) (Ideal.ofBits FTy.f32 0x45800000#32) + Ideal.ofBits FTy.f32 0x358637BD#32) * g k

/-- The tokens' outputs. -/
def combined (d : S16384.Idx → BitVec 32) (y : S17280x2048.Idx → BitVec 32) (x : FVec Ideal S8192x4096 .f32) (w : FVec Ideal S8192x128 .f32)
    (g : FVec Ideal S1x4096 .f32) : FVec Ideal S8192x4096 .f32 :=
  fun i => normed (mixed d y x w (i 0)) (fun k => g (ix2 0 k)) (i 1)

/-! ## The tile's values -/

section Tile

variable (x0 : Vec Ideal S256x4096 .f32) (x1 : Vec Ideal S256x128 .f32) (x2 : Vec Ideal S1x4096 .f32) (p0 p1 : Vec Ideal S1x1x256x2048 .i32)

theorem left_apply (r : Fin 256) (j : Fin 2048) : leftHalf x0 (ix2 r j) = x0 (ix2 r ⟨j.val, by omega⟩) := by
  unfold leftHalf VecWindow.window
  congr 1; funext a; apply Fin.ext
  match a with
  | 0 => simp
  | 1 => simp

theorem right_apply (r : Fin 256) (j : Fin 2048) : rightHalf x0 (ix2 r j) = x0 (ix2 r ⟨j.val + 2048, by omega⟩) := by
  unfold rightHalf VecWindow.window
  congr 1; funext a; apply Fin.ext
  match a with
  | 0 => simp
  | 1 => simp [Nat.add_comm]

theorem leftRow_apply (j : Fin 2048) : leftRow x2 (ix2 0 j) = x2 (ix2 0 ⟨j.val, by omega⟩) := by
  unfold leftRow VecWindow.window
  congr 1; funext a; apply Fin.ext
  match a with
  | 0 => simp
  | 1 => simp

theorem rightRow_apply (j : Fin 2048) : rightRow x2 (ix2 0 j) = x2 (ix2 0 ⟨j.val + 2048, by omega⟩) := by
  unfold rightRow VecWindow.window
  congr 1; funext a; apply Fin.ext
  match a with
  | 0 => simp
  | 1 => simp [Nat.add_comm]

theorem first_left (a : Vec Ideal S256x2048 .f32) (r : Fin 256) (j : Fin 2048) :
    (k0_pay7 x1 a p0 : Vec Ideal S256x2048 .f32) (ix2 r j) = a (ix2 r j) + low (p0 (ix4 0 0 r j)) * x1 (ix2 r 0) := by
  pointwise [k0_pay7, k0_pay6]
  rfl

theorem first_right (a : Vec Ideal S256x2048 .f32) (r : Fin 256) (j : Fin 2048) :
    (k0_pay8 x1 a p0 : Vec Ideal S256x2048 .f32) (ix2 r j) = a (ix2 r j) + high (p0 (ix4 0 0 r j)) * x1 (ix2 r 0) := by
  pointwise [k0_pay8, k0_pay6]
  rfl

theorem second_left (a : FVec Ideal S256x2048 .f32) (r : Fin 256) (j : Fin 2048) :
    (k0_pay1 x1 a (k0_pay11 p1) : Vec Ideal S256x2048 .f32) (ix2 r j) = a (ix2 r j) + low (p1 (ix4 0 0 r j)) * x1 (ix2 r 1) := by
  pointwise [k0_pay1, k0_pay11, k0_pay9]
  rfl

theorem second_right (a : FVec Ideal S256x2048 .f32) (r : Fin 256) (j : Fin 2048) :
    (k0_pay2 x1 a (k0_pay10 p1) : Vec Ideal S256x2048 .f32) (ix2 r j) = a (ix2 r j) + high (p1 (ix4 0 0 r j)) * x1 (ix2 r 1) := by
  pointwise [k0_pay2, k0_pay10, k0_pay9]
  rfl

theorem scale_apply (v23 v28 v33 : FVec Ideal S256x2048 .f32) (v34 : FVec Ideal S256x2048 .bf16) (r : Fin 256) :
    k0_pay3 x1 v23 v28 v33 v34 (ix2 r 0) = Ideal.rsqrt (Ideal.div ((∑ l, k0_pay1 x1 v23 v34 (ix2 r l) * k0_pay1 x1 v23 v34 (ix2 r l))
      + ∑ l, k0_pay2 x1 v28 v33 (ix2 r l) * k0_pay2 x1 v28 v33 (ix2 r l)) (Ideal.ofBits FTy.f32 0x45800000#32) + Ideal.ofBits FTy.f32 0x358637BD#32) := by
  generalize h1 : k0_pay1 x1 v23 v34 = a
  generalize h2 : k0_pay2 x1 v28 v33 = b
  unfold k0_pay3
  simp only [h1, h2]
  pointwise

theorem out_left (v23 v28 v33 : FVec Ideal S256x2048 .f32) (v34 : FVec Ideal S256x2048 .bf16) (g : Vec Ideal S1x2048 .f32) (r : Fin 256) (j : Fin 2048) :
    k0_pay4 x1 v23 v28 v33 v34 g (ix2 r j) = k0_pay1 x1 v23 v34 (ix2 r j) * k0_pay3 x1 v23 v28 v33 v34 (ix2 r 0) * g (ix2 0 j) := by
  generalize h1 : k0_pay1 x1 v23 v34 = a
  generalize h2 : k0_pay3 x1 v23 v28 v33 v34 = b
  unfold k0_pay4
  simp only [h1, h2]
  pointwise

theorem out_right (v23 v28 v33 : FVec Ideal S256x2048 .f32) (v34 : FVec Ideal S256x2048 .bf16) (g : Vec Ideal S1x2048 .f32) (r : Fin 256) (j : Fin 2048) :
    k0_pay5 x1 v23 v28 v33 v34 g (ix2 r j) = k0_pay2 x1 v28 v33 (ix2 r j) * k0_pay3 x1 v23 v28 v33 v34 (ix2 r 0) * g (ix2 0 j) := by
  generalize h1 : k0_pay2 x1 v28 v33 = a
  generalize h2 : k0_pay3 x1 v23 v28 v33 v34 = b
  unfold k0_pay5
  simp only [h1, h2]
  pointwise

/-- A row of the tile before it is normalised, from the operands' blocks and the landed planes. -/
def rowBefore (r : Fin 256) (k : Fin 4096) : EReal :=
  if h : k.val < 2048 then x0 (ix2 r k) + low (p0 (ix4 0 0 r ⟨k.val, h⟩)) * x1 (ix2 r 0) + low (p1 (ix4 0 0 r ⟨k.val, h⟩)) * x1 (ix2 r 1)
  else x0 (ix2 r k) + high (p0 (ix4 0 0 r ⟨k.val - 2048, by omega⟩)) * x1 (ix2 r 0) + high (p1 (ix4 0 0 r ⟨k.val - 2048, by omega⟩)) * x1 (ix2 r 1)

/-- A sum over a row is the sum over its left half and the sum over its right half. -/
theorem sum_halves (f : Fin 4096 → EReal) : (∑ l, f l) = (∑ l : Fin 2048, f ⟨l.val, by omega⟩) + ∑ l : Fin 2048, f ⟨l.val + 2048, by omega⟩ := by
  refine (Fin.sum_univ_add (a := 2048) (b := 2048) f).trans ?_
  exact congrArg₂ (· + ·) rfl (Finset.sum_congr rfl fun l _ => congrArg f (Fin.ext (Nat.add_comm _ _)))

theorem landed_left (r : Fin 256) (j : Fin 2048) :
    (k0_pay1 x1 (k0_pay7 x1 (leftHalf x0) p0) (k0_pay11 p1) : Vec Ideal S256x2048 .f32) (ix2 r j) = rowBefore x0 x1 p0 p1 r ⟨j.val, by omega⟩ := by
  rw [second_left, first_left, left_apply]
  unfold rowBefore
  rw [dif_pos (show j.val < 2048 from j.isLt)]

theorem landed_right (r : Fin 256) (j : Fin 2048) :
    (k0_pay2 x1 (k0_pay8 x1 (rightHalf x0) p0) (k0_pay10 p1) : Vec Ideal S256x2048 .f32) (ix2 r j) = rowBefore x0 x1 p0 p1 r ⟨j.val + 2048, by omega⟩ := by
  rw [second_right, first_right, right_apply]
  unfold rowBefore
  rw [dif_neg (show ¬ j.val + 2048 < 2048 by omega)]
  simp only [Nat.add_sub_cancel]

theorem tileOut_apply (r : Fin 256) (k : Fin 4096) :
    tileOut x0 x1 x2 p0 p1 (ix2 r k) = normed (rowBefore x0 x1 p0 p1 r) (fun k => x2 (ix2 0 k)) k := by
  unfold tileOut halves normed
  rw [sum_halves]
  by_cases h : k.val < 2048
  · rw [dif_pos (show ((ix2 r k : S256x4096.Idx) 1).val < 2048 from h)]
    refine (out_left x1 _ _ _ _ _ r ⟨k.val, h⟩).trans ?_
    rw [scale_apply, leftRow_apply, landed_left]
    simp only [landed_left, landed_right]
  · rw [dif_neg (show ¬ ((ix2 r k : S256x4096.Idx) 1).val < 2048 from h)]
    have hk : (⟨k.val - 2048 + 2048, by omega⟩ : Fin 4096) = k := Fin.ext (by show k.val - 2048 + 2048 = k.val; omega)
    refine (out_right x1 _ _ _ _ _ r ⟨k.val - 2048, by omega⟩).trans ?_
    rw [scale_apply, rightRow_apply, landed_right]
    simp only [landed_left, landed_right, hk]

end Tile

/-! ## The blocks read and written -/

section Blocks

variable (m : (ℓ : Loc nD τ sig) → Buf (Elt Ideal) ℓ)

/-- Point `t` is row block `t`; the scale row is the same at every point. -/
theorem at_point : ∀ t : Fin grid0.N,
    cc0_transform_1 (grid0.coords t) 0 = t.val ∧ cc0_transform_1 (grid0.coords t) 1 = 0
    ∧ cc0_transform_2 (grid0.coords t) 0 = t.val ∧ cc0_transform_2 (grid0.coords t) 1 = 0
    ∧ cc0_transform_3 (grid0.coords t) 0 = 0 ∧ cc0_transform_3 (grid0.coords t) 1 = 0
    ∧ cc0_transform_4 (grid0.coords t) 0 = t.val ∧ cc0_transform_4 (grid0.coords t) 1 = 0 := by decide +kernel

theorem points (t : Fin grid0.N) : t.val < 32 := lt_of_lt_of_eq t.isLt (by decide)

theorem read_0 (c : Dev nD) (t : Fin grid0.N) (r : Fin 256) (k : Fin 4096) :
    (iblk m c 0 t : Vec Ideal S256x4096 .f32) (ix2 r k)
      = (m ((c : Thread nD τ).loc main_arg2) : Vec Ideal S8192x4096 .f32) (ix2 ⟨t.val * 256 + r.val, by have := points t; omega⟩ k) := by
  refine congrArg (m ((c : Thread nD τ).loc main_arg2) : S8192x4096.Idx → EReal)
    (show ((((cfgA m).win 0).blk t).view.emb (ix2 r k) : S8192x4096.Idx) = (ix2 ⟨t.val * 256 + r.val, by have := points t; omega⟩ k) from ?_)
  funext (a : Fin 2); apply Fin.ext
  obtain ⟨h0, h1, -⟩ := at_point t
  match a with
  | 0 => show cc0_transform_1 (grid0.coords t) 0 * 256 + 1 * r.val = _; rw [h0]; simp
  | 1 => show cc0_transform_1 (grid0.coords t) 1 * 4096 + 1 * k.val = _; rw [h1]; simp

theorem read_1 (c : Dev nD) (t : Fin grid0.N) (r : Fin 256) (k : Fin 128) :
    (iblk m c 1 t : Vec Ideal S256x128 .f32) (ix2 r k)
      = (m ((c : Thread nD τ).loc main_arg3) : Vec Ideal S8192x128 .f32) (ix2 ⟨t.val * 256 + r.val, by have := points t; omega⟩ k) := by
  refine congrArg (m ((c : Thread nD τ).loc main_arg3) : S8192x128.Idx → EReal)
    (show ((((cfgA m).win 1).blk t).view.emb (ix2 r k) : S8192x128.Idx) = (ix2 ⟨t.val * 256 + r.val, by have := points t; omega⟩ k) from ?_)
  funext (a : Fin 2); apply Fin.ext
  obtain ⟨-, -, h0, h1, -⟩ := at_point t
  match a with
  | 0 => show cc0_transform_2 (grid0.coords t) 0 * 256 + 1 * r.val = _; rw [h0]; simp
  | 1 => show cc0_transform_2 (grid0.coords t) 1 * 128 + 1 * k.val = _; rw [h1]; simp

theorem read_2 (c : Dev nD) (t : Fin grid0.N) (k : Fin 4096) :
    (iblk m c 2 t : Vec Ideal S1x4096 .f32) (ix2 0 k) = (m ((c : Thread nD τ).loc main_arg4) : Vec Ideal S1x4096 .f32) (ix2 0 k) := by
  refine congrArg (m ((c : Thread nD τ).loc main_arg4) : S1x4096.Idx → EReal)
    (show ((((cfgA m).win 2).blk t).view.emb (ix2 0 k) : S1x4096.Idx) = (ix2 0 k) from ?_)
  funext (a : Fin 2); apply Fin.ext
  obtain ⟨-, -, -, -, h0, h1, -⟩ := at_point t
  match a with
  | 0 => show cc0_transform_3 (grid0.coords t) 0 * 1 + 1 * 0 = _; rw [h0]; simp
  | 1 => show cc0_transform_3 (grid0.coords t) 1 * 4096 + 1 * k.val = _; rw [h1]; simp

def result (c : Dev nD) : Vec Ideal S8192x4096 .f32 :=
  combined (words m) (sorted m c) (m ((c : Thread nD τ).loc main_arg2)) (m ((c : Thread nD τ).loc main_arg3)) (m ((c : Thread nD τ).loc main_arg4))

/-- The entry of a landed plane. -/
theorem plane_apply (tbl : S16384.Idx → BitVec 32) (y : S17280x2048.Idx → BitVec 32) (t p : ℕ) (r : Fin 256) (j : Fin 2048) :
    plane tbl y t p (ix4 0 0 r j) = y (ix2 (rowOf tbl (2 * (t * 256 + r.val) + p)) j) := by
  show y _ = y _
  congr 1
  rw [show 2 * (t * 256 + r.val) + p = 512 * t + 2 * r.val + p by ring]
  rfl

/-- A row of a tile before it is normalised is its token's. -/
theorem token_row (c : Dev nD) (t : Fin grid0.N) (r : Fin 256) (k : Fin 4096) :
    rowBefore (iblk m c 0 t) (iblk m c 1 t) (plane (words m) (sorted m c) t.val 0) (plane (words m) (sorted m c) t.val 1) r k
      = mixed (words m) (sorted m c) (m ((c : Thread nD τ).loc main_arg2)) (m ((c : Thread nD τ).loc main_arg3))
          ⟨t.val * 256 + r.val, by have := points t; omega⟩ k := by
  unfold rowBefore mixed entry
  by_cases h : k.val < 2048
  · simp only [dif_pos h]
    rw [read_0 m c t r k, read_1 m c t r 0, read_1 m c t r 1, plane_apply, plane_apply]
    rfl
  · simp only [dif_neg h]
    rw [read_0 m c t r k, read_1 m c t r 0, read_1 m c t r 1, plane_apply, plane_apply]
    rfl

/-- The tile a point computes is the result's at the tile's place. -/
theorem tile_apply (c : Dev nD) (t : Fin grid0.N) (r : Fin 256) (k : Fin 4096) :
    (tile m c t : Vec Ideal S256x4096 .f32) (ix2 r k)
      = result m c (ix2 ⟨t.val * 256 + r.val, by have := points t; omega⟩ k) := by
  refine (tileOut_apply (iblk m c 0 t) (iblk m c 1 t) (iblk m c 2 t) _ _ r k).trans ?_
  refine (congrArg₂ (fun f g => normed f g k) (funext fun l => token_row m c t r l) (funext fun l => read_2 m c t l)).trans ?_
  rfl

theorem flushed_eq (c : Dev nD) (t : Fin grid0.N) :
    (dats m 0 c).flushed 3 t = (((cfgA m).win 3).blk t).view.read (Elt Ideal) (result m c) := by
  show ((cfgA m).win 3).cut (grid0.coords t) ((dats m 0 c).after 3 t) = _
  rw [after_3]
  funext (y : S256x4096.Idx)
  obtain ⟨-, -, -, -, -, -, h0, h1⟩ := at_point t
  refine (show (tile m c t : Vec Ideal S256x4096 .f32) y = tile m c t (ix2 (y 0) (y 1)) from
    congrArg (tile m c t) (by funext a; match a with | 0 => rfl | 1 => rfl)).trans ?_
  refine (tile_apply m c t (y 0) (y 1)).trans ?_
  refine congrArg (result m c) (show ix2 ⟨t.val * 256 + (y 0).val, by have := points t; have h : (y 0).val < 256 := (y 0).isLt; omega⟩ (y 1)
    = ((((cfgA m).win 3).blk t).view.emb y : S8192x4096.Idx) from ?_)
  funext (a : Fin 2); apply Fin.ext
  match a with
  | 0 => show _ = cc0_transform_4 (grid0.coords t) 0 * 256 + 1 * (y 0).val; rw [h0]; simp
  | 1 => show _ = cc0_transform_4 (grid0.coords t) 1 * 4096 + 1 * (y 1).val; rw [h1]; simp

theorem mem_slice (o sz : Fin 2 → ℕ) (h) (i : S8192x4096.Idx) :
    i ∈ ((View.whole main_v0).slice (Rect.unit (s := S8192x4096) o sz h)).set ↔ ∀ a : Fin 2, o a ≤ (i a).val ∧ (i a).val < o a + sz a := by
  rw [View.set_slice_whole]
  exact Rect.mem_set_unit

theorem mem_blk (t : Fin grid0.N) (i : S8192x4096.Idx) :
    i ∈ (((cfgA m).win 3).blk t).view.set ↔ ∀ a : Fin 2, cc0_transform_4 (grid0.coords t) a * S256x4096.size a ≤ (i a).val
      ∧ (i a).val < cc0_transform_4 (grid0.coords t) a * S256x4096.size a + S256x4096.size a := by
  exact mem_slice (fun a => cc0_transform_4 (grid0.coords t) a * S256x4096.size a) S256x4096.size _ i

/-- Every point writes its block back. -/
theorem flush_at : ∀ t : Fin grid0.N, Window.flushOf grid0 true (fun i => cc0_transform_4 i) t = true := by decide +kernel

theorem cover (i : S8192x4096.Idx) : ∃ t : Fin (cfgA m).N, ((cfgA m).win 3).flush t = true ∧ i ∈ (((cfgA m).win 3).blk t).view.set := by
  have h0 : (i 0).val < 8192 := (i 0).isLt
  have h1 : (i 1).val < 4096 := (i 1).isLt
  let t : Fin grid0.N := ⟨(i 0).val / 256, show _ < 32 by omega⟩
  have ht : t.val = (i 0).val / 256 := rfl
  refine ⟨t, (Window.flush_eq_flushOf _ _).trans (flush_at t), (mem_blk m t i).2 ?_⟩
  obtain ⟨-, -, -, -, -, -, e0, e1⟩ := at_point t
  intro a
  match a with
  | 0 => rw [show cc0_transform_4 (grid0.coords t) 0 = _ from e0]; show _ * 256 ≤ (i 0).val ∧ (i 0).val < _ * 256 + 256; omega
  | 1 => rw [show cc0_transform_4 (grid0.coords t) 1 = _ from e1]; show _ * 4096 ≤ (i 1).val ∧ (i 1).val < _ * 4096 + 4096; omega

theorem final (c : Dev nD) : (dats m 0 c).arrAt 3 (cfgA m).N = result m c :=
  (dats m 0 c).arrAt_eq_of_cover 3 (result m c) (fun t _ => flushed_eq m c t) (cover m)

end Blocks

end Cert.Kernel5Ideal.Combine

end
-- ==== Proof.CombineReference.lean ====
/-
  The plain combining over the extended reals, stage by stage: the unpacked rows, the rows gathered for each token, the
  weighted sums, the normalisation. Its result is the function of its arguments that the kernel's is.
-/
module

public import proofs.«01_k».proof.Proof.CombineValue
public import proofs.«01_k».proof.Proof.Gen.Reference5Ideal.Run
public import Idealize.ShloMosaic.Lib.Pointwise
public import Idealize.ShloMosaic.Lib.Pipeline.Value
public import Idealize.ShloMosaic.Lib.Pipeline.ValueKit
public import Idealize.ShloMosaic.Lib.StableHlo.Run
public import Idealize.ShloMosaic.Lib.Routing.Ops

@[expose] public section

set_option maxRecDepth 16384

noncomputable section

namespace Cert.Reference5Ideal.Combine

open Cert.Reference5Ideal Cert.Reference5Ideal.Gen Cert.Reference5Ideal.Value
open Idealize.ShloMosaic Idealize.ShloMosaic.TcCoe Idealize.ShloMosaic.Tactic
open Cert.Kernel5Ideal.Combine (low high shifted masked entry mixed normed combined InBounds wordAt rowOf)

/-- The numbers in the words' low halves. -/
def lows (y : IVec S17280x2048 32) : FVec Ideal S17280x2048 .f32 :=
  bitcastToFloat (F := Ideal) .f32 (Host.shli y (broadcastInDim S17280x2048 ![] bcast_S_S17280x2048 (constantI S_ 32 16#32)))

/-- The numbers in their high halves. -/
def highs (y : IVec S17280x2048 32) : FVec Ideal S17280x2048 .f32 :=
  bitcastToFloat (F := Ideal) .f32 (andi y (broadcastInDim S17280x2048 ![] bcast_S_S17280x2048 (constantI S_ 32 4294901760#32)))

/-- The sorted outputs, unpacked. -/
def rows (y : IVec S17280x2048 32) : FVec Ideal S17280x4096 .f32 :=
  concatenate S17280x4096 1 [⟨S17280x2048, lows y⟩, ⟨S17280x2048, highs y⟩] concatenates_S17280x2048_S17280x2048_S17280x4096_d1

/-- The places the rows are taken from. -/
def places (d : IVec S16384 32) : IVec S16384x1 32 :=
  broadcastInDim S16384x1 ![0] bcast_S16384_S16384x1_0 (select (cmpi .slt d (broadcastInDim S16384 ![] bcast_S_S16384 (constantI S_ 32 0#32)))
    (addi d (broadcastInDim S16384 ![] bcast_S_S16384 (constantI S_ 32 17280#32))) d)

/-- The rows of every token's two experts. -/
def taken (d : IVec S16384 32) (y : IVec S17280x2048 32) : FVec Ideal S16384x4096 .f32 :=
  Host.gather gather_S17280x4096_S16384x1_S16384x4096_1_0_n_n_0_1_14096 (rows y) (places d)

/-- The tokens' rows with their experts' outputs added. -/
def sums (t : FVec Ideal S16384x4096 .f32) (x : FVec Ideal S8192x4096 .f32) (w : FVec Ideal S8192x128 .f32) : FVec Ideal S8192x4096 .f32 :=
  addf (addf x (mulf (shapeCast _ (extractStridedSlice S8192x1x4096 ![0, 0, 0] (shapeCast _ t shapeCasts_S16384x4096_S8192x2x4096) slices_S8192x2x4096_S8192x1x4096_0_0_0) shapeCasts_S8192x1x4096_S8192x4096)
      (broadcastInDim S8192x4096 ![0, 1] bcast_S8192x1_S8192x4096_0_1 (extractStridedSlice S8192x1 ![0, 0] w slices_S8192x128_S8192x1_0_0))))
    (mulf (shapeCast _ (extractStridedSlice S8192x1x4096 ![0, 1, 0] (shapeCast _ t shapeCasts_S16384x4096_S8192x2x4096) slices_S8192x2x4096_S8192x1x4096_0_1_0) shapeCasts_S8192x1x4096_S8192x4096)
      (broadcastInDim S8192x4096 ![0, 1] bcast_S8192x1_S8192x4096_0_1 (extractStridedSlice S8192x1 ![0, 1] w slices_S8192x128_S8192x1_0_1)))

/-- The rows normalised. -/
def scaled (f : FVec Ideal S8192x4096 .f32) (g : FVec Ideal S1x4096 .f32) : FVec Ideal S8192x4096 .f32 :=
  mulf (mulf f (broadcastInDim S8192x4096 ![0, 1] bcast_S8192x1_S8192x4096_0_1 (Host.rsqrt (addf
      (Host.divf (broadcastInDim S8192x1 ![0] bcast_S8192_S8192x1_0 (Host.reduceAdd (mulf f f) (constant S_ .f32 0x00000000#32) reducesTo_S8192x4096_S8192_d1 h_S_))
        (broadcastInDim S8192x1 ![] bcast_S_S8192x1 (constant S_ .f32 0x45800000#32)))
      (broadcastInDim S8192x1 ![] bcast_S_S8192x1 (constant S_ .f32 0x358637BD#32))))))
    (broadcastInDim S8192x4096 ![0, 1] bcast_S1x4096_S8192x4096_0_1 g)

theorem result_eq (m : (ℓ : Loc nD τ sig) → Buf (Elt Ideal) ℓ) (c : Dev nD) :
    res_main_v38 m c = scaled (sums (taken (m ((c.tc : Thread nD τ).loc main_arg0)) (m ((c.tc : Thread nD τ).loc main_arg1)))
      (m ((c.tc : Thread nD τ).loc main_arg2)) (m ((c.tc : Thread nD τ).loc main_arg3))) (m ((c.tc : Thread nD τ).loc main_arg4)) := rfl

theorem lows_apply (y : IVec S17280x2048 32) (i : S17280x2048.Idx) : lows y i = low (y i) := by
  refine Eq.trans ?_ (shifted (y i))
  show Ideal.ofBits .f32 (IntOp.shli .host (y i) 16#32) = _
  rfl

theorem highs_apply (y : IVec S17280x2048 32) (i : S17280x2048.Idx) : highs y i = high (y i) := masked (y i)

theorem rows_apply (y : IVec S17280x2048 32) (r : Fin 17280) (k : Fin 4096) : rows y (ix2 r k) = entry y r k := by
  unfold rows entry
  by_cases h : k.val < 2048
  · rw [dif_pos h]
    refine (concatenate_pair_apply_left 1 (lows y) (highs y) _ (ix2 r k) rfl (ix2 r ⟨k.val, h⟩) fun b => ?_).trans (lows_apply y _)
    match b with
    | 0 => rfl
    | 1 => rfl
  · rw [dif_neg h]
    refine (concatenate_pair_apply_right 1 (lows y) (highs y) _ (ix2 r k) rfl rfl (ix2 r ⟨k.val - 2048, by omega⟩) (fun b hb => ?_) ?_).trans (highs_apply y _)
    · match b with
      | 0 => rfl
      | 1 => exact absurd rfl hb
    · show k.val - 2048 + 2048 = k.val; omega

theorem places_apply (d : IVec S16384 32) (hb : InBounds d) (n : Fin 16384) : places d (ix2 n 0) = BitVec.ofNat 32 (rowOf d n.val).val := by
  have hn : n.val % 16384 = n.val := Nat.mod_eq_of_lt n.isLt
  have hw : wordAt d n.val = d (ix1 n) := by unfold wordAt; congr 2; exact Fin.ext hn
  have h := hb n.val
  rw [Cert.Kernel5Ideal.Combine.rowOf_of_inBounds hb, BitVec.ofNat_toNat, BitVec.setWidth_eq, hw]
  rw [hw] at h
  unfold places
  pointwise
  generalize d (ix1 n) = v at h ⊢
  have hs : ¬ v.slt 0#32 = true := by
    rw [BitVec.slt_iff_toInt_lt, BitVec.toInt_eq_toNat_cond]
    simp only [BitVec.toInt_zero]
    split <;> omega
  have hz : IntOp.cmpi .slt v 0#32 = 0#1 := by
    unfold IntOp.cmpi
    simp only [Bool.not_eq_true] at hs
    rw [hs]; rfl
  rw [hz]; rfl

theorem taken_apply (d : IVec S16384 32) (hb : InBounds d) (y : IVec S17280x2048 32) (n : Fin 16384) (k : Fin 4096) :
    taken d y (ix2 n k) = entry y (rowOf d n.val) k := by
  refine Eq.trans ?_ (rows_apply y (rowOf d n.val) k)
  exact Idealize.ShloMosaic.Routing.gather_row _ rfl rfl rfl rfl rfl (rows y) (places d) n k (rowOf d n.val) (places_apply d hb n) (by norm_num)

theorem sums_apply (t : FVec Ideal S16384x4096 .f32) (x : FVec Ideal S8192x4096 .f32) (w : FVec Ideal S8192x128 .f32) (r : Fin 8192) (k : Fin 4096) :
    sums t x w (ix2 r k) = x (ix2 r k) + t (ix2 ⟨2 * r.val, by omega⟩ k) * w (ix2 r 0) + t (ix2 ⟨2 * r.val + 1, by omega⟩ k) * w (ix2 r 1) := by
  pointwise [sums]
  simp only [Nat.mul_comm]

theorem scaled_apply (f : FVec Ideal S8192x4096 .f32) (g : FVec Ideal S1x4096 .f32) (r : Fin 8192) (k : Fin 4096) :
    scaled f g (ix2 r k) = normed (fun l => f (ix2 r l)) (fun l => g (ix2 0 l)) k := by
  pointwise [scaled]
  simp only [normed]

theorem result_combined (m : (ℓ : Loc nD τ sig) → Buf (Elt Ideal) ℓ) (c : Dev nD) (hb : InBounds (m ((c.tc : Thread nD τ).loc main_arg0))) :
    res_main_v38 m c = combined (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  rw [result_eq]
  funext i
  idx_vars i
  refine (scaled_apply _ _ _ _).trans ?_
  unfold combined
  congr 1
  funext l
  refine (sums_apply _ _ _ _ _).trans ?_
  rw [taken_apply _ hb, taken_apply _ hb]
  rfl

end Cert.Reference5Ideal.Combine

end
-- ==== Proof.SmallRun.lean ====
/-
  The body of the projection to the narrow columns (latents, index keys and weights, rotary keys, forget gates), run once,
  and the launch that repeats it.
-/
module

public import proofs.«01_k».proof.Proof.Gen.Kernel6Ideal.Frame.Runs
public import Idealize.ShloMosaic.Lib.VecWindow
public import Idealize.ShloMosaic.Lib.Claim

@[expose] public section

set_option maxRecDepth 16384

noncomputable section

namespace Cert.Kernel6Ideal.Small

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 800000 in
/-- The first point of a column sweep: the weight block is rounded into the scratch buffer and used from there. -/
theorem body_first (c : Dev nD) (i : grid0.Coords) (b0 : Memref sig .tc .vmem S512x4096 .bf16) (w0 : b0.IsWhole)
    (b1 : Memref sig .tc .vmem S896x4096 .f32) (w1 : b1.IsWhole) (b2 : Memref sig .tc .vmem S512x896 .f32) (w2 : b2.IsWhole)
    (s0 : Memref sig .tc .vmem S896x4096 .bf16) (u0 : s0.IsWhole)
    (hc : cond0_0 i)
    (x0 : Vec F S512x4096 .bf16) (x1 : Vec F S896x4096 .f32) (E : Set ℕ) (K : PUnit → sProp 𝕄) :
    iprop(owns (c : Thread nD τ) b0 fullShare x0 ∗ owns (c : Thread nD τ) b1 fullShare x1
        ∗ (∃ d, owns (c : Thread nD τ) b2 fullShare d) ∗ (∃ d, owns (c : Thread nD τ) s0 fullShare d)
        ∗ (iprop(owns (c : Thread nD τ) b0 fullShare x0 ∗ owns (c : Thread nD τ) b1 fullShare x1
            ∗ owns (c : Thread nD τ) b2 fullShare (k0_pay2 x0 (k0_pay1 x1)) ∗ owns (c : Thread nD τ) s0 fullShare (k0_pay1 x1)) -∗ K ⟨⟩))
      ⊢ wp frame (wpE (defs₀ (F := F)) Variants.none c none) E (cc0_proj_small i b0 w0 b1 w1 b2 w2 s0 u0) K := by
  simp only [cc0_proj_small_eq_skeleton]; unfold cc0_proj_small_skel
  unfold owns
  iintro ⟨⟨%f0, %hf0, H0⟩, ⟨%f1, %hf1, H1⟩, ⟨%d2, %f2, -, H2⟩, ⟨%e0, %g0, -, S0⟩, Hk⟩
  obtain rfl := w0.eq_unread hf0; obtain rfl := w1.eq_unread hf1
  sl_exec (disch := first | sl_exact hc)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; unfold body_first.sl.v4 body_first.sl.S0_1
    rw [View.read_writes_full, View.readAt_full b0.view, View.readCov_full s0.view, View.readAt_full b1.view, hf0, hf1]
  iexists _; isplitr; swap; · iexact S0
  ipureintro; unfold body_first.sl.S0_1; rw [View.read_writes_full, View.readAt_full, hf1]

set_option maxHeartbeats 800000 in
/-- A later point of a column sweep: the scratch buffer is read as the point before left it. -/
theorem body_next (c : Dev nD) (i : grid0.Coords) (b0 : Memref sig .tc .vmem S512x4096 .bf16) (w0 : b0.IsWhole)
    (b1 : Memref sig .tc .vmem S896x4096 .f32) (w1 : b1.IsWhole) (b2 : Memref sig .tc .vmem S512x896 .f32) (w2 : b2.IsWhole)
    (s0 : Memref sig .tc .vmem S896x4096 .bf16) (u0 : s0.IsWhole)
    (hc : ¬cond0_0 i)
    (x0 : Vec F S512x4096 .bf16) (x1 : Vec F S896x4096 .f32) (y0 : Vec F S896x4096 .bf16)
    (E : Set ℕ) (K : PUnit → sProp 𝕄) :
    iprop(owns (c : Thread nD τ) b0 fullShare x0 ∗ owns (c : Thread nD τ) b1 fullShare x1
        ∗ (∃ d, owns (c : Thread nD τ) b2 fullShare d) ∗ owns (c : Thread nD τ) s0 fullShare y0
        ∗ (iprop(owns (c : Thread nD τ) b0 fullShare x0 ∗ owns (c : Thread nD τ) b1 fullShare x1
            ∗ owns (c : Thread nD τ) b2 fullShare (k0_pay2 x0 y0) ∗ owns (c : Thread nD τ) s0 fullShare y0) -∗ K ⟨⟩))
      ⊢ wp frame (wpE (defs₀ (F := F)) Variants.none c none) E (cc0_proj_small i b0 w0 b1 w1 b2 w2 s0 u0) K := by
  simp only [cc0_proj_small_eq_skeleton]; unfold cc0_proj_small_skel
  unfold owns
  iintro ⟨⟨%f0, %hf0, H0⟩, ⟨%f1, %hf1, H1⟩, ⟨%d2, %f2, -, H2⟩, ⟨%g0, %hg0, S0⟩, Hk⟩
  obtain rfl := w0.eq_unread hf0; obtain rfl := w1.eq_unread hf1; obtain rfl := u0.eq_unread hg0
  sl_exec (disch := first | sl_exact hc)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro
    rw [View.read_writes_full, View.readAt_full b0.view, View.readAt_full s0.view, hf0, hg0]
  iexists _; isplitr; swap; · iexact S0
  ipureintro; exact hg0

/-! ## The proof data -/

variable (m : (ℓ : Loc nD τ sig) → Buf (Elt F) ℓ) (ρ : Dev nD → PrngReg)

/-- The result tile of point `t`. -/
def tile (c : Dev nD) (t : Fin cfg0.N) : Vec F S512x896 .f32 := k0_pay2 (iblk m c 0 t) (k0_pay1 (iblk m c 1 t))

/-- The scratch buffer holds the rounded weight block of point `t`. -/
def held (c : Dev nD) (t : Fin cfg0.N) : sProp 𝕄 :=
  iprop(iprop(owns (c : Thread nD τ) scM0_0 fullShare (k0_pay1 (iblk m c 1 t))) ∗ (∃ r, prngReg c r))

/-- At the start the scratch holds anything, after point `n` the weight block of point `n`. -/
def between (c : Dev nD) : (n : ℕ) → n ≤ cfg0.N → sProp 𝕄
  | 0, _ => Pipeline.ΦA spec0 c
  | n + 1, h => held m c ⟨n, h⟩

theorem between_pos (c : Dev nD) (n : ℕ) (h : n ≤ cfg0.N) (hz : n ≠ 0) : between m c n h = held m c ⟨n - 1, by omega⟩ := by
  cases n with
  | zero => exact absurd rfl hz
  | succ n => rfl

theorem held_forget (c : Dev nD) (t : Fin cfg0.N) : held m c t ⊢ Pipeline.ΦA spec0 c := by
  rw [PhiA0_eq]
  unfold held
  iintro ⟨S0, Hg⟩
  isplitl [S0]
  · iexists _; iexact S0
  iexact Hg

theorem between_forget (c : Dev nD) (n : ℕ) (h : n ≤ cfg0.N) : between m c n h ⊢ Pipeline.ΦA spec0 c := by
  cases n with
  | zero => exact Idealize.SL.BI.Entails.refl _
  | succ n => exact held_forget m c ⟨n, h⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile m c t
  Φ t := between m c t.val (Nat.le_of_lt_succ t.isLt)
  q _ := fullShare
  owed _ := 0

theorem dats_A (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = tile m c t := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d

/-- The point before `t`. -/
abbrev prev (t : Fin cfg0.N) : Fin cfg0.N := ⟨t.val - 1, Nat.lt_of_le_of_lt (Nat.sub_le _ _) t.isLt⟩

/-- A weight block not fetched anew is the block of the point before. -/
theorem weights_1 (c : Dev nD) (t : Fin cfg0.N) (h : ¬t.val % 16 = 0) : iblk m c 1 t = iblk m c 1 (prev t) :=
  (dats m 0 c).fetched_congr 1 (Pipeline.Window.index_eq_of_fetch win0_1 rfl t (Bool.eq_false_iff.mpr fun e => h ((fetch0_1 t).mp e))).2 rfl
    (iblk m c 1 t)

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl, after_0, after_1, after_2,
    show (dats m 0 c).Φ t.succ = held m c t from rfl,
    show (dats m 0 c).Φ t.castSucc = between m c t.val (Nat.le_of_lt t.isLt) from rfl]
  by_cases h0 : t.val % 16 = 0
  · refine (sep_mono_left (between_forget m c _ _)).trans ?_
    rw [PhiA0_eq]
    unfold held tile
    iintro ⟨⟨S0, Hg⟩, Ho, ⟨%d0, H0⟩, ⟨%d1, H1⟩, ⟨%d2, H2⟩⟩
    iapply (body_first c (grid0.coords t) _ _ _ _ _ _ _ _ ((hcond0_0 t).mpr h0) (iblk m c 0 t) (iblk m c 1 t) Set.univ _)
    isplitl [H0]; · iexact H0
    isplitl [H1]; · iexact H1
    isplitl [H2]; · iexists _; iexact H2
    isplitl [S0]; · iexact S0
    iintro ⟨H0, H1, H2, S0⟩
    isplitl [S0 Hg]
    · isplitl [S0]; · iexact S0
      iexact Hg
    isplitl [Ho]; · iexact Ho
    isplitl [H0]; · iexact H0
    isplitl [H1]; · iexact H1
    iexact H2
  · have hz : t.val ≠ 0 := fun e => h0 (by rw [e])
    rw [between_pos m c _ _ hz, show (⟨t.val - 1, _⟩ : Fin cfg0.N) = prev t from rfl]
    unfold held tile
    rw [weights_1 m c t h0]
    iintro ⟨⟨S0, Hg⟩, Ho, ⟨%d0, H0⟩, ⟨%d1, H1⟩, ⟨%d2, H2⟩⟩
    iapply (body_next c (grid0.coords t) _ _ _ _ _ _ _ _ (fun h => h0 ((hcond0_0 t).mp h)) (iblk m c 0 t) (iblk m c 1 (prev t))
      _ Set.univ _)
    isplitl [H0]; · iexact H0
    isplitl [H1]; · iexact H1
    isplitl [H2]; · iexists _; iexact H2
    isplitl [S0]; · iexact S0
    iintro ⟨H0, H1, H2, S0⟩
    isplitl [S0 Hg]
    · isplitl [S0]; · iexact S0
      iexact Hg
    isplitl [Ho]; · iexact Ho
    isplitl [H0]; · iexact H0
    isplitl [H1]; · iexact H1
    iexact H2

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_at m c t) rfl .rfl fun _ => .rfl

/-! ## The run -/

set_option backward.isDefEq.respectTransparency.types false in
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m)
    (hin := fun c => Idealize.SL.BI.Entails.refl _) (hout := fun c => between_forget m c cfg0.N (Nat.le_refl _))

/-- Every run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (dats_A m) ((θ_run defs _ _).mono (fun _ h => h.1) (run_main m ρ)))
    ((θ_run defs _ _).mono (fun _ h => h.2) (run_main m ρ))

/-- The run with the result array named. -/
theorem run : θ_run defs (onTc (τ := τ) (main (F := F))) ⟨m, fun _ => 0, ρ⟩ fun r => ∀ c : Dev nD,
      r.2.mem ((c : Thread nD τ).loc main_v11) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h.1.1 c).1 2, h.2.1 c⟩) (θ_run_and (run_main m ρ) (frame m ρ))

end Cert.Kernel6Ideal.Small

end
-- ==== Proof.SmallValue.lean ====
/-
  What the projection to the narrow columns computes over the extended reals.
-/
module

public import proofs.«01_k».proof.Proof.SmallRun
public import proofs.«01_k».proof.Proof.Gen.Reference6Ideal.Run
public import Idealize.ShloMosaic.Lib.Pointwise
public import Idealize.ShloMosaic.Lib.Pipeline.Value
public import Idealize.ShloMosaic.Lib.StableHlo.Run

@[expose] public section

set_option maxRecDepth 16384

noncomputable section

namespace Cert.Kernel6Ideal.Small

open Cert.Kernel6Ideal Cert.Kernel6Ideal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-- The weight the call is given: pieces of the transposed weight's rows, three of them with zero rows after them. -/
def weight (w : Vec Ideal S4096x15856 .f32) : Vec Ideal S1792x4096 .f32 :=
  let t := transpose S15856x4096 [1, 0] w transposes_S4096x15856_S15856x4096_1_0
  let z := sitofp (F := Ideal) .f32 (constantI S_ 32 0#32)
  concatenate S1792x4096 0
    [⟨S1024x4096, extractStridedSlice S1024x4096 ![6160, 0] t slices_S15856x4096_S1024x4096_6160_0⟩,
      ⟨S256x4096, extractStridedSlice S256x4096 ![7184, 0] t slices_S15856x4096_S256x4096_7184_0⟩,
      ⟨S128x4096, extractStridedSlice S128x4096 ![7504, 0] t slices_S15856x4096_S128x4096_7504_0⟩,
      ⟨S128x4096, pad S128x4096 ![0, 0] ![64, 0] ![0, 0] (extractStridedSlice S64x4096 ![7440, 0] t slices_S15856x4096_S64x4096_7440_0) z
        pads_S64x4096_S128x4096_0640_000 h_S_⟩,
      ⟨S128x4096, pad S128x4096 ![0, 0] ![112, 0] ![0, 0] (extractStridedSlice S16x4096 ![6144, 0] t slices_S15856x4096_S16x4096_6144_0) z
        pads_S16x4096_S128x4096_01120_000 h_S_⟩,
      ⟨S128x4096, pad S128x4096 ![0, 0] ![96, 0] ![0, 0] (extractStridedSlice S32x4096 ![7632, 0] t slices_S15856x4096_S32x4096_7632_0) z
        pads_S32x4096_S128x4096_0960_000 h_S_⟩]
    concatenates_S1024x4096_S256x4096_S128x4096_S128x4096_S128x4096_S128x4096_S1792x4096_d0

/-- A row against each of its rows. -/
def projected (a : Vec Ideal S8192x4096 .bf16) (w : Vec Ideal S4096x15856 .f32) : Vec Ideal S8192x1792 .f32 := fun i =>
  (∑ k : Fin 4096, a (ix2 (i 0) k) * weight w (ix2 (i 1) k) : EReal)

/-- Point `t` is row block `t % 16` of the column sweep `t / 16`. -/
theorem at_point : ∀ t : Fin cfg0.N,
    win0_0.index t 0 = t.val % 16 ∧ win0_0.index t 1 = 0
    ∧ win0_1.index t 0 = t.val / 16 ∧ win0_1.index t 1 = 0
    ∧ win0_2.index t 0 = t.val % 16 ∧ win0_2.index t 1 = t.val / 16 := by decide +kernel

theorem read_0 (c : Dev nD) (t : Fin cfg0.N) (r : Fin 512) (k : Fin 4096) :
    (iblk m c 0 t : Vec Ideal S512x4096 .bf16) (ix2 r k)
      = (m ((c : Thread nD τ).loc main_arg0) : Vec Ideal S8192x4096 .bf16) (ix2 ⟨t.val % 16 * 512 + r.val, by omega⟩ k) := by
  show V m c main_arg0 (((cfg0.win 0).blk t).view.emb (ix2 r k)) = _
  rw [V_main_arg0]
  congr 1
  funext a; apply Fin.ext
  obtain ⟨h0, h1, -⟩ := at_point t
  match a with
  | 0 => show win0_0.index t 0 * 512 + 1 * r.val = _; rw [h0]; simp
  | 1 => show win0_0.index t 1 * 4096 + 1 * k.val = _; rw [h1]; simp

theorem V_rows (c : Dev nD) : (V m c main_v10 : Vec Ideal S1792x4096 .f32) = weight (m ((c : Thread nD τ).loc main_arg1)) := by
  unfold V
  simp only [hostOps0, hostOps0_1, hostOps0_2, hostOps0_3, hostOps0_4, hostOps0_5, hostOps0_6, List.flatten_cons, List.flatten_nil,
    List.append_nil, List.cons_append, List.nil_append]
  after_results
  rfl

theorem read_1 (c : Dev nD) (t : Fin cfg0.N) (q : Fin 896) (k : Fin 4096) :
    (iblk m c 1 t : Vec Ideal S896x4096 .f32) (ix2 q k)
      = weight (m ((c : Thread nD τ).loc main_arg1)) (ix2 ⟨t.val / 16 * 896 + q.val, by have : t.val < 32 := t.isLt; omega⟩ k) := by
  rw [← V_rows m c]
  show V m c main_v10 (((cfg0.win 1).blk t).view.emb (ix2 q k)) = _
  congr 1
  funext a; apply Fin.ext
  obtain ⟨-, -, h0, h1, -⟩ := at_point t
  match a with
  | 0 => show win0_1.index t 0 * 896 + 1 * q.val = _; rw [h0]; simp
  | 1 => show win0_1.index t 1 * 4096 + 1 * k.val = _; rw [h1]; simp

def result (c : Dev nD) : Vec Ideal S8192x1792 .f32 :=
  projected (m ((c : Thread nD τ).loc main_arg0)) (m ((c : Thread nD τ).loc main_arg1))

/-- The tile a point computes is the projected array's at the tile's place. -/
theorem tile_apply (c : Dev nD) (t : Fin cfg0.N) (r : Fin 512) (q : Fin 896) :
    (tile m c t : Vec Ideal S512x896 .f32) (ix2 r q)
      = result m c (ix2 ⟨t.val % 16 * 512 + r.val, by omega⟩ ⟨t.val / 16 * 896 + q.val, by have : t.val < 32 := t.isLt; omega⟩) := by
  pointwise [tile, k0_pay1, k0_pay2]
  simp only [read_0, read_1]
  simp only [result, projected, ix2]

theorem flushed_eq (c : Dev nD) (t : Fin cfg0.N) :
    (dats m 0 c).flushed 2 t = ((cfg0.win 2).blk t).view.read (Elt Ideal) (result m c) := by
  show (cfg0.win 2).cut (grid0.coords t) ((dats m 0 c).after 2 t) = _
  rw [after_2]
  funext y
  show (tile m c t : Vec Ideal S512x896 .f32) y = result m c (((cfg0.win 2).blk t).view.emb y)
  obtain ⟨-, -, -, -, h0, h1⟩ := at_point t
  rw [show (tile m c t : Vec Ideal S512x896 .f32) y = tile m c t (ix2 (y 0) (y 1)) from
    congrArg (tile m c t) (by funext a; match a with | 0 => rfl | 1 => rfl)]
  refine (tile_apply m c t (y 0) (y 1)).trans ?_
  congr 1
  funext a; apply Fin.ext
  match a with
  | 0 => show _ = win0_2.index t 0 * 512 + 1 * (y 0).val; rw [h0]; simp
  | 1 => show _ = win0_2.index t 1 * 896 + 1 * (y 1).val; rw [h1]; simp

theorem mem_blk (t : Fin cfg0.N) (i : S8192x1792.Idx) :
    i ∈ ((cfg0.win 2).blk t).view.set ↔ ∀ a : Fin 2, win0_2.index t a * S512x896.size a ≤ (i a).val
      ∧ (i a).val < win0_2.index t a * S512x896.size a + S512x896.size a := by
  show i ∈ ((View.whole main_v11).slice (win0_2.rect t)).set ↔ _
  rw [View.set_slice_whole, Rect.mem_set_unit]
  exact Iff.rfl

theorem cover (i : S8192x1792.Idx) : ∃ t : Fin cfg0.N, (cfg0.win 2).flush t = true ∧ i ∈ ((cfg0.win 2).blk t).view.set := by
  have h0 : (i 0).val < 8192 := (i 0).isLt
  have h1 : (i 1).val < 1792 := (i 1).isLt
  let t : Fin cfg0.N := ⟨(i 1).val / 896 * 16 + (i 0).val / 512, show _ < 32 by omega⟩
  have ht : t.val = (i 1).val / 896 * 16 + (i 0).val / 512 := rfl
  refine ⟨t, flush0_2 t, (mem_blk t i).2 ?_⟩
  obtain ⟨-, -, -, -, e0, e1⟩ := at_point t
  intro a
  match a with
  | 0 => rw [show win0_2.index t 0 = _ from e0]; show _ * 512 ≤ (i 0).val ∧ (i 0).val < _ * 512 + 512; omega
  | 1 => rw [show win0_2.index t 1 = _ from e1]; show _ * 896 ≤ (i 1).val ∧ (i 1).val < _ * 896 + 896; omega

theorem final (c : Dev nD) : (dats m 0 c).arrAt 2 cfg0.N = result m c :=
  (dats m 0 c).arrAt_eq_of_cover 2 (result m c) (fun t _ => flushed_eq m c t) cover

end Cert.Kernel6Ideal.Small

end
-- ==== Proof.SmallReference.lean ====
/-
  The projection to the narrow columns: what the reference's pieces are, against the kernel's, piece by piece.
-/
module

public import proofs.«01_k».proof.Proof.SmallValue

@[expose] public section

set_option maxRecDepth 16384

noncomputable section

open Idealize.ShloMosaic Idealize.ShloMosaic.TcCoe Idealize.ShloMosaic.Tactic
open Idealize.SL.Sem

namespace Cert.Kernel6Ideal.Small

open Cert.Kernel6Ideal Cert.Kernel6Ideal.Gen

/-! ## The weight's rows, piece by piece -/

/-- The padding is zero. -/
theorem padding_eq : (FloatOps.sitofp FTy.f32 0#32 : Ideal .f32) = (0 : EReal) := by
  show (((0#32 : BitVec 32).toInt : ℝ) : EReal) = 0
  simp

theorem entry (w : Vec Ideal S4096x15856 .f32) (k : Fin 4096) (a b : Nat) {ha : a < 15856} {hb : b < 15856} (h : a = b) :
    w (ix2 k ⟨a, ha⟩) = w (ix2 k ⟨b, hb⟩) := by subst h; rfl

variable (w : Vec Ideal S4096x15856 .f32) (k : Fin 4096)

theorem weight_q (r : Fin 1024) : weight w (ix2 ⟨r.val, by omega⟩ k) = w (ix2 k ⟨6160 + r.val, by omega⟩) := by
  pointwise [weight]

theorem weight_kv (r : Fin 256) : weight w (ix2 ⟨1024 + r.val, by omega⟩ k) = w (ix2 k ⟨7184 + r.val, by omega⟩) := by
  pointwise [weight]

theorem weight_index (r : Fin 128) : weight w (ix2 ⟨1280 + r.val, by omega⟩ k) = w (ix2 k ⟨7504 + r.val, by omega⟩) := by
  pointwise [weight]
  refine (dif_neg (by omega)).trans ?_
  refine (dif_neg (by omega)).trans ?_
  refine (dif_pos (by omega)).trans ?_
  exact entry w k _ _ (by omega)

theorem weight_rope (r : Fin 64) : weight w (ix2 ⟨1408 + r.val, by omega⟩ k) = w (ix2 k ⟨7440 + r.val, by omega⟩) := by
  pointwise [weight]
  refine (dif_neg (by omega)).trans ?_
  refine (dif_neg (by omega)).trans ?_
  refine (dif_neg (by omega)).trans ?_
  refine (dif_pos (by omega)).trans ?_
  refine (dif_pos (by omega)).trans ?_
  exact entry w k _ _ (by omega)

theorem weight_rope_pad (r : Fin 64) : weight w (ix2 ⟨1472 + r.val, by omega⟩ k) = (0 : EReal) := by
  pointwise [weight]
  refine (dif_neg (by omega)).trans ?_
  refine (dif_neg (by omega)).trans ?_
  refine (dif_neg (by omega)).trans ?_
  refine (dif_pos (by omega)).trans ?_
  refine (dif_neg (by omega)).trans ?_
  exact padding_eq

theorem weight_forget (r : Fin 16) : weight w (ix2 ⟨1536 + r.val, by omega⟩ k) = w (ix2 k ⟨6144 + r.val, by omega⟩) := by
  pointwise [weight]
  refine (dif_neg (by omega)).trans ?_
  refine (dif_neg (by omega)).trans ?_
  refine (dif_neg (by omega)).trans ?_
  refine (dif_neg (by omega)).trans ?_
  refine (dif_pos (by omega)).trans ?_
  refine (dif_pos (by omega)).trans ?_
  exact entry w k _ _ (by omega)

theorem weight_forget_pad (r : Fin 112) : weight w (ix2 ⟨1552 + r.val, by omega⟩ k) = (0 : EReal) := by
  pointwise [weight]
  refine (dif_neg (by omega)).trans ?_
  refine (dif_neg (by omega)).trans ?_
  refine (dif_neg (by omega)).trans ?_
  refine (dif_neg (by omega)).trans ?_
  refine (dif_pos (by omega)).trans ?_
  refine (dif_neg (by omega)).trans ?_
  exact padding_eq

theorem weight_gain (r : Fin 32) : weight w (ix2 ⟨1664 + r.val, by omega⟩ k) = w (ix2 k ⟨7632 + r.val, by omega⟩) := by
  pointwise [weight]
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact entry w k _ _ (by omega)

theorem weight_gain_pad (r : Fin 96) : weight w (ix2 ⟨1696 + r.val, by omega⟩ k) = (0 : EReal) := by
  pointwise [weight]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  exact padding_eq

end Cert.Kernel6Ideal.Small

namespace Cert.Reference6Ideal.Small

open Cert.Reference6Ideal Cert.Reference6Ideal.Gen

/-! ## The reference's columns, piece by piece -/

/-- The product with columns 6144 … 7663 of the fused weight. -/
def product (a : Vec Ideal S8192x4096 .bf16) (w : Vec Ideal S4096x15856 .f32) : Vec Ideal S8192x1520 .f32 :=
  Host.dotGeneral (F := Ideal) dot_S8192x4096_S4096x1520_S8192x1520_1_0_0_1_n_n none
    (extf .f32 a bitsLt_bf16_f32 : FVec Ideal S8192x4096 .f32)
    (extractStridedSlice S4096x1520 ![0, 6144] w slices_S4096x15856_S4096x1520_0_6144 : FVec Ideal S4096x1520 .f32)

theorem product_apply (a : Vec Ideal S8192x4096 .bf16) (w : Vec Ideal S4096x15856 .f32) (i : Fin 8192) (j : Fin 1520) :
    product a w (ix2 i j) = (∑ k : Fin 4096, a (ix2 i k) * w (ix2 k ⟨6144 + j.val, by omega⟩) : EReal) := by
  pointwise [product]

/-- Its pieces in their new order, zeros between them. -/
def arranged (p : Vec Ideal S8192x1520 .f32) : Vec Ideal S8192x1792 .f32 :=
  concatenate S8192x1792 1
    [⟨S8192x1024, extractStridedSlice S8192x1024 ![0, 16] p slices_S8192x1520_S8192x1024_0_16⟩,
      ⟨S8192x256, extractStridedSlice S8192x256 ![0, 1040] p slices_S8192x1520_S8192x256_0_1040⟩,
      ⟨S8192x128, extractStridedSlice S8192x128 ![0, 1360] p slices_S8192x1520_S8192x128_0_1360⟩,
      ⟨S8192x64, extractStridedSlice S8192x64 ![0, 1296] p slices_S8192x1520_S8192x64_0_1296⟩,
      ⟨S8192x64, broadcastInDim S8192x64 ![] bcast_S_S8192x64 (constant (F := Ideal) S_ .f32 0x00000000#32)⟩,
      ⟨S8192x16, extractStridedSlice S8192x16 ![0, 0] p slices_S8192x1520_S8192x16_0_0⟩,
      ⟨S8192x112, broadcastInDim S8192x112 ![] bcast_S_S8192x112 (constant (F := Ideal) S_ .f32 0x00000000#32)⟩,
      ⟨S8192x32, extractStridedSlice S8192x32 ![0, 1488] p slices_S8192x1520_S8192x32_0_1488⟩,
      ⟨S8192x96, broadcastInDim S8192x96 ![] bcast_S_S8192x96 (constant (F := Ideal) S_ .f32 0x00000000#32)⟩]
    concatenates_S8192x1024_S8192x256_S8192x128_S8192x64_S8192x64_S8192x16_S8192x112_S8192x32_S8192x96_S8192x1792_d1

theorem entry (p : Vec Ideal S8192x1520 .f32) (i : Fin 8192) (a b : Nat) {ha : a < 1520} {hb : b < 1520} (h : a = b) :
    p (ix2 i ⟨a, ha⟩) = p (ix2 i ⟨b, hb⟩) := by subst h; rfl

variable (p : Vec Ideal S8192x1520 .f32) (i : Fin 8192)

theorem arranged_q (r : Fin 1024) : arranged p (ix2 i ⟨r.val, by omega⟩) = p (ix2 i ⟨16 + r.val, by omega⟩) := by
  pointwise [arranged]

theorem arranged_kv (r : Fin 256) : arranged p (ix2 i ⟨1024 + r.val, by omega⟩) = p (ix2 i ⟨1040 + r.val, by omega⟩) := by
  pointwise [arranged]

theorem arranged_index (r : Fin 128) : arranged p (ix2 i ⟨1280 + r.val, by omega⟩) = p (ix2 i ⟨1360 + r.val, by omega⟩) := by
  pointwise [arranged]
  refine (dif_neg (by omega)).trans ?_
  refine (dif_neg (by omega)).trans ?_
  refine (dif_pos (by omega)).trans ?_
  exact entry p i _ _ (by omega)

theorem arranged_rope (r : Fin 64) : arranged p (ix2 i ⟨1408 + r.val, by omega⟩) = p (ix2 i ⟨1296 + r.val, by omega⟩) := by
  pointwise [arranged]
  refine (dif_neg (by omega)).trans ?_
  refine (dif_neg (by omega)).trans ?_
  refine (dif_neg (by omega)).trans ?_
  refine (dif_pos (by omega)).trans ?_
  exact entry p i _ _ (by omega)

theorem arranged_rope_pad (r : Fin 64) : arranged p (ix2 i ⟨1472 + r.val, by omega⟩) = (0 : EReal) := by
  pointwise [arranged]
  refine (dif_neg (by omega)).trans ?_
  refine (dif_neg (by omega)).trans ?_
  refine (dif_neg (by omega)).trans ?_
  refine (dif_neg (by omega)).trans ?_
  refine (dif_pos (by omega)).trans ?_
  rfl

theorem arranged_forget (r : Fin 16) : arranged p (ix2 i ⟨1536 + r.val, by omega⟩) = p (ix2 i ⟨r.val, by omega⟩) := by
  pointwise [arranged]
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact entry p i _ _ (by omega)

theorem arranged_forget_pad (r : Fin 112) : arranged p (ix2 i ⟨1552 + r.val, by omega⟩) = (0 : EReal) := by
  pointwise [arranged]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  rfl

theorem arranged_gain (r : Fin 32) : arranged p (ix2 i ⟨1664 + r.val, by omega⟩) = p (ix2 i ⟨1488 + r.val, by omega⟩) := by
  pointwise [arranged]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact entry p i _ _ (by omega)

theorem arranged_gain_pad (r : Fin 96) : arranged p (ix2 i ⟨1696 + r.val, by omega⟩) = (0 : EReal) := by
  pointwise [arranged]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  rfl

end Cert.Reference6Ideal.Small

namespace Cert.Proof.Small

/-! ## They agree -/

open Cert.Kernel6Ideal.Small Cert.Reference6Ideal.Small

variable (a : Vec Ideal Cert.Kernel6Ideal.S8192x4096 .bf16) (w : Vec Ideal Cert.Kernel6Ideal.S4096x15856 .f32) (i : Fin 8192)

theorem piece {j : Fin 1792} {q : Fin 1520} {s : Fin 15856} (hp : arranged (product a w) (ix2 i j) = product a w (ix2 i q))
    (hw : ∀ k, weight w (ix2 j k) = w (ix2 k s)) (h : 6144 + q.val = s.val) :
    arranged (product a w) (ix2 i j) = projected a w (ix2 i j) := by
  refine (hp.trans (product_apply a w i q)).trans ?_
  show _ = (∑ k : Fin 4096, a (ix2 i k) * weight w (ix2 j k) : EReal)
  refine Finset.sum_congr rfl fun k _ => ?_
  rw [hw k]
  exact congrArg (fun v : EReal => (a (ix2 i k) * v : EReal)) (Cert.Kernel6Ideal.Small.entry w k _ _ h)

theorem gap {j : Fin 1792} (hp : arranged (product a w) (ix2 i j) = (0 : EReal)) (hw : ∀ k, weight w (ix2 j k) = (0 : EReal)) :
    arranged (product a w) (ix2 i j) = projected a w (ix2 i j) := by
  refine hp.trans ?_
  show _ = (∑ k : Fin 4096, a (ix2 i k) * weight w (ix2 j k) : EReal)
  refine (Finset.sum_eq_zero fun k _ => ?_).symm
  rw [hw k]
  exact mul_zero _

/-- The reference's rearranged product is the product with the rearranged weight. -/
theorem agree (j : Fin 1792) : arranged (product a w) (ix2 i j) = projected a w (ix2 i j) := by
  obtain ⟨j, hj⟩ := j
  by_cases h : j < 1024
  · exact piece a w i (arranged_q _ i ⟨j, h⟩) (fun k => weight_q w k ⟨j, h⟩) (show 6144 + (16 + j) = 6160 + j by omega)
  by_cases h : j < 1280
  · obtain ⟨r, rfl⟩ : ∃ r, j = 1024 + r := ⟨j - 1024, by omega⟩
    have hr : r < 256 := by omega
    exact piece a w i (arranged_kv _ i ⟨r, hr⟩) (fun k => weight_kv w k ⟨r, hr⟩) (show 6144 + (1040 + r) = 7184 + r by omega)
  by_cases h : j < 1408
  · obtain ⟨r, rfl⟩ : ∃ r, j = 1280 + r := ⟨j - 1280, by omega⟩
    have hr : r < 128 := by omega
    exact piece a w i (arranged_index _ i ⟨r, hr⟩) (fun k => weight_index w k ⟨r, hr⟩) (show 6144 + (1360 + r) = 7504 + r by omega)
  by_cases h : j < 1472
  · obtain ⟨r, rfl⟩ : ∃ r, j = 1408 + r := ⟨j - 1408, by omega⟩
    have hr : r < 64 := by omega
    exact piece a w i (arranged_rope _ i ⟨r, hr⟩) (fun k => weight_rope w k ⟨r, hr⟩) (show 6144 + (1296 + r) = 7440 + r by omega)
  by_cases h : j < 1536
  · obtain ⟨r, rfl⟩ : ∃ r, j = 1472 + r := ⟨j - 1472, by omega⟩
    have hr : r < 64 := by omega
    exact gap a w i (arranged_rope_pad _ i ⟨r, hr⟩) (fun k => weight_rope_pad w k ⟨r, hr⟩)
  by_cases h : j < 1552
  · obtain ⟨r, rfl⟩ : ∃ r, j = 1536 + r := ⟨j - 1536, by omega⟩
    have hr : r < 16 := by omega
    exact piece a w i (arranged_forget _ i ⟨r, hr⟩) (fun k => weight_forget w k ⟨r, hr⟩) (rfl)
  by_cases h : j < 1664
  · obtain ⟨r, rfl⟩ : ∃ r, j = 1552 + r := ⟨j - 1552, by omega⟩
    have hr : r < 112 := by omega
    exact gap a w i (arranged_forget_pad _ i ⟨r, hr⟩) (fun k => weight_forget_pad w k ⟨r, hr⟩)
  by_cases h : j < 1696
  · obtain ⟨r, rfl⟩ : ∃ r, j = 1664 + r := ⟨j - 1664, by omega⟩
    have hr : r < 32 := by omega
    exact piece a w i (arranged_gain _ i ⟨r, hr⟩) (fun k => weight_gain w k ⟨r, hr⟩) (show 6144 + (1488 + r) = 7632 + r by omega)
  obtain ⟨r, rfl⟩ : ∃ r, j = 1696 + r := ⟨j - 1696, by omega⟩
  have hr : r < 96 := by omega
  exact gap a w i (arranged_gain_pad _ i ⟨r, hr⟩) (fun k => weight_gain_pad w k ⟨r, hr⟩)

end Cert.Proof.Small

end
-- ==== Proof.IndexRun.lean ====
/-
  The body of the projection to the index queries (eight heads of it, turned by the rotary tables), run once, and the launch that
  repeats it.
-/
module

public import proofs.«01_k».proof.Proof.Gen.Kernel7Ideal.Frame.Runs
public import Idealize.ShloMosaic.Lib.VecWindow
public import Idealize.ShloMosaic.Lib.Claim
public import Idealize.ShloMosaic.Lib.Pointwise

@[expose] public section

set_option maxRecDepth 16384

noncomputable section

namespace Cert.Kernel7Ideal.IndexQ

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The eight heads of a result block -/

/-- The block of one head: 128 columns of the product, plus themselves turned by half against the second table. -/
def head (o : Fin 2 → ℕ) (hs : S1024x1024.Slices o S1024x128) (p : FVec F S1024x1024 .f32) (cs sn : Vec F S1024x128 .f32) :
    FVec F S1x1x1024x128 .bf16 :=
  k0_pay1 (extractStridedSlice S1024x128 o p hs) cs sn

/-- The heads, in order. -/
def headAt (p : FVec F S1024x1024 .f32) (cs sn : Vec F S1024x128 .f32) : Fin 8 → FVec F S1x1x1024x128 .bf16 :=
  ![head ![0, 0] slices_S1024x1024_o0_0_S1024x128 p cs sn, head ![0, 128] slices_S1024x1024_o0_128_S1024x128 p cs sn,
    head ![0, 256] slices_S1024x1024_o0_256_S1024x128 p cs sn, head ![0, 384] slices_S1024x1024_o0_384_S1024x128 p cs sn,
    head ![0, 512] slices_S1024x1024_o0_512_S1024x128 p cs sn, head ![0, 640] slices_S1024x1024_o0_640_S1024x128 p cs sn,
    head ![0, 768] slices_S1024x1024_o0_768_S1024x128 p cs sn, head ![0, 896] slices_S1024x1024_o0_896_S1024x128 p cs sn]

theorem pay_0 (a w : Vec F S1024x1024 .bf16) (cs sn : Vec F S1024x128 .f32) : k0_pay4 a w cs sn = headAt (k0_pay3 a w) cs sn 0 := rfl
theorem pay_1 (a w : Vec F S1024x1024 .bf16) (cs sn : Vec F S1024x128 .f32) :
    k0_pay6 (k0_pay5 a w cs sn) = headAt (k0_pay3 a w) cs sn 1 := rfl

section
variable (p : FVec F S1024x1024 .f32) (cs sn : Vec F S1024x128 .f32)

theorem pay_2 : k0_pay7 p cs sn = headAt p cs sn 2 := rfl
theorem pay_3 : k0_pay8 p cs sn = headAt p cs sn 3 := rfl
theorem pay_4 : k0_pay13 (k0_pay10 p cs) (k0_pay11 p) (k0_pay12 sn) = headAt p cs sn 4 := rfl
theorem pay_5 : k0_pay14 p cs sn = headAt p cs sn 5 := rfl
theorem pay_6 : k0_pay15 p cs sn = headAt p cs sn 6 := rfl
theorem pay_7 : k0_pay1 (k0_pay16 p) cs sn = headAt p cs sn 7 := rfl

end

/-- The whole block. -/
def heads (p : FVec F S1024x1024 .f32) (cs sn : Vec F S1024x128 .f32) : Vec F S1x8x1024x128 .bf16 := fun y =>
  headAt p cs sn (y 1) (ix4 0 0 (y 2) (y 3))

/-- A store of head `k` puts what the whole block has there. -/
theorem heads_piece (p : FVec F S1024x1024 .f32) (cs sn : Vec F S1024x128 .f32) (k : Fin 8)
    (inb : ∀ a, (![0, k.val, 0, 0] : Fin 4 → ℕ) a + S1x1x1024x128.size a ≤ S1x8x1024x128.size a)
    (w : FVec F S1x1x1024x128 .bf16) (hw : w = headAt p cs sn k) (x : S1x1x1024x128.Idx) :
    w x = heads p cs sn ((Rect.unit (s := S1x8x1024x128) ![0, k.val, 0, 0] S1x1x1024x128.size inb).emb x) := by
  subst hw
  have h0 : (x 0).val < 1 := (x 0).isLt
  have h1 : (x 1).val < 1 := (x 1).isLt
  unfold heads
  have e : ((Rect.unit (s := S1x8x1024x128) ![0, k.val, 0, 0] S1x1x1024x128.size inb).emb x 1 : Fin 8) = k := by
    apply Fin.ext; show k.val + 1 * (x 1).val = k.val; omega
  rw [e]
  congr 1
  funext a; apply Fin.ext
  match a with
  | 0 => show (x 0).val = 0; omega
  | 1 => show (x 1).val = 0; omega
  | 2 => show (x 2).val = 0 + 1 * (x 2).val; omega
  | 3 => show (x 3).val = 0 + 1 * (x 3).val; omega

/-- Where head `k` lies in the block. -/
theorem heads_mem (k : Fin 8) (inb : ∀ a, (![0, k.val, 0, 0] : Fin 4 → ℕ) a + S1x1x1024x128.size a ≤ S1x8x1024x128.size a)
    (y : S1x8x1024x128.Idx) (h : (y 1).val = k.val) :
    y ∈ (Rect.unit (s := S1x8x1024x128) ![0, k.val, 0, 0] S1x1x1024x128.size inb).set := by
  rw [Rect.mem_set_unit]
  have h0 : (y 0).val < 1 := (y 0).isLt
  have h2 : (y 2).val < 1024 := (y 2).isLt
  have h3 : (y 3).val < 128 := (y 3).isLt
  intro a
  match a with
  | 0 => show 0 ≤ (y 0).val ∧ (y 0).val < 0 + 1; omega
  | 1 => show k.val ≤ (y 1).val ∧ (y 1).val < k.val + 1; omega
  | 2 => show 0 ≤ (y 2).val ∧ (y 2).val < 0 + 1024; omega
  | 3 => show 0 ≤ (y 3).val ∧ (y 3).val < 0 + 128; omega

/-- Eight stores, one head each, leave the whole block. -/
theorem read_heads {κ : Kind} {sp : Space} (v : View sig κ sp S1x8x1024x128 .bf16) (f : v.ty.Contents (Elt F))
    (p : FVec F S1024x1024 .f32) (cs sn : Vec F S1024x128 .f32)
    {w0 w1 w2 w3 w4 w5 w6 w7 : FVec F S1x1x1024x128 .bf16} (h0 : w0 = headAt p cs sn 0) (h1 : w1 = headAt p cs sn 1)
    (h2 : w2 = headAt p cs sn 2) (h3 : w3 = headAt p cs sn 3) (h4 : w4 = headAt p cs sn 4) (h5 : w5 = headAt p cs sn 5)
    (h6 : w6 = headAt p cs sn 6) (h7 : w7 = headAt p cs sn 7) :
    v.read (Elt F) (v.writes (Elt F) f
      [⟨Rect.unit ![0, 7, 0, 0] S1x1x1024x128.size inb_S1x8x1024x128_S1x1x1024x128_0_7_0_0, w7⟩,
       ⟨Rect.unit ![0, 6, 0, 0] S1x1x1024x128.size inb_S1x8x1024x128_S1x1x1024x128_0_6_0_0, w6⟩,
       ⟨Rect.unit ![0, 5, 0, 0] S1x1x1024x128.size inb_S1x8x1024x128_S1x1x1024x128_0_5_0_0, w5⟩,
       ⟨Rect.unit ![0, 4, 0, 0] S1x1x1024x128.size inb_S1x8x1024x128_S1x1x1024x128_0_4_0_0, w4⟩,
       ⟨Rect.unit ![0, 3, 0, 0] S1x1x1024x128.size inb_S1x8x1024x128_S1x1x1024x128_0_3_0_0, w3⟩,
       ⟨Rect.unit ![0, 2, 0, 0] S1x1x1024x128.size inb_S1x8x1024x128_S1x1x1024x128_0_2_0_0, w2⟩,
       ⟨Rect.unit ![0, 1, 0, 0] S1x1x1024x128.size inb_S1x8x1024x128_S1x1x1024x128_0_1_0_0, w1⟩,
       ⟨Rect.unit ![0, 0, 0, 0] S1x1x1024x128.size inb_S1x8x1024x128_S1x1x1024x128_0_0_0_0, w0⟩]) = heads p cs sn := by
  funext y
  refine View.read_writes_apply_of_pieces v f (heads p cs sn) _ ?_ y ?_
  · intro q hq x
    simp only [List.mem_cons, List.not_mem_nil, _root_.or_false] at hq
    rcases hq with rfl | rfl | rfl | rfl | rfl | rfl | rfl | rfl
    · exact heads_piece p cs sn 7 inb_S1x8x1024x128_S1x1x1024x128_0_7_0_0 _ h7 x
    · exact heads_piece p cs sn 6 inb_S1x8x1024x128_S1x1x1024x128_0_6_0_0 _ h6 x
    · exact heads_piece p cs sn 5 inb_S1x8x1024x128_S1x1x1024x128_0_5_0_0 _ h5 x
    · exact heads_piece p cs sn 4 inb_S1x8x1024x128_S1x1x1024x128_0_4_0_0 _ h4 x
    · exact heads_piece p cs sn 3 inb_S1x8x1024x128_S1x1x1024x128_0_3_0_0 _ h3 x
    · exact heads_piece p cs sn 2 inb_S1x8x1024x128_S1x1x1024x128_0_2_0_0 _ h2 x
    · exact heads_piece p cs sn 1 inb_S1x8x1024x128_S1x1x1024x128_0_1_0_0 _ h1 x
    · exact heads_piece p cs sn 0 inb_S1x8x1024x128_S1x1x1024x128_0_0_0_0 _ h0 x
  · have hy : (y 1).val < 8 := (y 1).isLt
    have hk : (y 1).val = 7 ∨ (y 1).val = 6 ∨ (y 1).val = 5 ∨ (y 1).val = 4 ∨ (y 1).val = 3 ∨ (y 1).val = 2 ∨ (y 1).val = 1
        ∨ (y 1).val = 0 := by omega
    simp only [List.mem_cons, List.not_mem_nil, _root_.or_false, exists_eq_or_imp, exists_eq_left]
    rcases hk with h | h | h | h | h | h | h | h
    · exact .inl (heads_mem 7 inb_S1x8x1024x128_S1x1x1024x128_0_7_0_0 y h)
    · exact .inr (.inl (heads_mem 6 inb_S1x8x1024x128_S1x1x1024x128_0_6_0_0 y h))
    · exact .inr (.inr (.inl (heads_mem 5 inb_S1x8x1024x128_S1x1x1024x128_0_5_0_0 y h)))
    · exact .inr (.inr (.inr (.inl (heads_mem 4 inb_S1x8x1024x128_S1x1x1024x128_0_4_0_0 y h))))
    · exact .inr (.inr (.inr (.inr (.inl (heads_mem 3 inb_S1x8x1024x128_S1x1x1024x128_0_3_0_0 y h)))))
    · exact .inr (.inr (.inr (.inr (.inr (.inl (heads_mem 2 inb_S1x8x1024x128_S1x1x1024x128_0_2_0_0 y h))))))
    · exact .inr (.inr (.inr (.inr (.inr (.inr (.inl (heads_mem 1 inb_S1x8x1024x128_S1x1x1024x128_0_1_0_0 y h)))))))
    · exact .inr (.inr (.inr (.inr (.inr (.inr (.inr (heads_mem 0 inb_S1x8x1024x128_S1x1x1024x128_0_0_0_0 y h)))))))

set_option maxHeartbeats 800000 in
/-- The first point of a column sweep: the weight block is rounded into the scratch buffer and used from there. -/
theorem body_first (c : Dev nD) (i : grid0.Coords) (b0 : Memref sig .tc .vmem S1024x1024 .bf16) (w0 : b0.IsWhole)
    (b1 : Memref sig .tc .vmem S1024x1024 .f32) (w1 : b1.IsWhole) (b2 : Memref sig .tc .vmem S1024x128 .f32) (w2 : b2.IsWhole)
    (b3 : Memref sig .tc .vmem S1024x128 .f32) (w3 : b3.IsWhole) (b4 : Memref sig .tc .vmem S1x8x1024x128 .bf16) (w4 : b4.IsWhole)
    (s0 : Memref sig .tc .vmem S1024x1024 .bf16) (u0 : s0.IsWhole)
    (hc : cond0_0 i)
    (x0 : Vec F S1024x1024 .bf16) (x1 : Vec F S1024x1024 .f32) (x2 x3 : Vec F S1024x128 .f32)
    (E : Set ℕ) (K : PUnit → sProp 𝕄) :
    iprop(owns (c : Thread nD τ) b0 fullShare x0 ∗ owns (c : Thread nD τ) b1 fullShare x1
        ∗ owns (c : Thread nD τ) b2 fullShare x2 ∗ owns (c : Thread nD τ) b3 fullShare x3
        ∗ (∃ d, owns (c : Thread nD τ) b4 fullShare d) ∗ (∃ d, owns (c : Thread nD τ) s0 fullShare d)
        ∗ (iprop(owns (c : Thread nD τ) b0 fullShare x0 ∗ owns (c : Thread nD τ) b1 fullShare x1
            ∗ owns (c : Thread nD τ) b2 fullShare x2 ∗ owns (c : Thread nD τ) b3 fullShare x3
            ∗ owns (c : Thread nD τ) b4 fullShare (heads (k0_pay3 x0 (k0_pay2 x1)) x2 x3)
            ∗ owns (c : Thread nD τ) s0 fullShare (k0_pay2 x1)) -∗ K ⟨⟩))
      ⊢ wp frame (wpE (defs₀ (F := F)) Variants.none c none) E (cc0_proj_q_idx i b0 w0 b1 w1 b2 w2 b3 w3 b4 w4 s0 u0) K := by
  simp only [cc0_proj_q_idx_eq_skeleton]; unfold cc0_proj_q_idx_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%d4, %f4, -, H4⟩, ⟨%e0, %g0, -, S0⟩, Hk⟩
  obtain rfl := w0.eq_unread hf0; obtain rfl := w1.eq_unread hf1; obtain rfl := w2.eq_unread hf2; obtain rfl := w3.eq_unread hf3
  sl_exec (disch := first | sl_exact hc)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro
    unfold body_first.sl.v4 body_first.sl.S0_1
    rw [View.readCov_full s0.view]
    rw [View.readAt_full b0.view, View.readAt_full b1.view, View.readAt_full b2.view, View.readAt_full b3.view, hf0, hf1, hf2, hf3]
    refine read_heads b4.view f4 (k0_pay3 x0 (k0_pay2 x1)) x2 x3 ?_ ?_ ?_ ?_ ?_ ?_ ?_ ?_
    · exact pay_0 _ _ _ _
    · exact pay_1 _ _ _ _
    · exact pay_2 _ _ _
    · exact pay_3 _ _ _
    · exact pay_4 _ _ _
    · exact pay_5 _ _ _
    · exact pay_6 _ _ _
    · exact pay_7 _ _ _
  iexists _; isplitr; swap; · iexact S0
  ipureintro
  unfold body_first.sl.S0_1; rw [View.read_writes_full, View.readAt_full, hf1]

set_option maxHeartbeats 800000 in
/-- A later point of a column sweep: the scratch buffer is read as the point before left it. -/
theorem body_next (c : Dev nD) (i : grid0.Coords) (b0 : Memref sig .tc .vmem S1024x1024 .bf16) (w0 : b0.IsWhole)
    (b1 : Memref sig .tc .vmem S1024x1024 .f32) (w1 : b1.IsWhole) (b2 : Memref sig .tc .vmem S1024x128 .f32) (w2 : b2.IsWhole)
    (b3 : Memref sig .tc .vmem S1024x128 .f32) (w3 : b3.IsWhole) (b4 : Memref sig .tc .vmem S1x8x1024x128 .bf16) (w4 : b4.IsWhole)
    (s0 : Memref sig .tc .vmem S1024x1024 .bf16) (u0 : s0.IsWhole)
    (hc : ¬cond0_0 i)
    (x0 : Vec F S1024x1024 .bf16) (x1 : Vec F S1024x1024 .f32) (x2 x3 : Vec F S1024x128 .f32) (y0 : Vec F S1024x1024 .bf16)
    (E : Set ℕ) (K : PUnit → sProp 𝕄) :
    iprop(owns (c : Thread nD τ) b0 fullShare x0 ∗ owns (c : Thread nD τ) b1 fullShare x1
        ∗ owns (c : Thread nD τ) b2 fullShare x2 ∗ owns (c : Thread nD τ) b3 fullShare x3
        ∗ (∃ d, owns (c : Thread nD τ) b4 fullShare d) ∗ owns (c : Thread nD τ) s0 fullShare y0
        ∗ (iprop(owns (c : Thread nD τ) b0 fullShare x0 ∗ owns (c : Thread nD τ) b1 fullShare x1
            ∗ owns (c : Thread nD τ) b2 fullShare x2 ∗ owns (c : Thread nD τ) b3 fullShare x3
            ∗ owns (c : Thread nD τ) b4 fullShare (heads (k0_pay3 x0 y0) x2 x3)
            ∗ owns (c : Thread nD τ) s0 fullShare y0) -∗ K ⟨⟩))
      ⊢ wp frame (wpE (defs₀ (F := F)) Variants.none c none) E (cc0_proj_q_idx i b0 w0 b1 w1 b2 w2 b3 w3 b4 w4 s0 u0) K := by
  simp only [cc0_proj_q_idx_eq_skeleton]; unfold cc0_proj_q_idx_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%d4, %f4, -, H4⟩, ⟨%g0, %hg0, S0⟩, Hk⟩
  obtain rfl := w0.eq_unread hf0; obtain rfl := w1.eq_unread hf1; obtain rfl := w2.eq_unread hf2; obtain rfl := w3.eq_unread hf3
  obtain rfl := u0.eq_unread hg0
  sl_exec (disch := first | sl_exact hc)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro
    rw [View.readAt_full s0.view, hg0]
    rw [View.readAt_full b0.view, View.readAt_full b2.view, View.readAt_full b3.view, hf0, hf2, hf3]
    refine read_heads b4.view f4 (k0_pay3 x0 y0) x2 x3 ?_ ?_ ?_ ?_ ?_ ?_ ?_ ?_
    · exact pay_0 _ _ _ _
    · exact pay_1 _ _ _ _
    · exact pay_2 _ _ _
    · exact pay_3 _ _ _
    · exact pay_4 _ _ _
    · exact pay_5 _ _ _
    · exact pay_6 _ _ _
    · exact pay_7 _ _ _
  iexists _; isplitr; swap; · iexact S0
  ipureintro
  exact hg0

/-! ## The proof data -/

variable (m : (ℓ : Loc nD τ sig) → Buf (Elt F) ℓ) (ρ : Dev nD → PrngReg)

/-- The result tile of point `t`. -/
def tile (c : Dev nD) (t : Fin cfg0.N) : Vec F S1x8x1024x128 .bf16 :=
  heads (k0_pay3 (iblk m c 0 t) (k0_pay2 (iblk m c 1 t))) (iblk m c 2 t) (iblk m c 3 t)

/-- The scratch buffer holds the rounded weight block of point `t`. -/
def held (c : Dev nD) (t : Fin cfg0.N) : sProp 𝕄 :=
  iprop(iprop(owns (c : Thread nD τ) scM0_0 fullShare (k0_pay2 (iblk m c 1 t))) ∗ (∃ r, prngReg c r))

/-- At the start the scratch holds anything, after point `n` the weight block of point `n`. -/
def between (c : Dev nD) : (n : ℕ) → n ≤ cfg0.N → sProp 𝕄
  | 0, _ => Pipeline.ΦA spec0 c
  | n + 1, h => held m c ⟨n, h⟩

theorem between_pos (c : Dev nD) (n : ℕ) (h : n ≤ cfg0.N) (hz : n ≠ 0) : between m c n h = held m c ⟨n - 1, by omega⟩ := by
  cases n with
  | zero => exact absurd rfl hz
  | succ n => rfl

theorem held_forget (c : Dev nD) (t : Fin cfg0.N) : held m c t ⊢ Pipeline.ΦA spec0 c := by
  rw [PhiA0_eq]
  unfold held
  iintro ⟨S0, Hg⟩
  isplitl [S0]
  · iexists _; iexact S0
  iexact Hg

theorem between_forget (c : Dev nD) (n : ℕ) (h : n ≤ cfg0.N) : between m c n h ⊢ Pipeline.ΦA spec0 c := by
  cases n with
  | zero => exact Idealize.SL.BI.Entails.refl _
  | succ n => exact held_forget m c ⟨n, h⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tile m c t
  Φ t := between m c t.val (Nat.le_of_lt_succ t.isLt)
  q _ := fullShare
  owed _ := 0

theorem dats_A (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = tile m c t := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d

/-- The point before `t`. -/
abbrev prev (t : Fin cfg0.N) : Fin cfg0.N := ⟨t.val - 1, Nat.lt_of_le_of_lt (Nat.sub_le _ _) t.isLt⟩

/-- A weight block not fetched anew is the block of the point before. -/
theorem weights_1 (c : Dev nD) (t : Fin cfg0.N) (h : ¬t.val % 8 = 0) : iblk m c 1 t = iblk m c 1 (prev t) :=
  (dats m 0 c).fetched_congr 1 (Pipeline.Window.index_eq_of_fetch win0_1 rfl t (Bool.eq_false_iff.mpr fun e => h ((fetch0_1 t).mp e))).2 rfl
    (iblk m c 1 t)

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl, after_0, after_1, after_2, after_3, after_4,
    show (dats m 0 c).Φ t.succ = held m c t from rfl,
    show (dats m 0 c).Φ t.castSucc = between m c t.val (Nat.le_of_lt t.isLt) from rfl]
  by_cases h0 : t.val % 8 = 0
  · refine (sep_mono_left (between_forget m c _ _)).trans ?_
    rw [PhiA0_eq]
    unfold held tile
    iintro ⟨⟨S0, Hg⟩, Ho, ⟨%d0, H0⟩, ⟨%d1, H1⟩, ⟨%d2, H2⟩, ⟨%d3, H3⟩, ⟨%d4, H4⟩⟩
    iapply (body_first c (grid0.coords t) _ _ _ _ _ _ _ _ _ _ _ _ ((hcond0_0 t).mpr h0) (iblk m c 0 t) (iblk m c 1 t)
      (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [S0]; · iexact S0
    iintro ⟨H0, H1, H2, H3, H4, S0⟩
    isplitl [S0 Hg]
    · isplitl [S0]; · iexact S0
      iexact Hg
    isplitl [Ho]; · iexact Ho
    isplitl [H0]; · iexact H0
    isplitl [H1]; · iexact H1
    isplitl [H2]; · iexact H2
    isplitl [H3]; · iexact H3
    iexact H4
  · have hz : t.val ≠ 0 := fun e => h0 (by rw [e])
    rw [between_pos m c _ _ hz, show (⟨t.val - 1, _⟩ : Fin cfg0.N) = prev t from rfl]
    unfold held tile
    rw [weights_1 m c t h0]
    iintro ⟨⟨S0, Hg⟩, Ho, ⟨%d0, H0⟩, ⟨%d1, H1⟩, ⟨%d2, H2⟩, ⟨%d3, H3⟩, ⟨%d4, H4⟩⟩
    iapply (body_next c (grid0.coords t) _ _ _ _ _ _ _ _ _ _ _ _ (fun h => h0 ((hcond0_0 t).mp h)) (iblk m c 0 t) (iblk m c 1 (prev t))
      (iblk m c 2 t) (iblk m c 3 t) _ Set.univ _)
    isplitl [H0]; · iexact H0
    isplitl [H1]; · iexact H1
    isplitl [H2]; · iexact H2
    isplitl [H3]; · iexact H3
    isplitl [H4]; · iexists _; iexact H4
    isplitl [S0]; · iexact S0
    iintro ⟨H0, H1, H2, H3, H4, S0⟩
    isplitl [S0 Hg]
    · isplitl [S0]; · iexact S0
      iexact Hg
    isplitl [Ho]; · iexact Ho
    isplitl [H0]; · iexact H0
    isplitl [H1]; · iexact H1
    isplitl [H2]; · iexact H2
    isplitl [H3]; · iexact H3
    iexact H4

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_at m c t) rfl .rfl fun _ => .rfl

/-! ## The run -/

set_option backward.isDefEq.respectTransparency.types false in
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m)
    (hin := fun c => Idealize.SL.BI.Entails.refl _) (hout := fun c => between_forget m c cfg0.N (Nat.le_refl _))

/-- Every run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (dats_A m) ((θ_run defs _ _).mono (fun _ h => h.1) (run_main m ρ)))
    ((θ_run defs _ _).mono (fun _ h => h.2) (run_main m ρ))

/-- The run with the result array named. -/
theorem run : θ_run defs (onTc (τ := τ) (main (F := F))) ⟨m, fun _ => 0, ρ⟩ fun r => ∀ c : Dev nD,
      r.2.mem ((c : Thread nD τ).loc main_v28) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h.1.1 c).1 4, h.2.1 c⟩) (θ_run_and (run_main m ρ) (frame m ρ))

end Cert.Kernel7Ideal.IndexQ

end
-- ==== Proof.IndexValue.lean ====
/-
  What the projection to the index queries computes over the extended reals.
-/
module

public import proofs.«01_k».proof.Proof.IndexRun
public import proofs.«01_k».proof.Proof.Gen.Reference7Ideal.Run
public import Idealize.ShloMosaic.Lib.Pointwise
public import Idealize.ShloMosaic.Lib.Pipeline.Value
public import Idealize.ShloMosaic.Lib.StableHlo.Run

@[expose] public section

set_option maxRecDepth 16384

noncomputable section

namespace Cert.Kernel7Ideal.IndexQ

open Cert.Kernel7Ideal Cert.Kernel7Ideal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-! ## The rotary tables -/

/-- The rotary frequencies: ten thousand to the power of minus twice the place over the width. -/
def freq : Vec Ideal S64 .f32 :=
  Host.powf (F := Ideal) (broadcastInDim S64 ![] bcast_S_S64 (constant (F := Ideal) S_ .f32 0x461C4000#32))
    (Host.divf (Host.negf (addf (broadcastInDim S64 ![] bcast_S_S64 (constant (F := Ideal) S_ .f32 0x00000000#32))
        (mulf (broadcastInDim S64 ![] bcast_S_S64 (constant (F := Ideal) S_ .f32 0x40000000#32)) (sitofp (F := Ideal) .f32 (iotaInDim S64 32 0)))))
      (broadcastInDim S64 ![] bcast_S_S64 (constant (F := Ideal) S_ .f32 0x43000000#32)))

/-- The angle of a position at a place of the first half. -/
def angle : Vec Ideal S2048x64 .f32 :=
  mulf (F := Ideal)
    (broadcastInDim S2048x64 ![0, 1] bcast_S2048x1_S2048x64_0_1
      (broadcastInDim S2048x1 ![0] bcast_S2048_S2048x1_0 (sitofp (F := Ideal) .f32 (iotaInDim S2048 32 0))))
    (broadcastInDim S2048x64 ![0, 1] bcast_S1x64_S2048x64_0_1 (broadcastInDim S1x64 ![1] bcast_S64_S1x64_1 freq))

def cosOf : Vec Ideal S2048x64 .f32 := Host.cos (F := Ideal) (φ := .f32) angle
def sinOf : Vec Ideal S2048x64 .f32 := Host.sin (F := Ideal) (φ := .f32) angle

/-- The table a half and a half make, as the call is given it. -/
def table (a b : Vec Ideal S2048x64 .f32) : Vec Ideal S2048x128 .f32 :=
  shapeCast S2048x128 (broadcastInDim S1x2048x1x128 ![0, 1, 2, 3] bcast_S1x2048x1x128_S1x2048x1x128_0_1_2_3
    (shapeCast S1x2048x1x128 (concatenate S2048x128 1 [⟨S2048x64, a⟩, ⟨S2048x64, b⟩] concatenates_S2048x64_S2048x64_S2048x128_d1)
      shapeCasts_S2048x128_S1x2048x1x128)) shapeCasts_S1x2048x1x128_S2048x128

def cosTable : Vec Ideal S2048x128 .f32 := table cosOf cosOf
def sinTable : Vec Ideal S2048x128 .f32 := table (Host.negf (F := Ideal) (φ := .f32) sinOf) sinOf

theorem table_first (a b : Vec Ideal S2048x64 .f32) (s : Fin 2048) (l : Fin 64) : table a b (ix2 s ⟨l.val, by omega⟩) = a (ix2 s l) := by
  pointwise [table]

theorem table_second (a b : Vec Ideal S2048x64 .f32) (s : Fin 2048) (l : Fin 64) :
    table a b (ix2 s ⟨64 + l.val, by omega⟩) = b (ix2 s l) := by
  pointwise [table]

theorem V_cos (c : Dev nD) : (V m c main_v22 : Vec Ideal S2048x128 .f32) = cosTable := by
  unfold V
  after_results
  rfl

theorem V_sin (c : Dev nD) : (V m c main_v27 : Vec Ideal S2048x128 .f32) = sinTable := by
  unfold V
  after_results
  rfl

/-! ## The result -/

/-- A row of the latents against a column of the weight. -/
def product (a : Vec Ideal S8192x1024 .bf16) (w : Vec Ideal S1024x4096 .f32) (r : Fin 8192) (j : Fin 4096) : EReal :=
  ∑ k : Fin 1024, a (ix2 r k) * w (ix2 k j)

/-- Each head's queries, turned by their position. -/
def turned (a : Vec Ideal S8192x1024 .bf16) (w : Vec Ideal S1024x4096 .f32) : Vec Ideal S4x32x2048x128 .bf16 := fun i =>
  (product a w ⟨(i 0).val * 2048 + (i 2).val, by have h0 : (i 0).val < 4 := (i 0).isLt; have h2 : (i 2).val < 2048 := (i 2).isLt; omega⟩
      ⟨(i 1).val * 128 + (i 3).val, by have h0 : (i 1).val < 32 := (i 1).isLt; have h2 : (i 3).val < 128 := (i 3).isLt; omega⟩
        * cosTable (ix2 (i 2) (i 3))
    + product a w ⟨(i 0).val * 2048 + (i 2).val, by have h0 : (i 0).val < 4 := (i 0).isLt; have h2 : (i 2).val < 2048 := (i 2).isLt; omega⟩
      ⟨(i 1).val * 128 + ((i 3).val + 64) % 128, by have h0 : (i 1).val < 32 := (i 1).isLt; omega⟩
        * sinTable (ix2 (i 2) (i 3)) : EReal)

/-- Point `t` is row block `t % 8` of the column sweep `t / 8`. -/
theorem at_point : ∀ t : Fin cfg0.N,
    win0_0.index t 0 = t.val % 8 ∧ win0_0.index t 1 = 0
    ∧ win0_1.index t 0 = 0 ∧ win0_1.index t 1 = t.val / 8
    ∧ win0_2.index t 0 = t.val % 2 ∧ win0_2.index t 1 = 0
    ∧ win0_3.index t 0 = t.val % 2 ∧ win0_3.index t 1 = 0
    ∧ win0_4.index t 0 = t.val % 8 / 2 ∧ win0_4.index t 1 = t.val / 8
    ∧ win0_4.index t 2 = t.val % 2 ∧ win0_4.index t 3 = 0 := by decide +kernel

theorem read_0 (c : Dev nD) (t : Fin cfg0.N) (r : Fin 1024) (k : Fin 1024) :
    (iblk m c 0 t : Vec Ideal S1024x1024 .bf16) (ix2 r k)
      = (m ((c : Thread nD τ).loc main_arg0) : Vec Ideal S8192x1024 .bf16) (ix2 ⟨t.val % 8 * 1024 + r.val, by omega⟩ k) := by
  show V m c main_arg0 (((cfg0.win 0).blk t).view.emb (ix2 r k)) = _
  rw [V_main_arg0]
  congr 1
  funext a; apply Fin.ext
  obtain ⟨h0, h1, -⟩ := at_point t
  match a with
  | 0 => show win0_0.index t 0 * 1024 + 1 * r.val = _; rw [h0]; simp
  | 1 => show win0_0.index t 1 * 1024 + 1 * k.val = _; rw [h1]; simp

theorem read_1 (c : Dev nD) (t : Fin cfg0.N) (k q : Fin 1024) :
    (iblk m c 1 t : Vec Ideal S1024x1024 .f32) (ix2 k q)
      = (m ((c : Thread nD τ).loc main_arg1) : Vec Ideal S1024x4096 .f32)
        (ix2 k ⟨t.val / 8 * 1024 + q.val, by have : t.val < 32 := t.isLt; omega⟩) := by
  show V m c main_arg1 (((cfg0.win 1).blk t).view.emb (ix2 k q)) = _
  rw [V_main_arg1]
  congr 1
  funext a; apply Fin.ext
  obtain ⟨-, -, h0, h1, -⟩ := at_point t
  match a with
  | 0 => show win0_1.index t 0 * 1024 + 1 * k.val = _; rw [h0]; simp
  | 1 => show win0_1.index t 1 * 1024 + 1 * q.val = _; rw [h1]; simp

theorem read_2 (c : Dev nD) (t : Fin cfg0.N) (r : Fin 1024) (l : Fin 128) :
    (iblk m c 2 t : Vec Ideal S1024x128 .f32) (ix2 r l) = cosTable (ix2 ⟨t.val % 2 * 1024 + r.val, by omega⟩ l) := by
  rw [← V_cos m c]
  show V m c main_v22 (((cfg0.win 2).blk t).view.emb (ix2 r l)) = _
  congr 1
  funext a; apply Fin.ext
  obtain ⟨-, -, -, -, h0, h1, -⟩ := at_point t
  match a with
  | 0 => show win0_2.index t 0 * 1024 + 1 * r.val = _; rw [h0]; simp
  | 1 => show win0_2.index t 1 * 128 + 1 * l.val = _; rw [h1]; simp

theorem read_3 (c : Dev nD) (t : Fin cfg0.N) (r : Fin 1024) (l : Fin 128) :
    (iblk m c 3 t : Vec Ideal S1024x128 .f32) (ix2 r l) = sinTable (ix2 ⟨t.val % 2 * 1024 + r.val, by omega⟩ l) := by
  rw [← V_sin m c]
  show V m c main_v27 (((cfg0.win 3).blk t).view.emb (ix2 r l)) = _
  congr 1
  funext a; apply Fin.ext
  obtain ⟨-, -, -, -, -, -, h0, h1, -⟩ := at_point t
  match a with
  | 0 => show win0_3.index t 0 * 1024 + 1 * r.val = _; rw [h0]; simp
  | 1 => show win0_3.index t 1 * 128 + 1 * l.val = _; rw [h1]; simp

def result (c : Dev nD) : Vec Ideal S4x32x2048x128 .bf16 :=
  turned (m ((c : Thread nD τ).loc main_arg0)) (m ((c : Thread nD τ).loc main_arg1))

/-! ## A tile -/

/-- A head's block, entry by entry. -/
theorem head_apply (o : Nat) (ho : o + 128 ≤ 1024) (hs : S1024x1024.Slices ![0, o] S1024x128) (p : FVec Ideal S1024x1024 .f32)
    (cs sn : Vec Ideal S1024x128 .f32) (r : Fin 1024) (l : Fin 128) :
    head ![0, o] hs p cs sn (ix4 0 0 r l)
      = (p (ix2 r ⟨o + l.val, by omega⟩) * cs (ix2 r l) + p (ix2 r ⟨o + (l.val + 64) % 128, by omega⟩) * sn (ix2 r l) : EReal) := by
  have e : (l.val + 128 - 64) % 128 = (l.val + 64) % 128 := by omega
  pointwise [head, k0_pay1]
  simp only [e]

theorem headAt_apply (p : FVec Ideal S1024x1024 .f32) (cs sn : Vec Ideal S1024x128 .f32) (h : Fin 8) (r : Fin 1024) (l : Fin 128) :
    headAt p cs sn h (ix4 0 0 r l)
      = (p (ix2 r ⟨h.val * 128 + l.val, by omega⟩) * cs (ix2 r l)
        + p (ix2 r ⟨h.val * 128 + (l.val + 64) % 128, by omega⟩) * sn (ix2 r l) : EReal) := by
  match h with
  | 0 => exact head_apply 0 (by omega) _ p cs sn r l
  | 1 => exact head_apply 128 (by omega) _ p cs sn r l
  | 2 => exact head_apply 256 (by omega) _ p cs sn r l
  | 3 => exact head_apply 384 (by omega) _ p cs sn r l
  | 4 => exact head_apply 512 (by omega) _ p cs sn r l
  | 5 => exact head_apply 640 (by omega) _ p cs sn r l
  | 6 => exact head_apply 768 (by omega) _ p cs sn r l
  | 7 => exact head_apply 896 (by omega) _ p cs sn r l

/-- The product block of a point. -/
theorem block_apply (c : Dev nD) (t : Fin cfg0.N) (r q : Fin 1024) :
    (k0_pay3 (iblk m c 0 t) (k0_pay2 (iblk m c 1 t)) : FVec Ideal S1024x1024 .f32) (ix2 r q)
      = product (m ((c : Thread nD τ).loc main_arg0)) (m ((c : Thread nD τ).loc main_arg1))
        ⟨t.val % 8 * 1024 + r.val, by omega⟩ ⟨t.val / 8 * 1024 + q.val, by have : t.val < 32 := t.isLt; omega⟩ := by
  pointwise [k0_pay2, k0_pay3]
  simp only [read_0, read_1]
  rfl

theorem product_entry (a : Vec Ideal S8192x1024 .bf16) (w : Vec Ideal S1024x4096 .f32) {r r' j j' : Nat} {hr : r < 8192} {hr' : r' < 8192}
    {hj : j < 4096} {hj' : j' < 4096} (er : r = r') (ej : j = j') : product a w ⟨r, hr⟩ ⟨j, hj⟩ = product a w ⟨r', hr'⟩ ⟨j', hj'⟩ := by
  subst er; subst ej; rfl

/-- The tile a point computes is the result's at the tile's place. -/
theorem tile_at (c : Dev nD) (t : Fin cfg0.N) (h : Fin 8) (r : Fin 1024) (l : Fin 128) :
    (tile m c t : Vec Ideal S1x8x1024x128 .bf16) (ix4 0 h r l)
      = result m c (ix4 ⟨t.val % 8 / 2, by omega⟩ ⟨t.val / 8 * 8 + h.val, by have : t.val < 32 := t.isLt; omega⟩
          ⟨t.val % 2 * 1024 + r.val, by omega⟩ l) := by
  show headAt _ _ _ h (ix4 0 0 r l) = _
  refine (headAt_apply _ _ _ h r l).trans ?_
  rw [block_apply, block_apply, read_2, read_3]
  unfold result turned
  refine congrArg₂ (fun x y : EReal => x + y) (congrArg₂ (fun x y : EReal => x * y) ?_ rfl) (congrArg₂ (fun x y : EReal => x * y) ?_ rfl)
  · refine product_entry _ _ ?_ ?_
    · show t.val % 8 * 1024 + r.val = t.val % 8 / 2 * 2048 + (t.val % 2 * 1024 + r.val); omega
    · show t.val / 8 * 1024 + (h.val * 128 + l.val) = (t.val / 8 * 8 + h.val) * 128 + l.val; omega
  · refine product_entry _ _ ?_ ?_
    · show t.val % 8 * 1024 + r.val = t.val % 8 / 2 * 2048 + (t.val % 2 * 1024 + r.val); omega
    · show t.val / 8 * 1024 + (h.val * 128 + (l.val + 64) % 128) = (t.val / 8 * 8 + h.val) * 128 + (l.val + 64) % 128; omega

theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after_4]
  funext y
  obtain ⟨-, -, -, -, -, -, -, -, e0, e1, e2, e3⟩ := at_point t
  have y0 : (y 0).val < 1 := (y 0).isLt
  have ht : t.val < 32 := t.isLt
  show (tile m c t : Vec Ideal S1x8x1024x128 .bf16) (ix4 0 (y 1) (y 2) (y 3)) = result m c (((cfg0.win 4).blk t).view.emb y)
  refine (tile_at m c t (y 1) (y 2) (y 3)).trans ?_
  congr 1
  funext a; apply Fin.ext
  match a with
  | 0 => show t.val % 8 / 2 = win0_4.index t 0 * 1 + 1 * (y 0).val; rw [e0]; omega
  | 1 => show t.val / 8 * 8 + (y 1).val = win0_4.index t 1 * 8 + 1 * (y 1).val; rw [e1]; omega
  | 2 => show t.val % 2 * 1024 + (y 2).val = win0_4.index t 2 * 1024 + 1 * (y 2).val; rw [e2]; omega
  | 3 => show (y 3).val = win0_4.index t 3 * 128 + 1 * (y 3).val; rw [e3]; omega

theorem mem_blk (t : Fin cfg0.N) (i : S4x32x2048x128.Idx) :
    i ∈ ((cfg0.win 4).blk t).view.set ↔ ∀ a : Fin 4, win0_4.index t a * S1x8x1024x128.size a ≤ (i a).val
      ∧ (i a).val < win0_4.index t a * S1x8x1024x128.size a + S1x8x1024x128.size a := by
  show i ∈ ((View.whole main_v28).slice (win0_4.rect t)).set ↔ _
  rw [View.set_slice_whole, Rect.mem_set_unit]
  exact Iff.rfl

theorem cover (i : S4x32x2048x128.Idx) : ∃ t : Fin cfg0.N, (cfg0.win 4).flush t = true ∧ i ∈ ((cfg0.win 4).blk t).view.set := by
  have h0 : (i 0).val < 4 := (i 0).isLt
  have h1 : (i 1).val < 32 := (i 1).isLt
  have h2 : (i 2).val < 2048 := (i 2).isLt
  have h3 : (i 3).val < 128 := (i 3).isLt
  let t : Fin cfg0.N := ⟨(i 1).val / 8 * 8 + (i 0).val * 2 + (i 2).val / 1024, show _ < 32 by omega⟩
  have ht : t.val = (i 1).val / 8 * 8 + (i 0).val * 2 + (i 2).val / 1024 := rfl
  refine ⟨t, flush0_4 t, (mem_blk t i).2 ?_⟩
  obtain ⟨-, -, -, -, -, -, -, -, e0, e1, e2, e3⟩ := at_point t
  intro a
  match a with
  | 0 => rw [show win0_4.index t 0 = _ from e0]; show _ * 1 ≤ (i 0).val ∧ (i 0).val < _ * 1 + 1; omega
  | 1 => rw [show win0_4.index t 1 = _ from e1]; show _ * 8 ≤ (i 1).val ∧ (i 1).val < _ * 8 + 8; omega
  | 2 => rw [show win0_4.index t 2 = _ from e2]; show _ * 1024 ≤ (i 2).val ∧ (i 2).val < _ * 1024 + 1024; omega
  | 3 => rw [show win0_4.index t 3 = _ from e3]; show _ * 128 ≤ (i 3).val ∧ (i 3).val < _ * 128 + 128; omega

theorem final (c : Dev nD) : (dats m 0 c).arrAt 4 cfg0.N = result m c :=
  (dats m 0 c).arrAt_eq_of_cover 4 (result m c) (fun t _ => flushed_eq m c t) cover

end Cert.Kernel7Ideal.IndexQ

end
-- ==== Proof.IndexReference.lean ====
/-
  The projection to the index queries: the reference turns each head's two halves apart; the kernel turns the whole head.
-/
module

public import proofs.«01_k».proof.Proof.IndexValue

@[expose] public section

set_option maxRecDepth 16384

noncomputable section

open Idealize.ShloMosaic Idealize.ShloMosaic.TcCoe Idealize.ShloMosaic.Tactic
open Idealize.SL.Sem

namespace Cert.Reference7Ideal.IndexQ

open Cert.Reference7Ideal Cert.Reference7Ideal.Gen

/-- The product, in its full width. -/
def product (a : Vec Ideal S8192x1024 .bf16) (w : Vec Ideal S1024x4096 .f32) : Vec Ideal S8192x4096 .f32 :=
  Host.dotGeneral (F := Ideal) (φ₁ := .f32) (φ₂ := .f32) dot_S8192x1024_S1024x4096_S8192x4096_1_0_0_1_n_n none
    (extf .f32 a bitsLt_bf16_f32 : FVec Ideal S8192x1024 .f32) w

/-- The product cut into heads, each head's halves turned, the heads before the positions. -/
def rotated (q : Vec Ideal S8192x4096 .f32) (cs sn : Vec Ideal S2048x64 .f32) : Vec Ideal S4x32x2048x128 .bf16 :=
  let p : FVec Ideal S4x2048x32x128 .f32 := shapeCast S4x2048x32x128 q shapeCasts_S8192x4096_S4x2048x32x128
  let q1 : FVec Ideal S4x2048x32x64 .f32 := extractStridedSlice S4x2048x32x64 ![0, 0, 0, 0] p slices_S4x2048x32x128_S4x2048x32x64_0_0_0_0
  let q2 : FVec Ideal S4x2048x32x64 .f32 := extractStridedSlice S4x2048x32x64 ![0, 0, 0, 64] p slices_S4x2048x32x128_S4x2048x32x64_0_0_0_64
  let c : FVec Ideal S4x2048x32x64 .f32 := broadcastInDim S4x2048x32x64 ![0, 1, 2, 3] bcast_S1x2048x1x64_S4x2048x32x64_0_1_2_3
    (shapeCast S1x2048x1x64 cs shapeCasts_S2048x64_S1x2048x1x64)
  let s : FVec Ideal S4x2048x32x64 .f32 := broadcastInDim S4x2048x32x64 ![0, 1, 2, 3] bcast_S1x2048x1x64_S4x2048x32x64_0_1_2_3
    (shapeCast S1x2048x1x64 sn shapeCasts_S2048x64_S1x2048x1x64)
  truncf .bf16 (transpose S4x32x2048x128 [0, 2, 1, 3]
    (concatenate S4x2048x32x128 3 [⟨S4x2048x32x64, subf (mulf q1 c) (mulf q2 s)⟩, ⟨S4x2048x32x64, addf (mulf q2 c) (mulf q1 s)⟩]
      concatenates_S4x2048x32x64_S4x2048x32x64_S4x2048x32x128_d3 : FVec Ideal S4x2048x32x128 .f32)
    transposes_S4x2048x32x128_S4x32x2048x128_0_2_1_3 : FVec Ideal S4x32x2048x128 .f32) bitsLt_bf16_f32

theorem result_eq (m : (ℓ : Loc nD τ sig) → Buf (Elt Ideal) ℓ) (c : Dev nD) :
    Cert.Reference7Ideal.Value.res_main_v38 (F := Ideal) m c
      = rotated (product (m ((c.tc : Thread nD τ).loc main_arg0)) (m ((c.tc : Thread nD τ).loc main_arg1)))
        Cert.Kernel7Ideal.IndexQ.cosOf Cert.Kernel7Ideal.IndexQ.sinOf := rfl

theorem product_apply (a : Vec Ideal S8192x1024 .bf16) (w : Vec Ideal S1024x4096 .f32) (r : Fin 8192) (j : Fin 4096) :
    product a w (ix2 r j) = Cert.Kernel7Ideal.IndexQ.product a w r j := by
  pointwise [product]
  rfl

variable (q : Vec Ideal S8192x4096 .f32) (cs sn : Vec Ideal S2048x64 .f32) (b : Fin 4) (h : Fin 32) (s : Fin 2048) (l : Fin 64)

theorem rotated_first : rotated q cs sn (ix4 b h s ⟨l.val, by omega⟩)
    = (q (ix2 ⟨b.val * 2048 + s.val, by omega⟩ ⟨h.val * 128 + l.val, by omega⟩) * cs (ix2 s l)
      - q (ix2 ⟨b.val * 2048 + s.val, by omega⟩ ⟨h.val * 128 + (64 + l.val), by omega⟩) * sn (ix2 s l) : EReal) := by
  pointwise [rotated]

theorem rotated_second : rotated q cs sn (ix4 b h s ⟨64 + l.val, by omega⟩)
    = (q (ix2 ⟨b.val * 2048 + s.val, by omega⟩ ⟨h.val * 128 + (64 + l.val), by omega⟩) * cs (ix2 s l)
      + q (ix2 ⟨b.val * 2048 + s.val, by omega⟩ ⟨h.val * 128 + l.val, by omega⟩) * sn (ix2 s l) : EReal) := by
  pointwise [rotated]

end Cert.Reference7Ideal.IndexQ

namespace Cert.Proof.IndexQ

open Cert.Kernel7Ideal.IndexQ Cert.Reference7Ideal.IndexQ

variable (a : Vec Ideal Cert.Kernel7Ideal.S8192x1024 .bf16) (w : Vec Ideal Cert.Kernel7Ideal.S1024x4096 .f32)
  (b : Fin 4) (h : Fin 32) (s : Fin 2048)

theorem first (l : Fin 64) : rotated (Cert.Reference7Ideal.IndexQ.product a w) cosOf sinOf (ix4 b h s ⟨l.val, by omega⟩)
    = turned a w (ix4 b h s ⟨l.val, by omega⟩) := by
  refine (rotated_first _ _ _ b h s l).trans ?_
  rw [product_apply, product_apply]
  show _ = (Cert.Kernel7Ideal.IndexQ.product a w ⟨b.val * 2048 + s.val, _⟩ ⟨h.val * 128 + l.val, _⟩ * cosTable (ix2 s ⟨l.val, _⟩)
    + Cert.Kernel7Ideal.IndexQ.product a w ⟨b.val * 2048 + s.val, _⟩ ⟨h.val * 128 + (l.val + 64) % 128, _⟩ * sinTable (ix2 s ⟨l.val, _⟩) : EReal)
  unfold cosTable sinTable
  rw [table_first, table_first, sub_eq_add_neg, ← mul_neg]
  exact congrArg₂ (fun x y : EReal => x + y) rfl (congrArg₂ (fun x y : EReal => x * y)
    (product_entry a w rfl (show h.val * 128 + (64 + l.val) = h.val * 128 + (l.val + 64) % 128 by omega)) rfl)

theorem second (l : Fin 64) : rotated (Cert.Reference7Ideal.IndexQ.product a w) cosOf sinOf (ix4 b h s ⟨64 + l.val, by omega⟩)
    = turned a w (ix4 b h s ⟨64 + l.val, by omega⟩) := by
  refine (rotated_second _ _ _ b h s l).trans ?_
  rw [product_apply, product_apply]
  show _ = (Cert.Kernel7Ideal.IndexQ.product a w ⟨b.val * 2048 + s.val, _⟩ ⟨h.val * 128 + (64 + l.val), _⟩ * cosTable (ix2 s ⟨64 + l.val, _⟩)
    + Cert.Kernel7Ideal.IndexQ.product a w ⟨b.val * 2048 + s.val, _⟩ ⟨h.val * 128 + (64 + l.val + 64) % 128, _⟩ * sinTable (ix2 s ⟨64 + l.val, _⟩) : EReal)
  unfold cosTable sinTable
  rw [table_second, table_second]
  exact congrArg₂ (fun x y : EReal => x + y) rfl (congrArg₂ (fun x y : EReal => x * y)
    (product_entry a w rfl (show h.val * 128 + l.val = h.val * 128 + (64 + l.val + 64) % 128 by omega)) rfl)

/-- The two ways of turning a head agree. -/
theorem agree (l : Fin 128) : rotated (Cert.Reference7Ideal.IndexQ.product a w) cosOf sinOf (ix4 b h s l) = turned a w (ix4 b h s l) := by
  obtain ⟨l, hl⟩ := l
  by_cases hh : l < 64
  · exact first a w b h s ⟨l, hh⟩
  · obtain ⟨r, rfl⟩ : ∃ r, l = 64 + r := ⟨l - 64, by omega⟩
    exact second a w b h s ⟨r, by omega⟩

end Cert.Proof.IndexQ

end
-- ==== Proof.QueryRun.lean ====
/-
  The body of the absorbed queries (sixteen heads, each a product with its own matrix and a turned part), run once, and the launch
  that repeats it.
-/
module

public import proofs.«01_k».proof.Proof.Gen.Kernel8Ideal.Frame.Runs
public import Idealize.ShloMosaic.Lib.VecWindow
public import Idealize.ShloMosaic.Lib.Claim
public import Idealize.ShloMosaic.Lib.Pointwise

@[expose] public section

set_option maxRecDepth 16384

noncomputable section

namespace Cert.Kernel8Ideal.Query

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The sixteen heads of a result block -/

/-- The first 256 places of a head: 128 columns of the product through the head's own matrix, scaled. -/
def lat (o : Fin 2 → ℕ) (hs : S512x2048.Slices o S512x128) (q : FVec F S512x2048 .bf16) (u : Vec F S1x128x256 .bf16) :
    FVec F S1x1x512x256 .bf16 :=
  let a : FVec F S512x128 .bf16 := extractStridedSlice S512x128 o q hs
  let b : FVec F S128x256 .bf16 := shapeCast S128x256 u shapeCasts_S1x128x256_S128x256
  let p : FVec F S512x256 .f32 := matmul dot_S512x128_S128x256_S512x256_1_0_0_1_n_n none a b (constant S512x256 .f32 0x00000000#32)
  shapeCast S1x1x512x256 (truncf .bf16 (mulf p (broadcast S512x256 (Scalar.ofBits .f32 0x3DD53B95#32 : F .f32))) bitsLt_bf16_f32 : FVec F S512x256 .bf16)
    shapeCasts_S512x256_S1x1x512x256

/-- The last 128 places: 128 columns of the other product, plus themselves turned within each half against the second table, scaled. -/
def rope (o : Fin 2 → ℕ) (hs : S512x2048.Slices o S512x128) (q : FVec F S512x2048 .f32) (cs sn : Vec F S512x128 .f32) :
    FVec F S1x1x512x128 .bf16 :=
  let a : FVec F S512x128 .f32 := extractStridedSlice S512x128 o q hs
  k0_pay15 a (mulf a (shapeCast S512x128 cs shapeCasts_S512x128_S512x128)) (iota .tc S512x128 32 [1] iota_S512x128_d1_w32) 64#32 sn

/-- One head's matrix. -/
abbrev mat (u : Vec F S16x128x256 .bf16) (o : Fin 3 → ℕ) (inb : ∀ a, o a + S1x128x256.size a ≤ S16x128x256.size a) : Vec F S1x128x256 .bf16 :=
  VecWindow.window u o S1x128x256.size inb

/-- The heads' first parts, in order. -/
def latAt (q : FVec F S512x2048 .bf16) (u : Vec F S16x128x256 .bf16) : Fin 16 → FVec F S1x1x512x256 .bf16 :=
  ![lat ![0, 0] slices_S512x2048_o0_0_S512x128 q (mat u ![0, 0, 0] inb_S16x128x256_S1x128x256_0_0_0),
    lat ![0, 128] slices_S512x2048_o0_128_S512x128 q (mat u ![1, 0, 0] inb_S16x128x256_S1x128x256_1_0_0),
    lat ![0, 256] slices_S512x2048_o0_256_S512x128 q (mat u ![2, 0, 0] inb_S16x128x256_S1x128x256_2_0_0),
    lat ![0, 384] slices_S512x2048_o0_384_S512x128 q (mat u ![3, 0, 0] inb_S16x128x256_S1x128x256_3_0_0),
    lat ![0, 512] slices_S512x2048_o0_512_S512x128 q (mat u ![4, 0, 0] inb_S16x128x256_S1x128x256_4_0_0),
    lat ![0, 640] slices_S512x2048_o0_640_S512x128 q (mat u ![5, 0, 0] inb_S16x128x256_S1x128x256_5_0_0),
    lat ![0, 768] slices_S512x2048_o0_768_S512x128 q (mat u ![6, 0, 0] inb_S16x128x256_S1x128x256_6_0_0),
    lat ![0, 896] slices_S512x2048_o0_896_S512x128 q (mat u ![7, 0, 0] inb_S16x128x256_S1x128x256_7_0_0),
    lat ![0, 1024] slices_S512x2048_o0_1024_S512x128 q (mat u ![8, 0, 0] inb_S16x128x256_S1x128x256_8_0_0),
    lat ![0, 1152] slices_S512x2048_o0_1152_S512x128 q (mat u ![9, 0, 0] inb_S16x128x256_S1x128x256_9_0_0),
    lat ![0, 1280] slices_S512x2048_o0_1280_S512x128 q (mat u ![10, 0, 0] inb_S16x128x256_S1x128x256_10_0_0),
    lat ![0, 1408] slices_S512x2048_o0_1408_S512x128 q (mat u ![11, 0, 0] inb_S16x128x256_S1x128x256_11_0_0),
    lat ![0, 1536] slices_S512x2048_o0_1536_S512x128 q (mat u ![12, 0, 0] inb_S16x128x256_S1x128x256_12_0_0),
    lat ![0, 1664] slices_S512x2048_o0_1664_S512x128 q (mat u ![13, 0, 0] inb_S16x128x256_S1x128x256_13_0_0),
    lat ![0, 1792] slices_S512x2048_o0_1792_S512x128 q (mat u ![14, 0, 0] inb_S16x128x256_S1x128x256_14_0_0),
    lat ![0, 1920] slices_S512x2048_o0_1920_S512x128 q (mat u ![15, 0, 0] inb_S16x128x256_S1x128x256_15_0_0)]

/-- The heads' last parts, in order. -/
def ropeAt (q : FVec F S512x2048 .f32) (cs sn : Vec F S512x128 .f32) : Fin 16 → FVec F S1x1x512x128 .bf16 :=
  ![rope ![0, 0] slices_S512x2048_o0_0_S512x128 q cs sn, rope ![0, 128] slices_S512x2048_o0_128_S512x128 q cs sn,
    rope ![0, 256] slices_S512x2048_o0_256_S512x128 q cs sn, rope ![0, 384] slices_S512x2048_o0_384_S512x128 q cs sn,
    rope ![0, 512] slices_S512x2048_o0_512_S512x128 q cs sn, rope ![0, 640] slices_S512x2048_o0_640_S512x128 q cs sn,
    rope ![0, 768] slices_S512x2048_o0_768_S512x128 q cs sn, rope ![0, 896] slices_S512x2048_o0_896_S512x128 q cs sn,
    rope ![0, 1024] slices_S512x2048_o0_1024_S512x128 q cs sn, rope ![0, 1152] slices_S512x2048_o0_1152_S512x128 q cs sn,
    rope ![0, 1280] slices_S512x2048_o0_1280_S512x128 q cs sn, rope ![0, 1408] slices_S512x2048_o0_1408_S512x128 q cs sn,
    rope ![0, 1536] slices_S512x2048_o0_1536_S512x128 q cs sn, rope ![0, 1664] slices_S512x2048_o0_1664_S512x128 q cs sn,
    rope ![0, 1792] slices_S512x2048_o0_1792_S512x128 q cs sn, rope ![0, 1920] slices_S512x2048_o0_1920_S512x128 q cs sn]

/-- The whole block. -/
def block (p : FVec F S512x2048 .bf16) (u : Vec F S16x128x256 .bf16) (q : FVec F S512x2048 .f32) (cs sn : Vec F S512x128 .f32) :
    Vec F S1x16x512x384 .bf16 := fun y =>
  if h : (y 3).val < 256 then latAt p u (y 1) (ix4 0 0 (y 2) ⟨(y 3).val, h⟩)
  else ropeAt q cs sn (y 1) (ix4 0 0 (y 2) ⟨(y 3).val - 256, by have h3 : (y 3).val < 384 := (y 3).isLt; omega⟩)

section
variable (p : FVec F S512x2048 .bf16) (u : Vec F S16x128x256 .bf16) (q : FVec F S512x2048 .f32) (cs sn : Vec F S512x128 .f32)

/-- A store of a head's first part puts what the whole block has there. -/
theorem lat_piece (k : Fin 16) (inb : ∀ a, (![0, k.val, 0, 0] : Fin 4 → ℕ) a + S1x1x512x256.size a ≤ S1x16x512x384.size a)
    (w : FVec F S1x1x512x256 .bf16) (hw : w = latAt p u k) (x : S1x1x512x256.Idx) :
    w x = block p u q cs sn ((Rect.unit (s := S1x16x512x384) ![0, k.val, 0, 0] S1x1x512x256.size inb).emb x) := by
  subst hw
  have h0 : (x 0).val < 1 := (x 0).isLt
  have h1 : (x 1).val < 1 := (x 1).isLt
  have h3 : (x 3).val < 256 := (x 3).isLt
  unfold block
  have e : ((Rect.unit (s := S1x16x512x384) ![0, k.val, 0, 0] S1x1x512x256.size inb).emb x 1 : Fin 16) = k := by
    apply Fin.ext; show k.val + 1 * (x 1).val = k.val; omega
  have e3 : ((Rect.unit (s := S1x16x512x384) ![0, k.val, 0, 0] S1x1x512x256.size inb).emb x 3).val = (x 3).val := by
    show 0 + 1 * (x 3).val = _; omega
  rw [dif_pos (by rw [e3]; exact h3), e]
  congr 1
  funext a; apply Fin.ext
  match a with
  | 0 => show (x 0).val = 0; omega
  | 1 => show (x 1).val = 0; omega
  | 2 => show (x 2).val = 0 + 1 * (x 2).val; omega
  | 3 => show (x 3).val = 0 + 1 * (x 3).val; omega

/-- A store of a head's last part puts what the whole block has there. -/
theorem rope_piece (k : Fin 16) (inb : ∀ a, (![0, k.val, 0, 256] : Fin 4 → ℕ) a + S1x1x512x128.size a ≤ S1x16x512x384.size a)
    (w : FVec F S1x1x512x128 .bf16) (hw : w = ropeAt q cs sn k) (x : S1x1x512x128.Idx) :
    w x = block p u q cs sn ((Rect.unit (s := S1x16x512x384) ![0, k.val, 0, 256] S1x1x512x128.size inb).emb x) := by
  subst hw
  have h0 : (x 0).val < 1 := (x 0).isLt
  have h1 : (x 1).val < 1 := (x 1).isLt
  unfold block
  have e : ((Rect.unit (s := S1x16x512x384) ![0, k.val, 0, 256] S1x1x512x128.size inb).emb x 1 : Fin 16) = k := by
    apply Fin.ext; show k.val + 1 * (x 1).val = k.val; omega
  have e3 : ((Rect.unit (s := S1x16x512x384) ![0, k.val, 0, 256] S1x1x512x128.size inb).emb x 3).val = 256 + (x 3).val := by
    show 256 + 1 * (x 3).val = _; omega
  rw [dif_neg (by rw [e3]; omega), e]
  congr 1
  funext a; apply Fin.ext
  match a with
  | 0 => show (x 0).val = 0; omega
  | 1 => show (x 1).val = 0; omega
  | 2 => show (x 2).val = 0 + 1 * (x 2).val; omega
  | 3 => show (x 3).val = 256 + 1 * (x 3).val - 256; omega

end

/-- Where a head's first part lies in the block. -/
theorem lat_mem (k : Fin 16) (inb : ∀ a, (![0, k.val, 0, 0] : Fin 4 → ℕ) a + S1x1x512x256.size a ≤ S1x16x512x384.size a)
    (y : S1x16x512x384.Idx) (h : (y 1).val = k.val) (h3 : (y 3).val < 256) :
    y ∈ (Rect.unit (s := S1x16x512x384) ![0, k.val, 0, 0] S1x1x512x256.size inb).set := by
  rw [Rect.mem_set_unit]
  have h0 : (y 0).val < 1 := (y 0).isLt
  have h2 : (y 2).val < 512 := (y 2).isLt
  intro a
  match a with
  | 0 => show 0 ≤ (y 0).val ∧ (y 0).val < 0 + 1; omega
  | 1 => show k.val ≤ (y 1).val ∧ (y 1).val < k.val + 1; omega
  | 2 => show 0 ≤ (y 2).val ∧ (y 2).val < 0 + 512; omega
  | 3 => show 0 ≤ (y 3).val ∧ (y 3).val < 0 + 256; omega

/-- Where a head's last part lies in the block. -/
theorem rope_mem (k : Fin 16) (inb : ∀ a, (![0, k.val, 0, 256] : Fin 4 → ℕ) a + S1x1x512x128.size a ≤ S1x16x512x384.size a)
    (y : S1x16x512x384.Idx) (h : (y 1).val = k.val) (h3 : ¬(y 3).val < 256) :
    y ∈ (Rect.unit (s := S1x16x512x384) ![0, k.val, 0, 256] S1x1x512x128.size inb).set := by
  rw [Rect.mem_set_unit]
  have h0 : (y 0).val < 1 := (y 0).isLt
  have h2 : (y 2).val < 512 := (y 2).isLt
  have h4 : (y 3).val < 384 := (y 3).isLt
  intro a
  match a with
  | 0 => show 0 ≤ (y 0).val ∧ (y 0).val < 0 + 1; omega
  | 1 => show k.val ≤ (y 1).val ∧ (y 1).val < k.val + 1; omega
  | 2 => show 0 ≤ (y 2).val ∧ (y 2).val < 0 + 512; omega
  | 3 => show 256 ≤ (y 3).val ∧ (y 3).val < 256 + 128; omega

/-- Two stores for each of the sixteen heads leave the whole block. -/
theorem read_block {κ : Kind} {sp : Space} (v : View sig κ sp S1x16x512x384 .bf16) (f : v.ty.Contents (Elt F))
    (p : FVec F S512x2048 .bf16) (u : Vec F S16x128x256 .bf16) (q : FVec F S512x2048 .f32) (cs sn : Vec F S512x128 .f32)
    {a0 a1 a2 a3 a4 a5 a6 a7 a8 a9 a10 a11 a12 a13 a14 a15 : FVec F S1x1x512x256 .bf16}
    {r0 r1 r2 r3 r4 r5 r6 r7 r8 r9 r10 r11 r12 r13 r14 r15 : FVec F S1x1x512x128 .bf16}
    (ha0 : a0 = latAt p u 0) (ha1 : a1 = latAt p u 1) (ha2 : a2 = latAt p u 2) (ha3 : a3 = latAt p u 3)
    (ha4 : a4 = latAt p u 4) (ha5 : a5 = latAt p u 5) (ha6 : a6 = latAt p u 6) (ha7 : a7 = latAt p u 7)
    (ha8 : a8 = latAt p u 8) (ha9 : a9 = latAt p u 9) (ha10 : a10 = latAt p u 10) (ha11 : a11 = latAt p u 11)
    (ha12 : a12 = latAt p u 12) (ha13 : a13 = latAt p u 13) (ha14 : a14 = latAt p u 14) (ha15 : a15 = latAt p u 15)
    (hr0 : r0 = ropeAt q cs sn 0) (hr1 : r1 = ropeAt q cs sn 1) (hr2 : r2 = ropeAt q cs sn 2) (hr3 : r3 = ropeAt q cs sn 3)
    (hr4 : r4 = ropeAt q cs sn 4) (hr5 : r5 = ropeAt q cs sn 5) (hr6 : r6 = ropeAt q cs sn 6) (hr7 : r7 = ropeAt q cs sn 7)
    (hr8 : r8 = ropeAt q cs sn 8) (hr9 : r9 = ropeAt q cs sn 9) (hr10 : r10 = ropeAt q cs sn 10) (hr11 : r11 = ropeAt q cs sn 11)
    (hr12 : r12 = ropeAt q cs sn 12) (hr13 : r13 = ropeAt q cs sn 13) (hr14 : r14 = ropeAt q cs sn 14) (hr15 : r15 = ropeAt q cs sn 15) :
    v.read (Elt F) (v.writes (Elt F) f
      [⟨Rect.unit ![0, 15, 0, 256] S1x1x512x128.size inb_S1x16x512x384_S1x1x512x128_0_15_0_256, r15⟩,
       ⟨Rect.unit ![0, 15, 0, 0] S1x1x512x256.size inb_S1x16x512x384_S1x1x512x256_0_15_0_0, a15⟩,
       ⟨Rect.unit ![0, 14, 0, 256] S1x1x512x128.size inb_S1x16x512x384_S1x1x512x128_0_14_0_256, r14⟩,
       ⟨Rect.unit ![0, 14, 0, 0] S1x1x512x256.size inb_S1x16x512x384_S1x1x512x256_0_14_0_0, a14⟩,
       ⟨Rect.unit ![0, 13, 0, 256] S1x1x512x128.size inb_S1x16x512x384_S1x1x512x128_0_13_0_256, r13⟩,
       ⟨Rect.unit ![0, 13, 0, 0] S1x1x512x256.size inb_S1x16x512x384_S1x1x512x256_0_13_0_0, a13⟩,
       ⟨Rect.unit ![0, 12, 0, 256] S1x1x512x128.size inb_S1x16x512x384_S1x1x512x128_0_12_0_256, r12⟩,
       ⟨Rect.unit ![0, 12, 0, 0] S1x1x512x256.size inb_S1x16x512x384_S1x1x512x256_0_12_0_0, a12⟩,
       ⟨Rect.unit ![0, 11, 0, 256] S1x1x512x128.size inb_S1x16x512x384_S1x1x512x128_0_11_0_256, r11⟩,
       ⟨Rect.unit ![0, 11, 0, 0] S1x1x512x256.size inb_S1x16x512x384_S1x1x512x256_0_11_0_0, a11⟩,
       ⟨Rect.unit ![0, 10, 0, 256] S1x1x512x128.size inb_S1x16x512x384_S1x1x512x128_0_10_0_256, r10⟩,
       ⟨Rect.unit ![0, 10, 0, 0] S1x1x512x256.size inb_S1x16x512x384_S1x1x512x256_0_10_0_0, a10⟩,
       ⟨Rect.unit ![0, 9, 0, 256] S1x1x512x128.size inb_S1x16x512x384_S1x1x512x128_0_9_0_256, r9⟩,
       ⟨Rect.unit ![0, 9, 0, 0] S1x1x512x256.size inb_S1x16x512x384_S1x1x512x256_0_9_0_0, a9⟩,
       ⟨Rect.unit ![0, 8, 0, 256] S1x1x512x128.size inb_S1x16x512x384_S1x1x512x128_0_8_0_256, r8⟩,
       ⟨Rect.unit ![0, 8, 0, 0] S1x1x512x256.size inb_S1x16x512x384_S1x1x512x256_0_8_0_0, a8⟩,
       ⟨Rect.unit ![0, 7, 0, 256] S1x1x512x128.size inb_S1x16x512x384_S1x1x512x128_0_7_0_256, r7⟩,
       ⟨Rect.unit ![0, 7, 0, 0] S1x1x512x256.size inb_S1x16x512x384_S1x1x512x256_0_7_0_0, a7⟩,
       ⟨Rect.unit ![0, 6, 0, 256] S1x1x512x128.size inb_S1x16x512x384_S1x1x512x128_0_6_0_256, r6⟩,
       ⟨Rect.unit ![0, 6, 0, 0] S1x1x512x256.size inb_S1x16x512x384_S1x1x512x256_0_6_0_0, a6⟩,
       ⟨Rect.unit ![0, 5, 0, 256] S1x1x512x128.size inb_S1x16x512x384_S1x1x512x128_0_5_0_256, r5⟩,
       ⟨Rect.unit ![0, 5, 0, 0] S1x1x512x256.size inb_S1x16x512x384_S1x1x512x256_0_5_0_0, a5⟩,
       ⟨Rect.unit ![0, 4, 0, 256] S1x1x512x128.size inb_S1x16x512x384_S1x1x512x128_0_4_0_256, r4⟩,
       ⟨Rect.unit ![0, 4, 0, 0] S1x1x512x256.size inb_S1x16x512x384_S1x1x512x256_0_4_0_0, a4⟩,
       ⟨Rect.unit ![0, 3, 0, 256] S1x1x512x128.size inb_S1x16x512x384_S1x1x512x128_0_3_0_256, r3⟩,
       ⟨Rect.unit ![0, 3, 0, 0] S1x1x512x256.size inb_S1x16x512x384_S1x1x512x256_0_3_0_0, a3⟩,
       ⟨Rect.unit ![0, 2, 0, 256] S1x1x512x128.size inb_S1x16x512x384_S1x1x512x128_0_2_0_256, r2⟩,
       ⟨Rect.unit ![0, 2, 0, 0] S1x1x512x256.size inb_S1x16x512x384_S1x1x512x256_0_2_0_0, a2⟩,
       ⟨Rect.unit ![0, 1, 0, 256] S1x1x512x128.size inb_S1x16x512x384_S1x1x512x128_0_1_0_256, r1⟩,
       ⟨Rect.unit ![0, 1, 0, 0] S1x1x512x256.size inb_S1x16x512x384_S1x1x512x256_0_1_0_0, a1⟩,
       ⟨Rect.unit ![0, 0, 0, 256] S1x1x512x128.size inb_S1x16x512x384_S1x1x512x128_0_0_0_256, r0⟩,
       ⟨Rect.unit ![0, 0, 0, 0] S1x1x512x256.size inb_S1x16x512x384_S1x1x512x256_0_0_0_0, a0⟩]) = block p u q cs sn := by
  funext y
  refine View.read_writes_apply_of_pieces v f (block p u q cs sn) _ ?_ y ?_
  · intro z hz x
    simp only [List.mem_cons, List.not_mem_nil, _root_.or_false] at hz
    rcases hz with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact rope_piece p u q cs sn 15 inb_S1x16x512x384_S1x1x512x128_0_15_0_256 _ hr15 x
    · exact lat_piece p u q cs sn 15 inb_S1x16x512x384_S1x1x512x256_0_15_0_0 _ ha15 x
    · exact rope_piece p u q cs sn 14 inb_S1x16x512x384_S1x1x512x128_0_14_0_256 _ hr14 x
    · exact lat_piece p u q cs sn 14 inb_S1x16x512x384_S1x1x512x256_0_14_0_0 _ ha14 x
    · exact rope_piece p u q cs sn 13 inb_S1x16x512x384_S1x1x512x128_0_13_0_256 _ hr13 x
    · exact lat_piece p u q cs sn 13 inb_S1x16x512x384_S1x1x512x256_0_13_0_0 _ ha13 x
    · exact rope_piece p u q cs sn 12 inb_S1x16x512x384_S1x1x512x128_0_12_0_256 _ hr12 x
    · exact lat_piece p u q cs sn 12 inb_S1x16x512x384_S1x1x512x256_0_12_0_0 _ ha12 x
    · exact rope_piece p u q cs sn 11 inb_S1x16x512x384_S1x1x512x128_0_11_0_256 _ hr11 x
    · exact lat_piece p u q cs sn 11 inb_S1x16x512x384_S1x1x512x256_0_11_0_0 _ ha11 x
    · exact rope_piece p u q cs sn 10 inb_S1x16x512x384_S1x1x512x128_0_10_0_256 _ hr10 x
    · exact lat_piece p u q cs sn 10 inb_S1x16x512x384_S1x1x512x256_0_10_0_0 _ ha10 x
    · exact rope_piece p u q cs sn 9 inb_S1x16x512x384_S1x1x512x128_0_9_0_256 _ hr9 x
    · exact lat_piece p u q cs sn 9 inb_S1x16x512x384_S1x1x512x256_0_9_0_0 _ ha9 x
    · exact rope_piece p u q cs sn 8 inb_S1x16x512x384_S1x1x512x128_0_8_0_256 _ hr8 x
    · exact lat_piece p u q cs sn 8 inb_S1x16x512x384_S1x1x512x256_0_8_0_0 _ ha8 x
    · exact rope_piece p u q cs sn 7 inb_S1x16x512x384_S1x1x512x128_0_7_0_256 _ hr7 x
    · exact lat_piece p u q cs sn 7 inb_S1x16x512x384_S1x1x512x256_0_7_0_0 _ ha7 x
    · exact rope_piece p u q cs sn 6 inb_S1x16x512x384_S1x1x512x128_0_6_0_256 _ hr6 x
    · exact lat_piece p u q cs sn 6 inb_S1x16x512x384_S1x1x512x256_0_6_0_0 _ ha6 x
    · exact rope_piece p u q cs sn 5 inb_S1x16x512x384_S1x1x512x128_0_5_0_256 _ hr5 x
    · exact lat_piece p u q cs sn 5 inb_S1x16x512x384_S1x1x512x256_0_5_0_0 _ ha5 x
    · exact rope_piece p u q cs sn 4 inb_S1x16x512x384_S1x1x512x128_0_4_0_256 _ hr4 x
    · exact lat_piece p u q cs sn 4 inb_S1x16x512x384_S1x1x512x256_0_4_0_0 _ ha4 x
    · exact rope_piece p u q cs sn 3 inb_S1x16x512x384_S1x1x512x128_0_3_0_256 _ hr3 x
    · exact lat_piece p u q cs sn 3 inb_S1x16x512x384_S1x1x512x256_0_3_0_0 _ ha3 x
    · exact rope_piece p u q cs sn 2 inb_S1x16x512x384_S1x1x512x128_0_2_0_256 _ hr2 x
    · exact lat_piece p u q cs sn 2 inb_S1x16x512x384_S1x1x512x256_0_2_0_0 _ ha2 x
    · exact rope_piece p u q cs sn 1 inb_S1x16x512x384_S1x1x512x128_0_1_0_256 _ hr1 x
    · exact lat_piece p u q cs sn 1 inb_S1x16x512x384_S1x1x512x256_0_1_0_0 _ ha1 x
    · exact rope_piece p u q cs sn 0 inb_S1x16x512x384_S1x1x512x128_0_0_0_256 _ hr0 x
    · exact lat_piece p u q cs sn 0 inb_S1x16x512x384_S1x1x512x256_0_0_0_0 _ ha0 x
  · have hy : (y 1).val < 16 := (y 1).isLt
    by_cases h3 : (y 3).val < 256
    · have hk : (y 1).val = 0 ∨ (y 1).val = 1 ∨ (y 1).val = 2 ∨ (y 1).val = 3 ∨ (y 1).val = 4 ∨ (y 1).val = 5 ∨ (y 1).val = 6 ∨ (y 1).val = 7 ∨ (y 1).val = 8 ∨ (y 1).val = 9 ∨ (y 1).val = 10 ∨ (y 1).val = 11 ∨ (y 1).val = 12 ∨ (y 1).val = 13 ∨ (y 1).val = 14 ∨ (y 1).val = 15 := by omega
      rcases hk with h | h | h | h | h | h | h | h | h | h | h | h | h | h | h | h
      · exact ⟨⟨Rect.unit ![0, 0, 0, 0] S1x1x512x256.size inb_S1x16x512x384_S1x1x512x256_0_0_0_0, a0⟩, by simp only [List.mem_cons, true_or, or_true],
          lat_mem 0 inb_S1x16x512x384_S1x1x512x256_0_0_0_0 y h h3⟩
      · exact ⟨⟨Rect.unit ![0, 1, 0, 0] S1x1x512x256.size inb_S1x16x512x384_S1x1x512x256_0_1_0_0, a1⟩, by simp only [List.mem_cons, true_or, or_true],
          lat_mem 1 inb_S1x16x512x384_S1x1x512x256_0_1_0_0 y h h3⟩
      · exact ⟨⟨Rect.unit ![0, 2, 0, 0] S1x1x512x256.size inb_S1x16x512x384_S1x1x512x256_0_2_0_0, a2⟩, by simp only [List.mem_cons, true_or, or_true],
          lat_mem 2 inb_S1x16x512x384_S1x1x512x256_0_2_0_0 y h h3⟩
      · exact ⟨⟨Rect.unit ![0, 3, 0, 0] S1x1x512x256.size inb_S1x16x512x384_S1x1x512x256_0_3_0_0, a3⟩, by simp only [List.mem_cons, true_or, or_true],
          lat_mem 3 inb_S1x16x512x384_S1x1x512x256_0_3_0_0 y h h3⟩
      · exact ⟨⟨Rect.unit ![0, 4, 0, 0] S1x1x512x256.size inb_S1x16x512x384_S1x1x512x256_0_4_0_0, a4⟩, by simp only [List.mem_cons, true_or, or_true],
          lat_mem 4 inb_S1x16x512x384_S1x1x512x256_0_4_0_0 y h h3⟩
      · exact ⟨⟨Rect.unit ![0, 5, 0, 0] S1x1x512x256.size inb_S1x16x512x384_S1x1x512x256_0_5_0_0, a5⟩, by simp only [List.mem_cons, true_or, or_true],
          lat_mem 5 inb_S1x16x512x384_S1x1x512x256_0_5_0_0 y h h3⟩
      · exact ⟨⟨Rect.unit ![0, 6, 0, 0] S1x1x512x256.size inb_S1x16x512x384_S1x1x512x256_0_6_0_0, a6⟩, by simp only [List.mem_cons, true_or, or_true],
          lat_mem 6 inb_S1x16x512x384_S1x1x512x256_0_6_0_0 y h h3⟩
      · exact ⟨⟨Rect.unit ![0, 7, 0, 0] S1x1x512x256.size inb_S1x16x512x384_S1x1x512x256_0_7_0_0, a7⟩, by simp only [List.mem_cons, true_or, or_true],
          lat_mem 7 inb_S1x16x512x384_S1x1x512x256_0_7_0_0 y h h3⟩
      · exact ⟨⟨Rect.unit ![0, 8, 0, 0] S1x1x512x256.size inb_S1x16x512x384_S1x1x512x256_0_8_0_0, a8⟩, by simp only [List.mem_cons, true_or, or_true],
          lat_mem 8 inb_S1x16x512x384_S1x1x512x256_0_8_0_0 y h h3⟩
      · exact ⟨⟨Rect.unit ![0, 9, 0, 0] S1x1x512x256.size inb_S1x16x512x384_S1x1x512x256_0_9_0_0, a9⟩, by simp only [List.mem_cons, true_or, or_true],
          lat_mem 9 inb_S1x16x512x384_S1x1x512x256_0_9_0_0 y h h3⟩
      · exact ⟨⟨Rect.unit ![0, 10, 0, 0] S1x1x512x256.size inb_S1x16x512x384_S1x1x512x256_0_10_0_0, a10⟩, by simp only [List.mem_cons, true_or, or_true],
          lat_mem 10 inb_S1x16x512x384_S1x1x512x256_0_10_0_0 y h h3⟩
      · exact ⟨⟨Rect.unit ![0, 11, 0, 0] S1x1x512x256.size inb_S1x16x512x384_S1x1x512x256_0_11_0_0, a11⟩, by simp only [List.mem_cons, true_or, or_true],
          lat_mem 11 inb_S1x16x512x384_S1x1x512x256_0_11_0_0 y h h3⟩
      · exact ⟨⟨Rect.unit ![0, 12, 0, 0] S1x1x512x256.size inb_S1x16x512x384_S1x1x512x256_0_12_0_0, a12⟩, by simp only [List.mem_cons, true_or, or_true],
          lat_mem 12 inb_S1x16x512x384_S1x1x512x256_0_12_0_0 y h h3⟩
      · exact ⟨⟨Rect.unit ![0, 13, 0, 0] S1x1x512x256.size inb_S1x16x512x384_S1x1x512x256_0_13_0_0, a13⟩, by simp only [List.mem_cons, true_or, or_true],
          lat_mem 13 inb_S1x16x512x384_S1x1x512x256_0_13_0_0 y h h3⟩
      · exact ⟨⟨Rect.unit ![0, 14, 0, 0] S1x1x512x256.size inb_S1x16x512x384_S1x1x512x256_0_14_0_0, a14⟩, by simp only [List.mem_cons, true_or, or_true],
          lat_mem 14 inb_S1x16x512x384_S1x1x512x256_0_14_0_0 y h h3⟩
      · exact ⟨⟨Rect.unit ![0, 15, 0, 0] S1x1x512x256.size inb_S1x16x512x384_S1x1x512x256_0_15_0_0, a15⟩, by simp only [List.mem_cons, true_or, or_true],
          lat_mem 15 inb_S1x16x512x384_S1x1x512x256_0_15_0_0 y h h3⟩
    · have hk : (y 1).val = 0 ∨ (y 1).val = 1 ∨ (y 1).val = 2 ∨ (y 1).val = 3 ∨ (y 1).val = 4 ∨ (y 1).val = 5 ∨ (y 1).val = 6 ∨ (y 1).val = 7 ∨ (y 1).val = 8 ∨ (y 1).val = 9 ∨ (y 1).val = 10 ∨ (y 1).val = 11 ∨ (y 1).val = 12 ∨ (y 1).val = 13 ∨ (y 1).val = 14 ∨ (y 1).val = 15 := by omega
      rcases hk with h | h | h | h | h | h | h | h | h | h | h | h | h | h | h | h
      · exact ⟨⟨Rect.unit ![0, 0, 0, 256] S1x1x512x128.size inb_S1x16x512x384_S1x1x512x128_0_0_0_256, r0⟩, by simp only [List.mem_cons, true_or, or_true],
          rope_mem 0 inb_S1x16x512x384_S1x1x512x128_0_0_0_256 y h h3⟩
      · exact ⟨⟨Rect.unit ![0, 1, 0, 256] S1x1x512x128.size inb_S1x16x512x384_S1x1x512x128_0_1_0_256, r1⟩, by simp only [List.mem_cons, true_or, or_true],
          rope_mem 1 inb_S1x16x512x384_S1x1x512x128_0_1_0_256 y h h3⟩
      · exact ⟨⟨Rect.unit ![0, 2, 0, 256] S1x1x512x128.size inb_S1x16x512x384_S1x1x512x128_0_2_0_256, r2⟩, by simp only [List.mem_cons, true_or, or_true],
          rope_mem 2 inb_S1x16x512x384_S1x1x512x128_0_2_0_256 y h h3⟩
      · exact ⟨⟨Rect.unit ![0, 3, 0, 256] S1x1x512x128.size inb_S1x16x512x384_S1x1x512x128_0_3_0_256, r3⟩, by simp only [List.mem_cons, true_or, or_true],
          rope_mem 3 inb_S1x16x512x384_S1x1x512x128_0_3_0_256 y h h3⟩
      · exact ⟨⟨Rect.unit ![0, 4, 0, 256] S1x1x512x128.size inb_S1x16x512x384_S1x1x512x128_0_4_0_256, r4⟩, by simp only [List.mem_cons, true_or, or_true],
          rope_mem 4 inb_S1x16x512x384_S1x1x512x128_0_4_0_256 y h h3⟩
      · exact ⟨⟨Rect.unit ![0, 5, 0, 256] S1x1x512x128.size inb_S1x16x512x384_S1x1x512x128_0_5_0_256, r5⟩, by simp only [List.mem_cons, true_or, or_true],
          rope_mem 5 inb_S1x16x512x384_S1x1x512x128_0_5_0_256 y h h3⟩
      · exact ⟨⟨Rect.unit ![0, 6, 0, 256] S1x1x512x128.size inb_S1x16x512x384_S1x1x512x128_0_6_0_256, r6⟩, by simp only [List.mem_cons, true_or, or_true],
          rope_mem 6 inb_S1x16x512x384_S1x1x512x128_0_6_0_256 y h h3⟩
      · exact ⟨⟨Rect.unit ![0, 7, 0, 256] S1x1x512x128.size inb_S1x16x512x384_S1x1x512x128_0_7_0_256, r7⟩, by simp only [List.mem_cons, true_or, or_true],
          rope_mem 7 inb_S1x16x512x384_S1x1x512x128_0_7_0_256 y h h3⟩
      · exact ⟨⟨Rect.unit ![0, 8, 0, 256] S1x1x512x128.size inb_S1x16x512x384_S1x1x512x128_0_8_0_256, r8⟩, by simp only [List.mem_cons, true_or, or_true],
          rope_mem 8 inb_S1x16x512x384_S1x1x512x128_0_8_0_256 y h h3⟩
      · exact ⟨⟨Rect.unit ![0, 9, 0, 256] S1x1x512x128.size inb_S1x16x512x384_S1x1x512x128_0_9_0_256, r9⟩, by simp only [List.mem_cons, true_or, or_true],
          rope_mem 9 inb_S1x16x512x384_S1x1x512x128_0_9_0_256 y h h3⟩
      · exact ⟨⟨Rect.unit ![0, 10, 0, 256] S1x1x512x128.size inb_S1x16x512x384_S1x1x512x128_0_10_0_256, r10⟩, by simp only [List.mem_cons, true_or, or_true],
          rope_mem 10 inb_S1x16x512x384_S1x1x512x128_0_10_0_256 y h h3⟩
      · exact ⟨⟨Rect.unit ![0, 11, 0, 256] S1x1x512x128.size inb_S1x16x512x384_S1x1x512x128_0_11_0_256, r11⟩, by simp only [List.mem_cons, true_or, or_true],
          rope_mem 11 inb_S1x16x512x384_S1x1x512x128_0_11_0_256 y h h3⟩
      · exact ⟨⟨Rect.unit ![0, 12, 0, 256] S1x1x512x128.size inb_S1x16x512x384_S1x1x512x128_0_12_0_256, r12⟩, by simp only [List.mem_cons, true_or, or_true],
          rope_mem 12 inb_S1x16x512x384_S1x1x512x128_0_12_0_256 y h h3⟩
      · exact ⟨⟨Rect.unit ![0, 13, 0, 256] S1x1x512x128.size inb_S1x16x512x384_S1x1x512x128_0_13_0_256, r13⟩, by simp only [List.mem_cons, true_or, or_true],
          rope_mem 13 inb_S1x16x512x384_S1x1x512x128_0_13_0_256 y h h3⟩
      · exact ⟨⟨Rect.unit ![0, 14, 0, 256] S1x1x512x128.size inb_S1x16x512x384_S1x1x512x128_0_14_0_256, r14⟩, by simp only [List.mem_cons, true_or, or_true],
          rope_mem 14 inb_S1x16x512x384_S1x1x512x128_0_14_0_256 y h h3⟩
      · exact ⟨⟨Rect.unit ![0, 15, 0, 256] S1x1x512x128.size inb_S1x16x512x384_S1x1x512x128_0_15_0_256, r15⟩, by simp only [List.mem_cons, true_or, or_true],
          rope_mem 15 inb_S1x16x512x384_S1x1x512x128_0_15_0_256 y h h3⟩

set_option maxHeartbeats 1600000 in
/-- The body reads its six blocks and leaves the whole result block. -/
theorem body (c : Dev nD) (i : grid0.Coords)
    (b0 : Memref sig .tc .vmem S512x1024 .bf16) (w0 : b0.IsWhole)
    (b1 : Memref sig .tc .vmem S1024x2048 .bf16) (w1 : b1.IsWhole)
    (b2 : Memref sig .tc .vmem S1024x2048 .bf16) (w2 : b2.IsWhole)
    (b3 : Memref sig .tc .vmem S16x128x256 .bf16) (w3 : b3.IsWhole)
    (b4 : Memref sig .tc .vmem S512x128 .f32) (w4 : b4.IsWhole)
    (b5 : Memref sig .tc .vmem S512x128 .f32) (w5 : b5.IsWhole)
    (b6 : Memref sig .tc .vmem S1x16x512x384 .bf16) (w6 : b6.IsWhole)
    (x0 : Vec F S512x1024 .bf16) (x1 : Vec F S1024x2048 .bf16) (x2 : Vec F S1024x2048 .bf16) (x3 : Vec F S16x128x256 .bf16) (x4 : Vec F S512x128 .f32) (x5 : Vec F S512x128 .f32) (E : Set ℕ) (K : PUnit → sProp 𝕄) :
    iprop(owns (c : Thread nD τ) b0 fullShare x0
        ∗ owns (c : Thread nD τ) b1 fullShare x1
        ∗ owns (c : Thread nD τ) b2 fullShare x2
        ∗ owns (c : Thread nD τ) b3 fullShare x3
        ∗ owns (c : Thread nD τ) b4 fullShare x4
        ∗ owns (c : Thread nD τ) b5 fullShare x5
        ∗ (∃ d, owns (c : Thread nD τ) b6 fullShare d)
        ∗ (iprop(owns (c : Thread nD τ) b0 fullShare x0
            ∗ owns (c : Thread nD τ) b1 fullShare x1
            ∗ owns (c : Thread nD τ) b2 fullShare x2
            ∗ owns (c : Thread nD τ) b3 fullShare x3
            ∗ owns (c : Thread nD τ) b4 fullShare x4
            ∗ owns (c : Thread nD τ) b5 fullShare x5
            ∗ owns (c : Thread nD τ) b6 fullShare (block (k0_pay2 x0 x1) x3 (k0_pay3 x0 x2) x4 x5)) -∗ K ⟨⟩))
      ⊢ wp frame (wpE (defs₀ (F := F)) Variants.none c none) E
        (cc0_q_latent i b0 w0 b1 w1 b2 w2 b3 w3 b4 w4 b5 w5 b6 w6) K := by
  simp only [cc0_q_latent_eq_skeleton]; unfold cc0_q_latent_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel k0_part15_skel k0_part16_skel
    k0_part17_skel k0_part18_skel k0_part19_skel k0_part20_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := w0.eq_unread hf0; obtain rfl := w1.eq_unread hf1; obtain rfl := w2.eq_unread hf2; obtain rfl := w3.eq_unread hf3; obtain rfl := w4.eq_unread hf4; obtain rfl := w5.eq_unread hf5
  sl_exec
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  iexists _; isplitr; swap; · iexact H6
  ipureintro
  rw [View.readAt_unit b3.view _ inb_S16x128x256_S1x128x256_0_0_0 rfl inb_S16x128x256_S1x128x256_0_0_0, View.readAt_unit b3.view _ inb_S16x128x256_S1x128x256_1_0_0 rfl inb_S16x128x256_S1x128x256_1_0_0,
    View.readAt_unit b3.view _ inb_S16x128x256_S1x128x256_2_0_0 rfl inb_S16x128x256_S1x128x256_2_0_0, View.readAt_unit b3.view _ inb_S16x128x256_S1x128x256_3_0_0 rfl inb_S16x128x256_S1x128x256_3_0_0,
    View.readAt_unit b3.view _ inb_S16x128x256_S1x128x256_4_0_0 rfl inb_S16x128x256_S1x128x256_4_0_0, View.readAt_unit b3.view _ inb_S16x128x256_S1x128x256_5_0_0 rfl inb_S16x128x256_S1x128x256_5_0_0,
    View.readAt_unit b3.view _ inb_S16x128x256_S1x128x256_6_0_0 rfl inb_S16x128x256_S1x128x256_6_0_0, View.readAt_unit b3.view _ inb_S16x128x256_S1x128x256_7_0_0 rfl inb_S16x128x256_S1x128x256_7_0_0]
  rw [View.readAt_unit b3.view _ inb_S16x128x256_S1x128x256_8_0_0 rfl inb_S16x128x256_S1x128x256_8_0_0, View.readAt_unit b3.view _ inb_S16x128x256_S1x128x256_9_0_0 rfl inb_S16x128x256_S1x128x256_9_0_0,
    View.readAt_unit b3.view _ inb_S16x128x256_S1x128x256_10_0_0 rfl inb_S16x128x256_S1x128x256_10_0_0, View.readAt_unit b3.view _ inb_S16x128x256_S1x128x256_11_0_0 rfl inb_S16x128x256_S1x128x256_11_0_0,
    View.readAt_unit b3.view _ inb_S16x128x256_S1x128x256_12_0_0 rfl inb_S16x128x256_S1x128x256_12_0_0, View.readAt_unit b3.view _ inb_S16x128x256_S1x128x256_13_0_0 rfl inb_S16x128x256_S1x128x256_13_0_0,
    View.readAt_unit b3.view _ inb_S16x128x256_S1x128x256_14_0_0 rfl inb_S16x128x256_S1x128x256_14_0_0, View.readAt_unit b3.view _ inb_S16x128x256_S1x128x256_15_0_0 rfl inb_S16x128x256_S1x128x256_15_0_0]
  rw [View.readAt_full b0.view, View.readAt_full b1.view, View.readAt_full b2.view, View.readAt_full b4.view, View.readAt_full b5.view, hf0, hf1, hf2, hf3, hf4, hf5]
  refine read_block b6.view f6 (k0_pay2 x0 x1) x3 (k0_pay3 x0 x2) x4 x5 ?_ ?_ ?_ ?_ ?_ ?_ ?_ ?_ ?_ ?_ ?_ ?_ ?_ ?_ ?_ ?_
    ?_ ?_ ?_ ?_ ?_ ?_ ?_ ?_ ?_ ?_ ?_ ?_ ?_ ?_ ?_ ?_ <;> rfl

/-! ## The proof data -/

variable (m : (ℓ : Loc nD τ sig) → Buf (Elt F) ℓ) (ρ : Dev nD → PrngReg)

/-- The result tile of point `t`. -/
def tile (c : Dev nD) (t : Fin cfg0.N) : Vec F S1x16x512x384 .bf16 :=
  block (k0_pay2 (iblk m c 0 t) (iblk m c 1 t)) (iblk m c 3 t) (k0_pay3 (iblk m c 0 t) (iblk m c 2 t)) (iblk m c 4 t) (iblk m c 5 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tile m c t
  Φ _ := Pipeline.ΦA spec0 c
  q _ := fullShare
  owed _ := 0

theorem dats_A (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = tile m c t := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  unfold tile
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body c (grid0.coords t) _ _ _ _ _ _ _ _ _ _ _ _ _ _ (iblk m c 0 t) (iblk m c 1 t) (iblk m c 2 t) (iblk m c 3 t)
    (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_at m c t) rfl .rfl fun _ => .rfl

/-! ## The run -/

set_option backward.isDefEq.respectTransparency.types false in
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- Every run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (run_main m ρ)))
    ((θ_run defs _ _).mono (fun _ h => h.2) (run_main m ρ))

/-- The run with the result array named. -/
theorem run : θ_run defs (onTc (τ := τ) (main (F := F))) ⟨m, fun _ => 0, ρ⟩ fun r => ∀ c : Dev nD,
      r.2.mem ((c : Thread nD τ).loc main_v37) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1.1 c).1 6, h.2.1 c⟩) (θ_run_and (run_main m ρ) (frame m ρ))

end Cert.Kernel8Ideal.Query

end
-- ==== Proof.QueryValue.lean ====
/-
  What the absorbed queries come to over the extended reals.
-/
module

public import proofs.«01_k».proof.Proof.QueryRun
public import proofs.«01_k».proof.Proof.Gen.Reference8Ideal.Run
public import Idealize.ShloMosaic.Lib.Pointwise
public import Idealize.ShloMosaic.Lib.Pipeline.Value
public import Idealize.ShloMosaic.Lib.StableHlo.Run

@[expose] public section

set_option maxRecDepth 16384

noncomputable section

namespace Cert.Kernel8Ideal.Query

open Cert.Kernel8Ideal Cert.Kernel8Ideal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-! ## The rotary tables -/

/-- The rotary frequencies: ten thousand to the power of minus twice the place over the width. -/
def freq : Vec Ideal S32 .f32 :=
  Host.powf (F := Ideal) (broadcastInDim S32 ![] bcast_S_S32 (constant (F := Ideal) S_ .f32 0x461C4000#32))
    (Host.divf (Host.negf (addf (broadcastInDim S32 ![] bcast_S_S32 (constant (F := Ideal) S_ .f32 0x00000000#32))
        (mulf (broadcastInDim S32 ![] bcast_S_S32 (constant (F := Ideal) S_ .f32 0x40000000#32)) (sitofp (F := Ideal) .f32 (iotaInDim S32 32 0)))))
      (broadcastInDim S32 ![] bcast_S_S32 (constant (F := Ideal) S_ .f32 0x42800000#32)))

/-- The angle of a position at a place of the first half. -/
def angle : Vec Ideal S2048x32 .f32 :=
  mulf (F := Ideal)
    (broadcastInDim S2048x32 ![0, 1] bcast_S2048x1_S2048x32_0_1
      (broadcastInDim S2048x1 ![0] bcast_S2048_S2048x1_0 (sitofp (F := Ideal) .f32 (iotaInDim S2048 32 0))))
    (broadcastInDim S2048x32 ![0, 1] bcast_S1x32_S2048x32_0_1 (broadcastInDim S1x32 ![1] bcast_S32_S1x32_1 freq))

def cosOf : Vec Ideal S2048x32 .f32 := Host.cos (F := Ideal) (φ := .f32) angle
def sinOf : Vec Ideal S2048x32 .f32 := Host.sin (F := Ideal) (φ := .f32) angle

/-- The table a half and a half make, twice over, as the call is given it. -/
def table (a b : Vec Ideal S2048x32 .f32) : Vec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x32, a⟩, ⟨S2048x32, b⟩] concatenates_S2048x32_S2048x32_S2048x64_d1)
      shapeCasts_S2048x64_S1x2048x1x64)) shapeCasts_S1x2048x2x64_S2048x128

def cosTable : Vec Ideal S2048x128 .f32 := table cosOf cosOf
def sinTable : Vec Ideal S2048x128 .f32 := table (Host.negf (F := Ideal) (φ := .f32) sinOf) sinOf

theorem table_first (a b : Vec Ideal S2048x32 .f32) (s : Fin 2048) (l : Fin 32) : table a b (ix2 s ⟨l.val, by omega⟩) = a (ix2 s l) := by
  have e : l.val % 64 = l.val := by omega
  pointwise [table]
  simp only [e, l.isLt, dif_pos]

theorem table_second (a b : Vec Ideal S2048x32 .f32) (s : Fin 2048) (l : Fin 32) :
    table a b (ix2 s ⟨32 + l.val, by omega⟩) = b (ix2 s l) := by
  have e : (32 + l.val) % 64 = 32 + l.val := by omega
  have n : ¬ 32 + l.val < 32 := by omega
  have d : 32 + l.val - 32 = l.val := by omega
  pointwise [table]
  simp only [e, n, d, dif_neg, not_false_eq_true]

theorem V_cos (c : Dev nD) : (V m c main_v22 : Vec Ideal S2048x128 .f32) = cosTable := by
  unfold V
  simp only [List.flatten_cons, List.flatten_nil, List.append_nil, hostOps0, hostOps0_1, hostOps0_2, List.cons_append, List.nil_append]
  after_results
  rfl

theorem V_sin (c : Dev nD) : (V m c main_v27 : Vec Ideal S2048x128 .f32) = sinTable := by
  unfold V
  simp only [List.flatten_cons, List.flatten_nil, List.append_nil, hostOps0, hostOps0_1, hostOps0_2, List.cons_append, List.nil_append]
  after_results
  rfl

/-! ## The weights as the call is given them -/

/-- The first 128 columns of every head. -/
def plain (w : Vec Ideal S1024x3072 .f32) : Vec Ideal S1024x2048 .bf16 :=
  truncf (F := Ideal) .bf16 (shapeCast S1024x2048 (extractStridedSlice S1024x16x128 ![0, 0, 0] (shapeCast S1024x16x192 w shapeCasts_S1024x3072_S1024x16x192)
    slices_S1024x16x192_S1024x16x128_0_0_0) shapeCasts_S1024x16x128_S1024x2048 : FVec Ideal S1024x2048 .f32) bitsLt_bf16_f32

/-- The last 64 columns of every head, and 64 of zeros. -/
def turning (w : Vec Ideal S1024x3072 .f32) : Vec Ideal S1024x2048 .bf16 :=
  truncf (F := Ideal) .bf16 (shapeCast S1024x2048 (pad S1024x16x128 ![0, 0, 0] ![0, 0, 64] ![0, 0, 0]
    (extractStridedSlice S1024x16x64 ![0, 0, 128] (shapeCast S1024x16x192 w shapeCasts_S1024x3072_S1024x16x192)
      slices_S1024x16x192_S1024x16x64_0_0_128) (sitofp (F := Ideal) .f32 (constantI S_ 32 0#32))
    pads_S1024x16x64_S1024x16x128_000_000_0640 h_S_) shapeCasts_S1024x16x128_S1024x2048 : FVec Ideal S1024x2048 .f32) bitsLt_bf16_f32

theorem plain_apply (w : Vec Ideal S1024x3072 .f32) (k : Fin 1024) (h : Fin 16) (n : Fin 128) :
    plain w (ix2 k ⟨h.val * 128 + n.val, by omega⟩) = w (ix2 k ⟨h.val * 192 + n.val, by omega⟩) := by
  pointwise [plain]

theorem turning_in (w : Vec Ideal S1024x3072 .f32) (k : Fin 1024) (h : Fin 16) (l : Fin 64) :
    turning w (ix2 k ⟨h.val * 128 + l.val, by omega⟩) = w (ix2 k ⟨h.val * 192 + (128 + l.val), by omega⟩) := by
  have e : (h.val * 128 + l.val) % 128 = l.val := by omega
  pointwise [turning]
  simp only [e, l.isLt, dif_pos]

theorem turning_out (w : Vec Ideal S1024x3072 .f32) (k : Fin 1024) (h : Fin 16) (l : Fin 64) :
    turning w (ix2 k ⟨h.val * 128 + (64 + l.val), by omega⟩) = (0 : EReal) := by
  have e : (h.val * 128 + (64 + l.val)) % 128 = 64 + l.val := by omega
  have n : ¬ 64 + l.val < 64 := by omega
  pointwise [turning]
  simp only [e, n, dif_neg, not_false_eq_true]
  show (((0#32 : BitVec 32).toInt : ℝ) : EReal) = 0
  simp

theorem V_plain (c : Dev nD) : (V m c main_v31 : Vec Ideal S1024x2048 .bf16) = plain (m ((c : Thread nD τ).loc main_arg1)) := by
  unfold V
  simp only [List.flatten_cons, List.flatten_nil, List.append_nil, hostOps0, hostOps0_1, hostOps0_2, List.cons_append, List.nil_append]
  after_results
  rfl

theorem V_turning (c : Dev nD) : (V m c main_v35 : Vec Ideal S1024x2048 .bf16) = turning (m ((c : Thread nD τ).loc main_arg1)) := by
  unfold V
  simp only [List.flatten_cons, List.flatten_nil, List.append_nil, hostOps0, hostOps0_1, hostOps0_2, List.cons_append, List.nil_append]
  after_results
  rfl

theorem V_mats (c : Dev nD) : (V m c main_v36 : Vec Ideal S16x128x256 .bf16) = (m ((c : Thread nD τ).loc main_arg2) : Vec Ideal S16x128x256 .f32) := by
  unfold V
  simp only [List.flatten_cons, List.flatten_nil, List.append_nil, hostOps0, hostOps0_1, hostOps0_2, List.cons_append, List.nil_append]
  after_results
  rfl

/-! ## The result -/

/-- The scale of the queries. -/
abbrev scale : EReal := Ideal.ofBits FTy.f32 0x3DD53B95#32

/-- A row of the latents against a column of a weight. -/
def product (a : Vec Ideal S8192x1024 .bf16) (w : Vec Ideal S1024x2048 .bf16) (r : Fin 8192) (j : Fin 2048) : EReal :=
  ∑ k : Fin 1024, a (ix2 r k) * w (ix2 k j)

/-- The place that a place of the last part is turned to. -/
def turn (l : Fin 128) : Fin 128 := ⟨if l.val % 64 < 32 then (l.val + 128 - 96) % 128 else (l.val + 128 - 32) % 128, by split <;> omega⟩

theorem turn_low (l : Fin 128) (hl : l.val % 64 < 32) : (turn l).val = (l.val + 128 - 96) % 128 := if_pos hl
theorem turn_high (l : Fin 128) (hl : ¬ l.val % 64 < 32) : (turn l).val = (l.val + 128 - 32) % 128 := if_neg hl

/-- The first part of a head at a row. -/
def latent (a : Vec Ideal S8192x1024 .bf16) (w : Vec Ideal S1024x3072 .f32) (u : Vec Ideal S16x128x256 .f32) (h : Fin 16) (r : Fin 8192)
    (j : Fin 256) : EReal :=
  (∑ n : Fin 128, product a (plain w) r ⟨h.val * 128 + n.val, by omega⟩ * u (ix3 h n j)) * scale

/-- The last part of a head at a position and its row. -/
def turned (a : Vec Ideal S8192x1024 .bf16) (w : Vec Ideal S1024x3072 .f32) (h : Fin 16) (s : Fin 2048) (r : Fin 8192) (l : Fin 128) : EReal :=
  (product a (turning w) r ⟨h.val * 128 + l.val, by omega⟩ * cosTable (ix2 s l)
    + product a (turning w) r ⟨h.val * 128 + (turn l).val, by omega⟩ * sinTable (ix2 s l)) * scale

/-- The result array. -/
def queries (a : Vec Ideal S8192x1024 .bf16) (w : Vec Ideal S1024x3072 .f32) (u : Vec Ideal S16x128x256 .f32) :
    Vec Ideal S4x16x2048x384 .bf16 := fun i =>
  have h0 : (i 0).val < 4 := (i 0).isLt
  have h2 : (i 2).val < 2048 := (i 2).isLt
  have h3 : (i 3).val < 384 := (i 3).isLt
  if h : (i 3).val < 256 then latent a w u (i 1) ⟨(i 0).val * 2048 + (i 2).val, by omega⟩ ⟨(i 3).val, h⟩
  else turned a w (i 1) (i 2) ⟨(i 0).val * 2048 + (i 2).val, by omega⟩ ⟨(i 3).val - 256, by omega⟩

/-- Point `t` is row block `t`, of batch `t / 4`. -/
theorem at_point : ∀ t : Fin cfg0.N,
    win0_0.index t 0 = t.val ∧ win0_0.index t 1 = 0
    ∧ win0_1.index t 0 = 0 ∧ win0_1.index t 1 = 0
    ∧ win0_2.index t 0 = 0 ∧ win0_2.index t 1 = 0
    ∧ win0_3.index t 0 = 0 ∧ win0_3.index t 1 = 0 ∧ win0_3.index t 2 = 0
    ∧ win0_4.index t 0 = t.val % 4 ∧ win0_4.index t 1 = 0
    ∧ win0_5.index t 0 = t.val % 4 ∧ win0_5.index t 1 = 0
    ∧ win0_6.index t 0 = t.val / 4 ∧ win0_6.index t 1 = 0
    ∧ win0_6.index t 2 = t.val % 4 ∧ win0_6.index t 3 = 0 := by decide +kernel

theorem read_0 (c : Dev nD) (t : Fin cfg0.N) (r : Fin 512) (k : Fin 1024) :
    (iblk m c 0 t : Vec Ideal S512x1024 .bf16) (ix2 r k)
      = (m ((c : Thread nD τ).loc main_arg0) : Vec Ideal S8192x1024 .bf16) (ix2 ⟨t.val * 512 + r.val, by have : t.val < 16 := t.isLt; omega⟩ k) := by
  show V m c main_arg0 (((cfg0.win 0).blk t).view.emb (ix2 r k)) = _
  rw [V_main_arg0]
  congr 1
  funext a; apply Fin.ext
  obtain ⟨h0, h1, -⟩ := at_point t
  match a with
  | 0 => show win0_0.index t 0 * 512 + 1 * r.val = _; rw [h0]; simp
  | 1 => show win0_0.index t 1 * 1024 + 1 * k.val = _; rw [h1]; simp

theorem read_1 (c : Dev nD) (t : Fin cfg0.N) (k : Fin 1024) (q : Fin 2048) :
    (iblk m c 1 t : Vec Ideal S1024x2048 .bf16) (ix2 k q) = plain (m ((c : Thread nD τ).loc main_arg1)) (ix2 k q) := by
  rw [← V_plain m c]
  show V m c main_v31 (((cfg0.win 1).blk t).view.emb (ix2 k q)) = _
  congr 1
  funext a; apply Fin.ext
  obtain ⟨-, -, h0, h1, -⟩ := at_point t
  match a with
  | 0 => show win0_1.index t 0 * 1024 + 1 * k.val = _; rw [h0]; simp
  | 1 => show win0_1.index t 1 * 2048 + 1 * q.val = _; rw [h1]; simp

theorem read_2 (c : Dev nD) (t : Fin cfg0.N) (k : Fin 1024) (q : Fin 2048) :
    (iblk m c 2 t : Vec Ideal S1024x2048 .bf16) (ix2 k q) = turning (m ((c : Thread nD τ).loc main_arg1)) (ix2 k q) := by
  rw [← V_turning m c]
  show V m c main_v35 (((cfg0.win 2).blk t).view.emb (ix2 k q)) = _
  congr 1
  funext a; apply Fin.ext
  obtain ⟨-, -, -, -, h0, h1, -⟩ := at_point t
  match a with
  | 0 => show win0_2.index t 0 * 1024 + 1 * k.val = _; rw [h0]; simp
  | 1 => show win0_2.index t 1 * 2048 + 1 * q.val = _; rw [h1]; simp

theorem read_3 (c : Dev nD) (t : Fin cfg0.N) (h : Fin 16) (n : Fin 128) (j : Fin 256) :
    (iblk m c 3 t : Vec Ideal S16x128x256 .bf16) (ix3 h n j)
      = (m ((c : Thread nD τ).loc main_arg2) : Vec Ideal S16x128x256 .f32) (ix3 h n j) := by
  rw [← V_mats m c]
  show V m c main_v36 (((cfg0.win 3).blk t).view.emb (ix3 h n j)) = _
  congr 1
  funext a; apply Fin.ext
  obtain ⟨-, -, -, -, -, -, h0, h1, h2, -⟩ := at_point t
  match a with
  | 0 => show win0_3.index t 0 * 16 + 1 * h.val = _; rw [h0]; simp
  | 1 => show win0_3.index t 1 * 128 + 1 * n.val = _; rw [h1]; simp
  | 2 => show win0_3.index t 2 * 256 + 1 * j.val = _; rw [h2]; simp

theorem read_4 (c : Dev nD) (t : Fin cfg0.N) (r : Fin 512) (l : Fin 128) :
    (iblk m c 4 t : Vec Ideal S512x128 .f32) (ix2 r l) = cosTable (ix2 ⟨t.val % 4 * 512 + r.val, by omega⟩ l) := by
  rw [← V_cos m c]
  show V m c main_v22 (((cfg0.win 4).blk t).view.emb (ix2 r l)) = _
  congr 1
  funext a; apply Fin.ext
  obtain ⟨-, -, -, -, -, -, -, -, -, h0, h1, -⟩ := at_point t
  match a with
  | 0 => show win0_4.index t 0 * 512 + 1 * r.val = _; rw [h0]; simp
  | 1 => show win0_4.index t 1 * 128 + 1 * l.val = _; rw [h1]; simp

theorem read_5 (c : Dev nD) (t : Fin cfg0.N) (r : Fin 512) (l : Fin 128) :
    (iblk m c 5 t : Vec Ideal S512x128 .f32) (ix2 r l) = sinTable (ix2 ⟨t.val % 4 * 512 + r.val, by omega⟩ l) := by
  rw [← V_sin m c]
  show V m c main_v27 (((cfg0.win 5).blk t).view.emb (ix2 r l)) = _
  congr 1
  funext a; apply Fin.ext
  obtain ⟨-, -, -, -, -, -, -, -, -, -, -, h0, h1, -⟩ := at_point t
  match a with
  | 0 => show win0_5.index t 0 * 512 + 1 * r.val = _; rw [h0]; simp
  | 1 => show win0_5.index t 1 * 128 + 1 * l.val = _; rw [h1]; simp

def result (c : Dev nD) : Vec Ideal S4x16x2048x384 .bf16 :=
  queries (m ((c : Thread nD τ).loc main_arg0)) (m ((c : Thread nD τ).loc main_arg1)) (m ((c : Thread nD τ).loc main_arg2))

/-! ## A tile -/

theorem lat_apply (o : Nat) (ho : o + 128 ≤ 2048) (hs : S512x2048.Slices ![0, o] S512x128) (q : FVec Ideal S512x2048 .bf16)
    (u : Vec Ideal S1x128x256 .bf16) (r : Fin 512) (j : Fin 256) :
    lat ![0, o] hs q u (ix4 0 0 r j) = ((∑ n : Fin 128, q (ix2 r ⟨o + n.val, by omega⟩) * u (ix3 0 n j)) * scale : EReal) := by
  pointwise [lat]

theorem mat_apply (u : Vec Ideal S16x128x256 .bf16) (h : Fin 16) (inb : ∀ a, (![h.val, 0, 0] : Fin 3 → ℕ) a + S1x128x256.size a ≤ S16x128x256.size a)
    (n : Fin 128) (j : Fin 256) : mat u ![h.val, 0, 0] inb (ix3 0 n j) = u (ix3 h n j) := by
  unfold mat VecWindow.window
  congr 1
  funext a; apply Fin.ext
  match a with
  | 0 => show h.val + 1 * 0 = h.val; omega
  | 1 => show 0 + 1 * n.val = n.val; omega
  | 2 => show 0 + 1 * j.val = j.val; omega

theorem head_lat (h : Fin 16) (o : Nat) (ho : o = h.val * 128) (hs : S512x2048.Slices ![0, o] S512x128) (q : FVec Ideal S512x2048 .bf16)
    (u : Vec Ideal S16x128x256 .bf16) (inb : ∀ a, (![h.val, 0, 0] : Fin 3 → ℕ) a + S1x128x256.size a ≤ S16x128x256.size a)
    (r : Fin 512) (j : Fin 256) :
    lat ![0, o] hs q (mat u ![h.val, 0, 0] inb) (ix4 0 0 r j)
      = ((∑ n : Fin 128, q (ix2 r ⟨h.val * 128 + n.val, by omega⟩) * u (ix3 h n j)) * scale : EReal) := by
  subst ho
  refine (lat_apply _ (by omega) hs q _ r j).trans ?_
  exact congrArg (fun x : EReal => x * scale) (Finset.sum_congr rfl fun n _ =>
    congrArg (fun x : EReal => q (ix2 r ⟨h.val * 128 + n.val, _⟩) * x) (mat_apply u h inb n j))

theorem latAt_apply (q : FVec Ideal S512x2048 .bf16) (u : Vec Ideal S16x128x256 .bf16) (h : Fin 16) (r : Fin 512) (j : Fin 256) :
    latAt q u h (ix4 0 0 r j) = ((∑ n : Fin 128, q (ix2 r ⟨h.val * 128 + n.val, by omega⟩) * u (ix3 h n j)) * scale : EReal) := by
  obtain ⟨h, hh⟩ := h
  match h, hh with
  | 0, _ => exact head_lat 0 0 rfl _ q u _ r j
  | 1, _ => exact head_lat 1 128 rfl _ q u _ r j
  | 2, _ => exact head_lat 2 256 rfl _ q u _ r j
  | 3, _ => exact head_lat 3 384 rfl _ q u _ r j
  | 4, _ => exact head_lat 4 512 rfl _ q u _ r j
  | 5, _ => exact head_lat 5 640 rfl _ q u _ r j
  | 6, _ => exact head_lat 6 768 rfl _ q u _ r j
  | 7, _ => exact head_lat 7 896 rfl _ q u _ r j
  | 8, _ => exact head_lat 8 1024 rfl _ q u _ r j
  | 9, _ => exact head_lat 9 1152 rfl _ q u _ r j
  | 10, _ => exact head_lat 10 1280 rfl _ q u _ r j
  | 11, _ => exact head_lat 11 1408 rfl _ q u _ r j
  | 12, _ => exact head_lat 12 1536 rfl _ q u _ r j
  | 13, _ => exact head_lat 13 1664 rfl _ q u _ r j
  | 14, _ => exact head_lat 14 1792 rfl _ q u _ r j
  | 15, _ => exact head_lat 15 1920 rfl _ q u _ r j
  | n + 16, hh => exact absurd hh (by omega)

/-- The lanes whose place within a half is below 32. -/
def lane (l : Fin 128) : BitVec 1 :=
  let p : BitVec 32 := Scalar.select (Scalar.cmpi .eq 64#32 0#32) 1#32 64#32
  let x : BitVec 32 := IntOp.remsi .vector (BitVec.ofNat 32 l.val) p
  IntOp.cmpi .slt (Scalar.select (IntOp.andi (IntOp.xori (IntOp.cmpi .slt x 0#32) (Scalar.cmpi .slt p 0#32)) (IntOp.cmpi .ne x 0#32))
    (IntOp.addi x p) x) 32#32

theorem lane_eq : ∀ l : Fin 128, lane l = if l.val % 64 < 32 then 1#1 else 0#1 := by decide +kernel

theorem rope_apply (o : Nat) (ho : o + 128 ≤ 2048) (hs : S512x2048.Slices ![0, o] S512x128) (q : FVec Ideal S512x2048 .f32)
    (cs sn : Vec Ideal S512x128 .f32) (r : Fin 512) (l : Fin 128) :
    rope ![0, o] hs q cs sn (ix4 0 0 r l)
      = ((q (ix2 r ⟨o + l.val, by omega⟩) * cs (ix2 r l) + q (ix2 r ⟨o + (turn l).val, by omega⟩) * sn (ix2 r l)) * scale : EReal) := by
  pointwise [rope, k0_pay15]
  change (_ * _ + Scalar.select (lane l) _ _ * _) * _ = _
  rw [lane_eq]
  by_cases hl : l.val % 64 < 32
  · simp only [turn_low l hl, if_pos hl]
    rfl
  · simp only [turn_high l hl, if_neg hl]
    rfl

theorem head_rope (h : Fin 16) (o : Nat) (ho : o = h.val * 128) (hs : S512x2048.Slices ![0, o] S512x128) (q : FVec Ideal S512x2048 .f32)
    (cs sn : Vec Ideal S512x128 .f32) (r : Fin 512) (l : Fin 128) :
    rope ![0, o] hs q cs sn (ix4 0 0 r l)
      = ((q (ix2 r ⟨h.val * 128 + l.val, by omega⟩) * cs (ix2 r l)
        + q (ix2 r ⟨h.val * 128 + (turn l).val, by omega⟩) * sn (ix2 r l)) * scale : EReal) := by
  subst ho
  exact rope_apply _ (by omega) hs q cs sn r l

theorem ropeAt_apply (q : FVec Ideal S512x2048 .f32) (cs sn : Vec Ideal S512x128 .f32) (h : Fin 16) (r : Fin 512) (l : Fin 128) :
    ropeAt q cs sn h (ix4 0 0 r l)
      = ((q (ix2 r ⟨h.val * 128 + l.val, by omega⟩) * cs (ix2 r l)
        + q (ix2 r ⟨h.val * 128 + (turn l).val, by omega⟩) * sn (ix2 r l)) * scale : EReal) := by
  obtain ⟨h, hh⟩ := h
  match h, hh with
  | 0, _ => exact head_rope 0 0 rfl _ q cs sn r l
  | 1, _ => exact head_rope 1 128 rfl _ q cs sn r l
  | 2, _ => exact head_rope 2 256 rfl _ q cs sn r l
  | 3, _ => exact head_rope 3 384 rfl _ q cs sn r l
  | 4, _ => exact head_rope 4 512 rfl _ q cs sn r l
  | 5, _ => exact head_rope 5 640 rfl _ q cs sn r l
  | 6, _ => exact head_rope 6 768 rfl _ q cs sn r l
  | 7, _ => exact head_rope 7 896 rfl _ q cs sn r l
  | 8, _ => exact head_rope 8 1024 rfl _ q cs sn r l
  | 9, _ => exact head_rope 9 1152 rfl _ q cs sn r l
  | 10, _ => exact head_rope 10 1280 rfl _ q cs sn r l
  | 11, _ => exact head_rope 11 1408 rfl _ q cs sn r l
  | 12, _ => exact head_rope 12 1536 rfl _ q cs sn r l
  | 13, _ => exact head_rope 13 1664 rfl _ q cs sn r l
  | 14, _ => exact head_rope 14 1792 rfl _ q cs sn r l
  | 15, _ => exact head_rope 15 1920 rfl _ q cs sn r l
  | n + 16, hh => exact absurd hh (by omega)

/-- The first product block of a point. -/
theorem first_apply (c : Dev nD) (t : Fin cfg0.N) (r : Fin 512) (q : Fin 2048) :
    (k0_pay2 (iblk m c 0 t) (iblk m c 1 t) : FVec Ideal S512x2048 .bf16) (ix2 r q)
      = product (m ((c : Thread nD τ).loc main_arg0)) (plain (m ((c : Thread nD τ).loc main_arg1)))
        ⟨t.val * 512 + r.val, by have : t.val < 16 := t.isLt; omega⟩ q := by
  pointwise [k0_pay2]
  simp only [read_0, read_1]
  rfl

/-- The second product block of a point. -/
theorem second_apply (c : Dev nD) (t : Fin cfg0.N) (r : Fin 512) (q : Fin 2048) :
    (k0_pay3 (iblk m c 0 t) (iblk m c 2 t) : FVec Ideal S512x2048 .f32) (ix2 r q)
      = product (m ((c : Thread nD τ).loc main_arg0)) (turning (m ((c : Thread nD τ).loc main_arg1)))
        ⟨t.val * 512 + r.val, by have : t.val < 16 := t.isLt; omega⟩ q := by
  pointwise [k0_pay3]
  simp only [read_0, read_2]
  rfl

theorem row_eq (t : Fin cfg0.N) (r : Fin 512) (h : t.val * 512 + r.val < 8192) (h' : t.val / 4 * 2048 + (t.val % 4 * 512 + r.val) < 8192) :
    (⟨t.val * 512 + r.val, h⟩ : Fin 8192) = ⟨t.val / 4 * 2048 + (t.val % 4 * 512 + r.val), h'⟩ :=
  Fin.ext (show t.val * 512 + r.val = t.val / 4 * 2048 + (t.val % 4 * 512 + r.val) by omega)

/-- The tile a point computes is the result's at the tile's place. -/
theorem tile_at (c : Dev nD) (t : Fin cfg0.N) (h : Fin 16) (r : Fin 512) (l : Fin 384) :
    (tile m c t : Vec Ideal S1x16x512x384 .bf16) (ix4 0 h r l)
      = result m c (ix4 ⟨t.val / 4, by have : t.val < 16 := t.isLt; omega⟩ h ⟨t.val % 4 * 512 + r.val, by omega⟩ l) := by
  have ht : t.val < 16 := t.isLt
  obtain ⟨l, hl⟩ := l
  by_cases hh : l < 256
  · refine (dif_pos hh).trans ?_
    refine Eq.trans ?_ (dif_pos hh).symm
    refine (latAt_apply _ _ h r ⟨l, hh⟩).trans ?_
    simp only [first_apply, read_3]
    show _ = latent _ _ _ h ⟨t.val / 4 * 2048 + (t.val % 4 * 512 + r.val), _⟩ ⟨l, hh⟩
    exact congrArg (fun R : Fin 8192 => latent _ _ _ h R ⟨l, hh⟩) (row_eq t r (by omega) (by omega))
  · refine (dif_neg hh).trans ?_
    refine Eq.trans ?_ (dif_neg hh).symm
    refine (ropeAt_apply _ _ _ h r ⟨l - 256, by omega⟩).trans ?_
    rw [second_apply, second_apply, read_4, read_5]
    show _ = turned _ _ h ⟨t.val % 4 * 512 + r.val, _⟩ ⟨t.val / 4 * 2048 + (t.val % 4 * 512 + r.val), _⟩ ⟨l - 256, _⟩
    exact congrArg (fun R : Fin 8192 => turned _ _ h ⟨t.val % 4 * 512 + r.val, by omega⟩ R ⟨l - 256, by omega⟩) (row_eq t r (by omega) (by omega))

theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after_6]
  funext y
  obtain ⟨-, -, -, -, -, -, -, -, -, -, -, -, -, e0, e1, e2, e3⟩ := at_point t
  have y0 : (y 0).val < 1 := (y 0).isLt
  have ht : t.val < 16 := t.isLt
  have ey : y = ix4 0 (y 1) (y 2) (y 3) := by
    funext a; apply Fin.ext
    match a with
    | 0 => show (y 0).val = 0; omega
    | 1 => rfl
    | 2 => rfl
    | 3 => rfl
  show (tile m c t : Vec Ideal S1x16x512x384 .bf16) y = result m c (((cfg0.win 6).blk t).view.emb y)
  refine (congrArg (tile m c t : Vec Ideal S1x16x512x384 .bf16) ey).trans ?_
  refine (tile_at m c t (y 1) (y 2) (y 3)).trans ?_
  congr 1
  funext a; apply Fin.ext
  match a with
  | 0 => show t.val / 4 = win0_6.index t 0 * 1 + 1 * (y 0).val; rw [e0]; omega
  | 1 => show (y 1).val = win0_6.index t 1 * 16 + 1 * (y 1).val; rw [e1]; omega
  | 2 => show t.val % 4 * 512 + (y 2).val = win0_6.index t 2 * 512 + 1 * (y 2).val; rw [e2]; omega
  | 3 => show (y 3).val = win0_6.index t 3 * 384 + 1 * (y 3).val; rw [e3]; omega

theorem mem_blk (t : Fin cfg0.N) (i : S4x16x2048x384.Idx) :
    i ∈ ((cfg0.win 6).blk t).view.set ↔ ∀ a : Fin 4, win0_6.index t a * S1x16x512x384.size a ≤ (i a).val
      ∧ (i a).val < win0_6.index t a * S1x16x512x384.size a + S1x16x512x384.size a := by
  show i ∈ ((View.whole main_v37).slice (win0_6.rect t)).set ↔ _
  rw [View.set_slice_whole, Rect.mem_set_unit]
  exact Iff.rfl

theorem cover (i : S4x16x2048x384.Idx) : ∃ t : Fin cfg0.N, (cfg0.win 6).flush t = true ∧ i ∈ ((cfg0.win 6).blk t).view.set := by
  have h0 : (i 0).val < 4 := (i 0).isLt
  have h1 : (i 1).val < 16 := (i 1).isLt
  have h2 : (i 2).val < 2048 := (i 2).isLt
  have h3 : (i 3).val < 384 := (i 3).isLt
  let t : Fin cfg0.N := ⟨(i 0).val * 4 + (i 2).val / 512, show _ < 16 by omega⟩
  have ht : t.val = (i 0).val * 4 + (i 2).val / 512 := rfl
  refine ⟨t, flush0_6 t, (mem_blk t i).2 ?_⟩
  obtain ⟨-, -, -, -, -, -, -, -, -, -, -, -, -, e0, e1, e2, e3⟩ := at_point t
  intro a
  match a with
  | 0 => rw [show win0_6.index t 0 = _ from e0]; show _ * 1 ≤ (i 0).val ∧ (i 0).val < _ * 1 + 1; omega
  | 1 => rw [show win0_6.index t 1 = _ from e1]; show _ * 16 ≤ (i 1).val ∧ (i 1).val < _ * 16 + 16; omega
  | 2 => rw [show win0_6.index t 2 = _ from e2]; show _ * 512 ≤ (i 2).val ∧ (i 2).val < _ * 512 + 512; omega
  | 3 => rw [show win0_6.index t 3 = _ from e3]; show _ * 384 ≤ (i 3).val ∧ (i 3).val < _ * 384 + 384; omega

theorem final (c : Dev nD) : (dats m 0 c).arrAt 6 cfg0.N = result m c :=
  (dats m 0 c).arrAt_eq_of_cover 6 (result m c) (fun t _ => flushed_eq m c t) cover

end Cert.Kernel8Ideal.Query

end
-- ==== Proof.QueryReference.lean ====
/-
  The absorbed queries: the reference takes one product and turns the two halves of a head's last 64 columns apart; the kernel takes
  two products, the second against a weight padded with zeros, and turns its whole width.
-/
module

public import proofs.«01_k».proof.Proof.QueryValue

@[expose] public section

set_option maxRecDepth 16384

noncomputable section

open Idealize.ShloMosaic Idealize.ShloMosaic.TcCoe Idealize.ShloMosaic.Tactic
open Idealize.SL.Sem

namespace Cert.Reference8Ideal.Query

open Cert.Reference8Ideal Cert.Reference8Ideal.Gen

/-- The product, in its full width. -/
def product (a : Vec Ideal S8192x1024 .bf16) (w : Vec Ideal S1024x3072 .f32) : Vec Ideal S8192x3072 .f32 :=
  Host.dotGeneral (F := Ideal) (φ₁ := .f32) (φ₂ := .f32) dot_S8192x1024_S1024x3072_S8192x3072_1_0_0_1_n_n none
    (extf .f32 a bitsLt_bf16_f32 : FVec Ideal S8192x1024 .f32) w

/-- The first 128 columns of each head against the head's matrix. -/
def absorbed (p : Vec Ideal S4x2048x16x192 .f32) (u : Vec Ideal S16x128x256 .f32) : FVec Ideal S4x2048x16x256 .f32 :=
  transpose S4x2048x16x256 [2, 3, 0, 1]
    (Host.dotGeneral (F := Ideal) (φ₁ := .f32) (φ₂ := .f32) dot_S16x128x256_S4x2048x16x128_S16x256x4x2048_1_3_2_01_0_2 none u
      (extractStridedSlice S4x2048x16x128 ![0, 0, 0, 0] p slices_S4x2048x16x192_S4x2048x16x128_0_0_0_0 : FVec Ideal S4x2048x16x128 .f32))
    transposes_S16x256x4x2048_S4x2048x16x256_2_3_0_1

/-- A table along the positions, for every batch and head. -/
def along (t : Vec Ideal S2048x32 .f32) : FVec Ideal S4x2048x16x32 .f32 :=
  broadcastInDim S4x2048x16x32 ![0, 1, 2, 3] bcast_S1x2048x1x32_S4x2048x16x32_0_1_2_3 (shapeCast S1x2048x1x32 t shapeCasts_S2048x32_S1x2048x1x32)

/-- The first and the second half of a head's last 64 columns. -/
def half1 (p : Vec Ideal S4x2048x16x192 .f32) : FVec Ideal S4x2048x16x32 .f32 :=
  extractStridedSlice S4x2048x16x32 ![0, 0, 0, 128] p slices_S4x2048x16x192_S4x2048x16x32_0_0_0_128
def half2 (p : Vec Ideal S4x2048x16x192 .f32) : FVec Ideal S4x2048x16x32 .f32 :=
  extractStridedSlice S4x2048x16x32 ![0, 0, 0, 160] p slices_S4x2048x16x192_S4x2048x16x32_0_0_0_160

/-- The three parts side by side, scaled, 64 zeros after them, the heads before the positions. -/
def assembled (x : FVec Ideal S4x2048x16x256 .f32) (y z : FVec Ideal S4x2048x16x32 .f32) : Vec Ideal S4x16x2048x384 .bf16 :=
  truncf .bf16 (transpose S4x16x2048x384 [0, 2, 1, 3]
    (pad S4x2048x16x384 ![0, 0, 0, 0] ![0, 0, 0, 64] ![0, 0, 0, 0]
      (mulf (concatenate S4x2048x16x320 3 [⟨S4x2048x16x256, x⟩, ⟨S4x2048x16x32, y⟩, ⟨S4x2048x16x32, z⟩]
          concatenates_S4x2048x16x256_S4x2048x16x32_S4x2048x16x32_S4x2048x16x320_d3 : FVec Ideal S4x2048x16x320 .f32)
        (broadcastInDim S4x2048x16x320 ![] bcast_S_S4x2048x16x320 (constant (F := Ideal) S_ .f32 0x3DD53B95#32)))
      (sitofp (F := Ideal) .f32 (constantI S_ 32 0#32)) pads_S4x2048x16x320_S4x2048x16x384_000_000_000_0640 h_S_ : FVec Ideal S4x2048x16x384 .f32)
    transposes_S4x2048x16x384_S4x16x2048x384_0_2_1_3 : FVec Ideal S4x16x2048x384 .f32) bitsLt_bf16_f32

/-- The reference's result from the product, the matrices and the two half tables. -/
def queries (q : Vec Ideal S8192x3072 .f32) (u : Vec Ideal S16x128x256 .f32) (cs sn : Vec Ideal S2048x32 .f32) : Vec Ideal S4x16x2048x384 .bf16 :=
  let p : FVec Ideal S4x2048x16x192 .f32 := shapeCast S4x2048x16x192 q shapeCasts_S8192x3072_S4x2048x16x192
  assembled (absorbed p u) (subf (mulf (half1 p) (along cs)) (mulf (half2 p) (along sn)))
    (addf (mulf (half2 p) (along cs)) (mulf (half1 p) (along sn)))

theorem result_eq (m : (ℓ : Loc nD τ sig) → Buf (Elt Ideal) ℓ) (c : Dev nD) :
    Cert.Reference8Ideal.Value.res_main_v44 (F := Ideal) m c
      = queries (product (m ((c.tc : Thread nD τ).loc main_arg0)) (m ((c.tc : Thread nD τ).loc main_arg1)))
        (m ((c.tc : Thread nD τ).loc main_arg2)) Cert.Kernel8Ideal.Query.cosOf Cert.Kernel8Ideal.Query.sinOf := rfl

/-- An entry of the product. -/
def entry (a : Vec Ideal S8192x1024 .bf16) (w : Vec Ideal S1024x3072 .f32) (r : Fin 8192) (j : Fin 3072) : EReal :=
  ∑ k : Fin 1024, a (ix2 r k) * w (ix2 k j)

theorem product_apply (a : Vec Ideal S8192x1024 .bf16) (w : Vec Ideal S1024x3072 .f32) (r : Fin 8192) (j : Fin 3072) :
    product a w (ix2 r j) = entry a w r j := by
  pointwise [product]
  rfl

variable (q : Vec Ideal S8192x3072 .f32) (u : Vec Ideal S16x128x256 .f32) (cs sn : Vec Ideal S2048x32 .f32) (b : Fin 4) (h : Fin 16)
  (s : Fin 2048)

theorem queries_first (j : Fin 256) : queries q u cs sn (ix4 b h s ⟨j.val, by omega⟩)
    = ((∑ n : Fin 128, u (ix3 h n j) * q (ix2 ⟨b.val * 2048 + s.val, by omega⟩ ⟨h.val * 192 + n.val, by omega⟩))
      * Cert.Kernel8Ideal.Query.scale : EReal) := by
  have e : j.val < 320 := by omega
  pointwise [queries, assembled, absorbed]
  simp only [dif_pos e, dif_pos j.isLt]

theorem queries_second (l : Fin 32) : queries q u cs sn (ix4 b h s ⟨256 + l.val, by omega⟩)
    = ((q (ix2 ⟨b.val * 2048 + s.val, by omega⟩ ⟨h.val * 192 + (128 + l.val), by omega⟩) * cs (ix2 s l)
      - q (ix2 ⟨b.val * 2048 + s.val, by omega⟩ ⟨h.val * 192 + (160 + l.val), by omega⟩) * sn (ix2 s l))
      * Cert.Kernel8Ideal.Query.scale : EReal) := by
  pointwise [queries, assembled, half1, half2, along]
  exact dif_pos (show 256 + l.val < 320 by omega)

theorem queries_third (l : Fin 32) : queries q u cs sn (ix4 b h s ⟨288 + l.val, by omega⟩)
    = ((q (ix2 ⟨b.val * 2048 + s.val, by omega⟩ ⟨h.val * 192 + (160 + l.val), by omega⟩) * cs (ix2 s l)
      + q (ix2 ⟨b.val * 2048 + s.val, by omega⟩ ⟨h.val * 192 + (128 + l.val), by omega⟩) * sn (ix2 s l))
      * Cert.Kernel8Ideal.Query.scale : EReal) := by
  pointwise [queries, assembled, half1, half2, along]
  have p : 288 + l.val < 320 := by omega
  have n : ¬ 288 + l.val < 256 := by omega
  have n' : ¬ 288 + l.val - 256 < 32 := by omega
  have d : 288 + l.val - 256 - 32 = l.val := by omega
  simp only [p, n, n', d, dif_pos, dif_neg, not_false_eq_true]

theorem queries_fourth (l : Fin 64) : queries q u cs sn (ix4 b h s ⟨320 + l.val, by omega⟩) = (0 : EReal) := by
  pointwise [queries, assembled]
  show (((0#32 : BitVec 32).toInt : ℝ) : EReal) = 0
  simp

end Cert.Reference8Ideal.Query

namespace Cert.Proof.Query

open Cert.Kernel8Ideal.Query Cert.Reference8Ideal.Query

variable (a : Vec Ideal Cert.Kernel8Ideal.S8192x1024 .bf16) (w : Vec Ideal Cert.Kernel8Ideal.S1024x3072 .f32)
  (u : Vec Ideal Cert.Kernel8Ideal.S16x128x256 .f32) (b : Fin 4) (h : Fin 16) (s : Fin 2048)

theorem product_plain (r : Fin 8192) (n : Fin 128) : Cert.Kernel8Ideal.Query.product a (plain w) r ⟨h.val * 128 + n.val, by omega⟩
    = entry a w r ⟨h.val * 192 + n.val, by omega⟩ :=
  Finset.sum_congr rfl fun k _ => congrArg (fun x : EReal => a (ix2 r k) * x) (plain_apply w k h n)

theorem product_in (r : Fin 8192) (l : Nat) (hl : l < 64) :
    Cert.Kernel8Ideal.Query.product a (turning w) r ⟨h.val * 128 + l, by omega⟩ = entry a w r ⟨h.val * 192 + (128 + l), by omega⟩ :=
  Finset.sum_congr rfl fun k _ => congrArg (fun x : EReal => a (ix2 r k) * x) (turning_in w k h ⟨l, hl⟩)

theorem product_out (r : Fin 8192) (l : Nat) (hl : l < 128) (h64 : 64 ≤ l) :
    Cert.Kernel8Ideal.Query.product a (turning w) r ⟨h.val * 128 + l, by omega⟩ = 0 := by
  obtain ⟨d, rfl⟩ : ∃ d, l = 64 + d := ⟨l - 64, by omega⟩
  exact Finset.sum_eq_zero fun k _ => (congrArg (fun x : EReal => a (ix2 r k) * x) (turning_out w k h ⟨d, by omega⟩)).trans (mul_zero _)

/-- The two ways of assembling a query agree. -/
theorem agree (l : Fin 384) : Cert.Reference8Ideal.Query.queries (Cert.Reference8Ideal.Query.product a w) u cosOf sinOf (ix4 b h s l)
    = Cert.Kernel8Ideal.Query.queries a w u (ix4 b h s l) := by
  obtain ⟨l, hl⟩ := l
  by_cases h1 : l < 256
  · refine Eq.trans ?_ (dif_pos h1).symm
    refine (queries_first _ u cosOf sinOf b h s ⟨l, h1⟩).trans ?_
    refine congrArg (fun x : EReal => x * scale) (Finset.sum_congr rfl fun n _ => ?_)
    rw [Cert.Reference8Ideal.Query.product_apply, ← product_plain, mul_comm]
    rfl
  refine Eq.trans ?_ (dif_neg h1).symm
  show _ = turned a w h s ⟨b.val * 2048 + s.val, by omega⟩ ⟨l - 256, by omega⟩
  by_cases h2 : l < 288
  · obtain ⟨d, rfl⟩ : ∃ d, l = 256 + d := ⟨l - 256, by omega⟩
    refine (queries_second _ u cosOf sinOf b h s ⟨d, by omega⟩).trans ?_
    have e : (⟨256 + d - 256, by omega⟩ : Fin 128) = ⟨d, by omega⟩ := Fin.ext (by show 256 + d - 256 = d; omega)
    rw [e]
    refine congrArg (fun x : EReal => x * scale) ?_
    have et : (turn ⟨d, by omega⟩).val = 32 + d := (turn_low _ (show d % 64 < 32 by omega)).trans (show (d + 128 - 96) % 128 = 32 + d by omega)
    rw [Cert.Reference8Ideal.Query.product_apply, Cert.Reference8Ideal.Query.product_apply, sub_eq_add_neg, ← mul_neg]
    simp only [et]
    rw [product_in a w h _ d (by omega), product_in a w h _ (32 + d) (by omega)]
    unfold cosTable sinTable
    rw [table_first _ _ s ⟨d, by omega⟩, table_first _ _ s ⟨d, by omega⟩]
    simp only [← Nat.add_assoc]
    rfl
  by_cases h3 : l < 320
  · obtain ⟨d, rfl⟩ : ∃ d, l = 288 + d := ⟨l - 288, by omega⟩
    refine (queries_third _ u cosOf sinOf b h s ⟨d, by omega⟩).trans ?_
    have e : (⟨288 + d - 256, by omega⟩ : Fin 128) = ⟨32 + d, by omega⟩ := Fin.ext (by show 288 + d - 256 = 32 + d; omega)
    rw [e]
    refine congrArg (fun x : EReal => x * scale) ?_
    have et : (turn ⟨32 + d, by omega⟩).val = d :=
      (turn_high _ (show ¬ (32 + d) % 64 < 32 by omega)).trans (show (32 + d + 128 - 32) % 128 = d by omega)
    rw [Cert.Reference8Ideal.Query.product_apply, Cert.Reference8Ideal.Query.product_apply]
    simp only [et]
    rw [product_in a w h _ d (by omega), product_in a w h _ (32 + d) (by omega)]
    unfold cosTable sinTable
    rw [table_second _ _ s ⟨d, by omega⟩, table_second _ _ s ⟨d, by omega⟩]
    simp only [← Nat.add_assoc]
  · obtain ⟨d, rfl⟩ : ∃ d, l = 320 + d := ⟨l - 320, by omega⟩
    refine (queries_fourth _ u cosOf sinOf b h s ⟨d, by omega⟩).trans ?_
    have e : (⟨320 + d - 256, by omega⟩ : Fin 128) = ⟨64 + d, by omega⟩ := Fin.ext (by show 320 + d - 256 = 64 + d; omega)
    rw [e]
    have et : 64 ≤ (turn ⟨64 + d, by omega⟩).val := by
      by_cases hd : (64 + d) % 64 < 32
      · rw [turn_low _ hd]; show 64 ≤ (64 + d + 128 - 96) % 128; omega
      · rw [turn_high _ hd]; show 64 ≤ (64 + d + 128 - 32) % 128; omega
    unfold turned
    rw [product_out a w h _ (64 + d) (by omega) (by omega), product_out a w h _ _ (turn _).isLt et]
    simp only [zero_mul, add_zero]

end Cert.Proof.Query

end
-- ==== Proof.lean ====
/-
  The certificate: the gated merge of the two mixers, the memory cross-attention, the output
  projection, the projection to queries, keys and values, the projection to the narrow columns, the projection to
  the index queries, the absorbed queries and the combining of the experts' outputs with the last normalisation; each one's frames and its value.
-/
module

public import proofs.«01_k».proof.Defs
public import proofs.«01_k».proof.Proof.Gen.Kernel
public import proofs.«01_k».proof.Proof.Gen.Kernel2
public import proofs.«01_k».proof.Proof.Gen.Kernel3
public import proofs.«01_k».proof.Proof.Gen.Kernel4
public import proofs.«01_k».proof.Proof.Gen.Kernel5
public import proofs.«01_k».proof.Proof.Gen.Kernel6
public import proofs.«01_k».proof.Proof.Gen.Kernel7
public import proofs.«01_k».proof.Proof.Gen.Kernel8
public import proofs.«01_k».proof.Proof.Gen.Pre_dest_in_bounds
public import proofs.«01_k».proof.Proof.MergeValue
public import proofs.«01_k».proof.Proof.MemoryReference
public import proofs.«01_k».proof.Proof.OutValue
public import proofs.«01_k».proof.Proof.QkvValue
public import proofs.«01_k».proof.Proof.CombineValue
public import proofs.«01_k».proof.Proof.CombineReference
public import proofs.«01_k».proof.Proof.SmallReference
public import proofs.«01_k».proof.Proof.IndexReference
public import proofs.«01_k».proof.Proof.QueryReference
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.ShloMosaic.Tactic Idealize.SL.Sem

/-! ## The compiled program and the idealized one have the same text -/

set_option maxHeartbeats 1000000 in
theorem bodies_eq : Kernel.defs₀ (F := Bits) = KernelIdeal.defs₀ (F := Bits) := by
  unfold Kernel.defs₀ KernelIdeal.defs₀
  congr 1
  funext l a
  match l, a with
  | 0, (t, s) => rfl

theorem defs_eq : Kernel.defs (F := Bits) = KernelIdeal.defs (F := Bits) := by
  unfold Kernel.defs KernelIdeal.defs
  rw [bodies_eq]; rfl

/-- The compiled program keeps its arguments and its semaphores: the run of the shared text holds whatever the floats are. -/
theorem frame_Kernel : quiescent_Kernel := fun m ρ _ => by
  rw [show Kernel.defs (F := Bits) = KernelIdeal.defs (F := Bits) from defs_eq]
  exact Cert.KernelIdeal.Merge.frame (F := Bits) m ρ

theorem frame_KernelIdeal : quiescent_KernelIdeal := fun m ρ _ => Cert.KernelIdeal.Merge.frame (F := Ideal) m ρ

theorem frame_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The launch's merged array is the reference's, entry by entry. -/
theorem merge_algebraic : algebraic_KernelIdeal_ReferenceIdeal := by
  intro m ρ m' ρ' _ hagree
  refine ⟨_, Cert.KernelIdeal.Merge.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  refine Eq.trans ?_ (Cert.KernelIdeal.Merge.final m c).symm
  funext i
  idx_vars i
  pointwise [Cert.KernelIdeal.Merge.result, Cert.KernelIdeal.Merge.merged]
  unfold Ideal.logistic
  congr! 10 <;> apply Fin.ext <;> simp only <;> omega

/-! ## The memory cross-attention -/

set_option maxHeartbeats 1000000 in
theorem bodies_eq₂ : Kernel2.defs₀ (F := Bits) = Kernel2Ideal.defs₀ (F := Bits) := by
  unfold Kernel2.defs₀ Kernel2Ideal.defs₀
  congr 1
  funext l a
  match l, a with
  | 0, (t, s) => rfl

theorem defs_eq₂ : Kernel2.defs (F := Bits) = Kernel2Ideal.defs (F := Bits) := by
  unfold Kernel2.defs Kernel2Ideal.defs
  rw [bodies_eq₂]; rfl

theorem frame_Kernel2 : quiescent_Kernel2 := fun m ρ _ => by
  rw [show Kernel2.defs (F := Bits) = Kernel2Ideal.defs (F := Bits) from defs_eq₂]
  exact Cert.Kernel2Ideal.Gen.frame (F := Bits) m ρ

theorem frame_Kernel2Ideal : quiescent_Kernel2Ideal := fun m ρ _ => Cert.Kernel2Ideal.Gen.frame (F := Ideal) m ρ

theorem frame_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel's result and the plain attention's are the same function of the same arguments. -/
theorem memory_algebraic : algebraic_Kernel2Ideal_Reference2Ideal := by
  intro m ρ m' ρ' _ hagree
  refine ⟨_, (θ_run Cert.Kernel2Ideal.defs _ _).mono (fun _ h c => ⟨(h.1.1 c).1 6, h.2.1 c⟩)
    (Idealize.ShloMosaic.θ_run_and (Cert.Kernel2Ideal.Gen.run_main_quiescent (F := Ideal) m ρ) (Cert.Kernel2Ideal.Gen.frame (F := Ideal) m ρ)), ?_⟩
  refine (θ_run Cert.Reference2Ideal.defs _ _).mono (fun _ h c => ⟨?_, (h c).2⟩) (Cert.Reference2Ideal.Value.run (F := Ideal) m' ρ')
  rw [(h c).1]
  refine Eq.trans ?_ (Cert.Kernel2Ideal.Memory.final m c).symm
  funext i; idx_vars i
  refine (Cert.Reference2Ideal.Memory.result_apply m' c _ _).trans ?_
  obtain ⟨h0, h1, h2, h3, h4, h5⟩ := hagree c
  rw [h0, h1, h2, h3, h4, h5]
  rfl

/-! ## The output projection -/

set_option maxHeartbeats 1000000 in
theorem bodies_eq₃ : Kernel3.defs₀ (F := Bits) = Kernel3Ideal.defs₀ (F := Bits) := by
  unfold Kernel3.defs₀ Kernel3Ideal.defs₀
  congr 1
  funext l a
  match l, a with
  | 0, (t, s) => rfl

theorem defs_eq₃ : Kernel3.defs (F := Bits) = Kernel3Ideal.defs (F := Bits) := by
  unfold Kernel3.defs Kernel3Ideal.defs
  rw [bodies_eq₃]; rfl

theorem frame_Kernel3 : quiescent_Kernel3 := fun m ρ _ => by
  rw [show Kernel3.defs (F := Bits) = Kernel3Ideal.defs (F := Bits) from defs_eq₃]
  exact Cert.Kernel3Ideal.Out.frame (F := Bits) m ρ

theorem frame_Kernel3Ideal : quiescent_Kernel3Ideal := fun m ρ _ => Cert.Kernel3Ideal.Out.frame (F := Ideal) m ρ

theorem frame_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Both results are the product with the row added; they add in opposite orders. -/
theorem out_algebraic : algebraic_Kernel3Ideal_Reference3Ideal := by
  intro m ρ m' ρ' _ hagree
  refine ⟨_, Cert.Kernel3Ideal.Out.run (F := Ideal) m ρ, ?_⟩
  refine (θ_run Cert.Reference3Ideal.defs _ _).mono (fun _ h c => ⟨?_, (h c).2⟩) (Cert.Reference3Ideal.Value.run (F := Ideal) m' ρ')
  rw [(h c).1]; simp only [hagree c]
  refine Eq.trans ?_ (Cert.Kernel3Ideal.Out.final m c).symm
  funext i; idx_vars i
  pointwise [Cert.Kernel3Ideal.Out.result, Cert.Kernel3Ideal.Out.projected]
  exact add_comm _ _

/-! ## The projection to queries, keys and values -/

set_option maxHeartbeats 1000000 in
theorem bodies_eq₄ : Kernel4.defs₀ (F := Bits) = Kernel4Ideal.defs₀ (F := Bits) := by
  unfold Kernel4.defs₀ Kernel4Ideal.defs₀
  congr 1
  funext l a
  match l, a with
  | 0, (t, s) => rfl

theorem defs_eq₄ : Kernel4.defs (F := Bits) = Kernel4Ideal.defs (F := Bits) := by
  unfold Kernel4.defs Kernel4Ideal.defs
  rw [bodies_eq₄]; rfl

theorem frame_Kernel4 : quiescent_Kernel4 := fun m ρ _ => by
  rw [show Kernel4.defs (F := Bits) = Kernel4Ideal.defs (F := Bits) from defs_eq₄]
  exact Cert.Kernel4Ideal.Qkv.frame (F := Bits) m ρ

theorem frame_Kernel4Ideal : quiescent_Kernel4Ideal := fun m ρ _ => Cert.Kernel4Ideal.Qkv.frame (F := Ideal) m ρ

theorem frame_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference scales the queries' columns apart and joins them to the rest. -/
theorem qkv_algebraic : algebraic_Kernel4Ideal_Reference4Ideal := by
  intro m ρ m' ρ' _ hagree
  refine ⟨_, Cert.Kernel4Ideal.Qkv.run (F := Ideal) m ρ, ?_⟩
  refine (θ_run Cert.Reference4Ideal.defs _ _).mono (fun _ h c => ⟨?_, (h c).2⟩) (Cert.Reference4Ideal.Value.run (F := Ideal) m' ρ')
  rw [(h c).1]; simp only [hagree c]
  refine Eq.trans ?_ (Cert.Kernel4Ideal.Qkv.final m c).symm
  funext i; idx_vars i
  pointwise [Cert.Kernel4Ideal.Qkv.result]
  obtain ⟨h0, h1⟩ := hagree c
  rw [h0, h1]
  by_cases hi : i1.val < 2048
  · rw [dif_pos hi]; exact (Cert.Kernel4Ideal.Qkv.projected_query _ _ i0 i1 hi).symm
  · rw [dif_neg hi]
    refine Eq.trans (Finset.sum_congr rfl fun x _ => ?_) (Cert.Kernel4Ideal.Qkv.projected_rest _ _ i0 i1 hi).symm
    congr 2
    funext a; match a with
    | 0 => rfl
    | 1 => exact Fin.ext (show 2048 + (i1.val - 2048) = i1.val by omega)

/-! ## The combining of the experts' outputs and the last normalisation -/

set_option maxHeartbeats 1000000 in
theorem bodies_eq₅ : Kernel5.defs₀ (F := Bits) = Kernel5Ideal.defs₀ (F := Bits) := by
  unfold Kernel5.defs₀ Kernel5Ideal.defs₀
  congr 1
  funext l a
  match l, a with
  | 0, (t, s) => rfl

theorem defs_eq₅ : Kernel5.defs (F := Bits) = Kernel5Ideal.defs (F := Bits) := by
  unfold Kernel5.defs Kernel5Ideal.defs
  rw [bodies_eq₅]; rfl

theorem frame_Kernel5 : quiescent_Kernel5 := fun m ρ h => by
  rw [show Kernel5.defs (F := Bits) = Kernel5Ideal.defs (F := Bits) from defs_eq₅]
  exact (θ_run Cert.Kernel5Ideal.defs _ _).mono (fun _ h => ⟨fun c => (h.1 c).2, h.2⟩)
    (Cert.Kernel5Ideal.Combine.run (F := Bits) m ρ (Cert.Kernel5Ideal.Combine.inBounds_of (h 0)))

theorem frame_Kernel5Ideal : quiescent_Kernel5Ideal := fun m ρ h =>
  (θ_run Cert.Kernel5Ideal.defs _ _).mono (fun _ h => ⟨fun c => (h.1 c).2, h.2⟩)
    (Cert.Kernel5Ideal.Combine.run (F := Ideal) m ρ (Cert.Kernel5Ideal.Combine.inBounds_of (h 0)))

theorem frame_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference unpacks the words by shifts and masks, gathers whole rows and sums along a whole row. -/
theorem combine_algebraic : algebraic_Kernel5Ideal_Reference5Ideal := by
  intro m ρ m' ρ' hp hagree
  have hb := Cert.Kernel5Ideal.Combine.inBounds_of (hp 0)
  refine ⟨_, (θ_run Cert.Kernel5Ideal.defs _ _).mono (fun _ h => h.1) (Cert.Kernel5Ideal.Combine.run (F := Ideal) m ρ hb), ?_⟩
  refine (θ_run Cert.Reference5Ideal.defs _ _).mono (fun _ h c => ⟨?_, (h c).2⟩) (Cert.Reference5Ideal.Value.run (F := Ideal) m' ρ')
  rw [(h c).1]
  refine Eq.trans ?_ (Cert.Kernel5Ideal.Combine.final m c).symm
  obtain ⟨h0, h1, h2, h3, h4⟩ := hagree c
  refine (Cert.Reference5Ideal.Combine.result_combined m' c ?_).trans ?_
  · rw [h0]; exact (Cert.Kernel5Ideal.Combine.words_eq m c).symm ▸ hb
  · rw [h0, h1, h2, h3, h4]
    unfold Cert.Kernel5Ideal.Combine.result
    rw [← Cert.Kernel5Ideal.Combine.words_eq m c]; rfl

/-! ## The projection to the narrow columns -/

set_option maxHeartbeats 1000000 in
theorem bodies_eq₆ : Kernel6.defs₀ (F := Bits) = Kernel6Ideal.defs₀ (F := Bits) := by
  unfold Kernel6.defs₀ Kernel6Ideal.defs₀
  congr 1
  funext l a
  match l, a with
  | 0, (t, s) => rfl

theorem defs_eq₆ : Kernel6.defs (F := Bits) = Kernel6Ideal.defs (F := Bits) := by
  unfold Kernel6.defs Kernel6Ideal.defs
  rw [bodies_eq₆]; rfl

theorem frame_Kernel6 : quiescent_Kernel6 := fun m ρ _ => by
  rw [show Kernel6.defs (F := Bits) = Kernel6Ideal.defs (F := Bits) from defs_eq₆]
  exact Cert.Kernel6Ideal.Small.frame (F := Bits) m ρ

theorem frame_Kernel6Ideal : quiescent_Kernel6Ideal := fun m ρ _ => Cert.Kernel6Ideal.Small.frame (F := Ideal) m ρ

theorem frame_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The reference multiplies first and arranges the columns after. -/
theorem small_algebraic : algebraic_Kernel6Ideal_Reference6Ideal := by
  intro m ρ m' ρ' _ hagree
  refine ⟨_, Cert.Kernel6Ideal.Small.run (F := Ideal) m ρ, ?_⟩
  refine (θ_run Cert.Reference6Ideal.defs _ _).mono (fun _ h c => ⟨?_, (h c).2⟩) (Cert.Reference6Ideal.Value.run (F := Ideal) m' ρ')
  rw [(h c).1]; simp only [hagree c]
  refine Eq.trans ?_ (Cert.Kernel6Ideal.Small.final m c).symm
  obtain ⟨h0, h1⟩ := hagree c
  rw [h0, h1]
  funext i; idx_vars i
  exact Cert.Proof.Small.agree _ _ i0 i1

/-! ## The projection to the index queries -/

set_option maxHeartbeats 1000000 in
theorem bodies_eq₇ : Kernel7.defs₀ (F := Bits) = Kernel7Ideal.defs₀ (F := Bits) := by
  unfold Kernel7.defs₀ Kernel7Ideal.defs₀
  congr 1
  funext l a
  match l, a with
  | 0, (t, s) => rfl

theorem defs_eq₇ : Kernel7.defs (F := Bits) = Kernel7Ideal.defs (F := Bits) := by
  unfold Kernel7.defs Kernel7Ideal.defs
  rw [bodies_eq₇]; rfl

theorem frame_Kernel7 : quiescent_Kernel7 := fun m ρ _ => by
  rw [show Kernel7.defs (F := Bits) = Kernel7Ideal.defs (F := Bits) from defs_eq₇]
  exact Cert.Kernel7Ideal.IndexQ.frame (F := Bits) m ρ

theorem frame_Kernel7Ideal : quiescent_Kernel7Ideal := fun m ρ _ => Cert.Kernel7Ideal.IndexQ.frame (F := Ideal) m ρ

theorem frame_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The reference turns each head's halves apart. -/
theorem index_algebraic : algebraic_Kernel7Ideal_Reference7Ideal := by
  intro m ρ m' ρ' _ hagree
  refine ⟨_, Cert.Kernel7Ideal.IndexQ.run (F := Ideal) m ρ, ?_⟩
  refine (θ_run Cert.Reference7Ideal.defs _ _).mono (fun _ h c => ⟨?_, (h c).2⟩) (Cert.Reference7Ideal.Value.run (F := Ideal) m' ρ')
  rw [(h c).1]
  refine Eq.trans ?_ (Cert.Kernel7Ideal.IndexQ.final m c).symm
  refine (Cert.Reference7Ideal.IndexQ.result_eq m' c).trans ?_
  obtain ⟨h0, h1⟩ := hagree c
  rw [h0, h1]
  funext i; idx_vars i
  exact Cert.Proof.IndexQ.agree _ _ i0 i1 i2 i3

/-! ## The absorbed queries -/

set_option maxHeartbeats 1000000 in
theorem bodies_eq₈ : Kernel8.defs₀ (F := Bits) = Kernel8Ideal.defs₀ (F := Bits) := by
  unfold Kernel8.defs₀ Kernel8Ideal.defs₀
  congr 1
  funext l a
  match l, a with
  | 0, (t, s) => rfl

theorem defs_eq₈ : Kernel8.defs (F := Bits) = Kernel8Ideal.defs (F := Bits) := by
  unfold Kernel8.defs Kernel8Ideal.defs
  rw [bodies_eq₈]; rfl

set_option maxHeartbeats 4000000 in
theorem frame_Kernel8 : quiescent_Kernel8 := fun m ρ _ => by
  rw [show Kernel8.defs (F := Bits) = Kernel8Ideal.defs (F := Bits) from defs_eq₈]
  exact Cert.Kernel8Ideal.Query.frame (F := Bits) m ρ

theorem frame_Kernel8Ideal : quiescent_Kernel8Ideal := fun m ρ _ => Cert.Kernel8Ideal.Query.frame (F := Ideal) m ρ

theorem frame_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The reference takes one product, and turns the halves of each head's last 64 columns apart. -/
theorem query_algebraic : algebraic_Kernel8Ideal_Reference8Ideal := by
  intro m ρ m' ρ' _ hagree
  refine ⟨_, Cert.Kernel8Ideal.Query.run (F := Ideal) m ρ, ?_⟩
  refine (θ_run Cert.Reference8Ideal.defs _ _).mono (fun _ h c => ⟨?_, (h c).2⟩) (Cert.Reference8Ideal.Value.run (F := Ideal) m' ρ')
  rw [(h c).1]
  refine Eq.trans ?_ (Cert.Kernel8Ideal.Query.final m c).symm
  refine (Cert.Reference8Ideal.Query.result_eq m' c).trans ?_
  obtain ⟨h0, h1, h2⟩ := hagree c
  rw [h0, h1, h2]
  funext i; idx_vars i
  exact Cert.Proof.Query.agree _ _ _ i0 i1 i2 i3

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.Pre_dest_in_bounds.Gen.facts,
    frame_Kernel, frame_KernelIdeal, frame_ReferenceIdeal, frame_Kernel2, frame_Kernel2Ideal, frame_Reference2Ideal,
    frame_Kernel3, frame_Kernel3Ideal, frame_Reference3Ideal,
    frame_Kernel4, frame_Kernel4Ideal, frame_Reference4Ideal,
    frame_Kernel5, frame_Kernel5Ideal, frame_Reference5Ideal,
    frame_Kernel6, frame_Kernel6Ideal, frame_Reference6Ideal,
    frame_Kernel7, frame_Kernel7Ideal, frame_Reference7Ideal,
    frame_Kernel8, frame_Kernel8Ideal, frame_Reference8Ideal,
    (trivial : preserves_Kernel_KernelIdeal), merge_algebraic,
    (trivial : preserves_Kernel2_Kernel2Ideal), memory_algebraic,
    (trivial : preserves_Kernel3_Kernel3Ideal), out_algebraic,
    (trivial : preserves_Kernel4_Kernel4Ideal), qkv_algebraic,
    (trivial : preserves_Kernel5_Kernel5Ideal), combine_algebraic,
    (trivial : preserves_Kernel6_Kernel6Ideal), small_algebraic,
    (trivial : preserves_Kernel7_Kernel7Ideal), index_algebraic,
    (trivial : preserves_Kernel8_Kernel8Ideal), query_algebraic⟩

end Cert.Proof

end
